-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite_KernelIdeal [hPre_gates_finite_KernelIdeal : Cert.Pre_gates_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_gates_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite_ReferenceIdeal [hPre_gates_finite_ReferenceIdeal : Cert.Pre_gates_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_gates_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gates_finite_KernelIdeal [hKernelIdeal : Cert.KernelIdeal.Facts] [hPre_gates_finite_KernelIdeal : Cert.Pre_gates_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gates_finite_ReferenceIdeal [hReferenceIdeal : Cert.ReferenceIdeal.Facts] [hPre_gates_finite_ReferenceIdeal : Cert.Pre_gates_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_gates_finite_KernelIdeal [hKernelIdeal : Cert.KernelIdeal.Facts] [hReferenceIdeal : Cert.ReferenceIdeal.Facts] [hPre_gates_finite_KernelIdeal : Cert.Pre_gates_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 8]⟩ (Layout.meshBlock [2, 2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v215)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 1024]⟩ ⟨2, ![1024, 1024]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v215) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_gates_finite_KernelIdeal : Cert.Pre_gates_finite_KernelIdeal.Facts) (hPre_gates_finite_ReferenceIdeal : Cert.Pre_gates_finite_ReferenceIdeal.Facts),
    quiescent_Kernel (hKernel := hKernel)
    ∧ quiescent_KernelIdeal (hKernelIdeal := hKernelIdeal)
    ∧ quiescent_KernelIdeal_pre_gates_finite_KernelIdeal (hKernelIdeal := hKernelIdeal) (hPre_gates_finite_KernelIdeal := hPre_gates_finite_KernelIdeal)
    ∧ quiescent_ReferenceIdeal (hReferenceIdeal := hReferenceIdeal)
    ∧ quiescent_ReferenceIdeal_pre_gates_finite_ReferenceIdeal (hReferenceIdeal := hReferenceIdeal) (hPre_gates_finite_ReferenceIdeal := hPre_gates_finite_ReferenceIdeal)
    ∧ preserves_Kernel_KernelIdeal
    ∧ algebraic_KernelIdeal_ReferenceIdeal_pre_gates_finite_KernelIdeal (hKernelIdeal := hKernelIdeal) (hReferenceIdeal := hReferenceIdeal) (hPre_gates_finite_KernelIdeal := hPre_gates_finite_KernelIdeal)
-- ==== Pre_gates_finite_KernelIdeal.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S_ : Shape := ⟨0, ![]⟩

class Facts : Prop where
  bcast_S_S512x1024 : S_.BroadcastsInDim S512x1024 (![] : Fin 0 → Fin S512x1024.rank)
  bcast_S_S1024x4 : S_.BroadcastsInDim S1024x4 (![] : Fin 0 → Fin S1024x4.rank)

variable [Facts]

def fn {F : FTy → Type} [FloatOps F] (main_arg0 : FVec F S512x1024 .f32) (main_arg1 : FVec F S1024x4 .f32) (main_arg2 : FVec F S4x1024x2048 .f32) (main_arg3 : FVec F S4x2048x1024 .f32) : IVec S512x1024 1 × IVec S1024x4 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x4 .f32 := Host.absf main_arg1
  let main_cst_0 : FVec F S_ .f32 := constant S_ .f32 0x7F800000#32
  let main_v4 : FVec F S1024x4 .f32 := broadcastInDim S1024x4 ![] bcast_S_S1024x4 main_cst_0
  let main_v5 : IVec S1024x4 1 := cmpf .olt main_v3 main_v4
  (main_v2, main_v5)
-- ==== Pre_gates_finite_ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S_ : Shape := ⟨0, ![]⟩

class Facts : Prop where
  bcast_S_S1024x1024 : S_.BroadcastsInDim S1024x1024 (![] : Fin 0 → Fin S1024x1024.rank)
  bcast_S_S1024x8 : S_.BroadcastsInDim S1024x8 (![] : Fin 0 → Fin S1024x8.rank)

variable [Facts]

def fn {F : FTy → Type} [FloatOps F] (main_arg0 : FVec F S1024x1024 .f32) (main_arg1 : FVec F S1024x8 .f32) (main_arg2 : FVec F S8x1024x2048 .f32) (main_arg3 : FVec F S8x2048x1024 .f32) : IVec S1024x1024 1 × IVec S1024x8 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x8 .f32 := Host.absf main_arg1
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  (main_v2, main_v5)
-- ==== Kernel.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S2x1024x2048 : Shape := ⟨3, ![2, 1024, 2048]⟩
abbrev S2x2048x1024 : Shape := ⟨3, ![2, 2048, 1024]⟩
abbrev S256x1024 : Shape := ⟨2, ![256, 1024]⟩
abbrev S256x4 : Shape := ⟨2, ![256, 4]⟩
abbrev S7 : Shape := ⟨1, ![7]⟩
abbrev S8 : Shape := ⟨1, ![8]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S1x1024x1024 : Shape := ⟨3, ![1, 1024, 1024]⟩
abbrev S1024x1024 : Shape := ⟨2, ![1024, 1024]⟩
abbrev S512x4 : Shape := ⟨2, ![512, 4]⟩
abbrev S512x8 : Shape := ⟨2, ![512, 8]⟩
abbrev S512 : Shape := ⟨1, ![512]⟩
abbrev S512x1 : Shape := ⟨2, ![512, 1]⟩
abbrev S256x512 : Shape := ⟨2, ![256, 512]⟩
abbrev S256x2048 : Shape := ⟨2, ![256, 2048]⟩
abbrev S256x1 : Shape := ⟨2, ![256, 1]⟩

abbrev nBuf : Space → Nat
  | .hbm => 5
  | .vmem => 15
  | .smem => 0
  | _ => 0

abbrev bufTy : (tb : Table) → Fin (tcTables nBuf tb) → BufTy
  | .hbm, ⟨0, _⟩ => ⟨S512x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S512x1024, .f32⟩
  | .local _ .vmem, ⟨0, _⟩ => ⟨S512x1024, .f32⟩
  | .local _ .vmem, ⟨1, _⟩ => ⟨S1024x4, .f32⟩
  | .local _ .vmem, ⟨2, _⟩ => ⟨S512x1024, .f32⟩
  | .local _ .vmem, ⟨3, _⟩ => ⟨S2x1024x2048, .f32⟩
  | .local _ .vmem, ⟨4, _⟩ => ⟨S2x2048x1024, .f32⟩
  | .local _ .vmem, ⟨5, _⟩ => ⟨S1024x4, .f32⟩
  | .local _ .vmem, ⟨6, _⟩ => ⟨S256x1024, .bf16⟩
  | .local _ .vmem, ⟨7, _⟩ => ⟨S256x4, .f32⟩
  | .local _ .vmem, ⟨8, _⟩ => ⟨S256x4, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v64 : BitVec 32 := Scalar.muli v2 c4_i32_58
  let v65 : BitVec 32 := Scalar.addi c0_i32_59 v64
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_60 : BitVec 32 := 2#32
  let v66 : BitVec 32 := Scalar.muli v9 c2_i32_60
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v68 : BitVec 32 := Scalar.muli v8 c1_i32_61
  let v69 : BitVec 32 := Scalar.addi v67 v68
  v69.toNat
def k0_dev2 (d0 : Dev nD) : Nat :=
  let c0_i32_64 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_63 : BitVec 32 := 4#32
  let v70 : BitVec 32 := Scalar.muli v10 c4_i32_63
  let v71 : BitVec 32 := Scalar.addi c0_i32_64 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v72 : BitVec 32 := Scalar.muli v5 c2_i32_65
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v74 : BitVec 32 := Scalar.muli v8 c1_i32_66
  let v75 : BitVec 32 := Scalar.addi v73 v74
  v75.toNat
def k0_dev3 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v76 : BitVec 32 := Scalar.muli v2 c4_i32_68
  let v77 : BitVec 32 := Scalar.addi c0_i32_69 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v78 : BitVec 32 := Scalar.muli v5 c2_i32_70
  let v79 : BitVec 32 := Scalar.addi v77 v78
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_71 : BitVec 32 := 1#32
  let v80 : BitVec 32 := Scalar.muli v11 c1_i32_71
  let v81 : BitVec 32 := Scalar.addi v79 v80
  v81.toNat
def k0_dev4 (d0 : Dev nD) : Nat :=
  let c0_i32_74 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_73 : BitVec 32 := 4#32
  let v82 : BitVec 32 := Scalar.muli v12 c4_i32_73
  let v83 : BitVec 32 := Scalar.addi c0_i32_74 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v84 : BitVec 32 := Scalar.muli v5 c2_i32_75
  let v85 : BitVec 32 := Scalar.addi v83 v84
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_76 : BitVec 32 := 1#32
  let v86 : BitVec 32 := Scalar.muli v13 c1_i32_76
  let v87 : BitVec 32 := Scalar.addi v85 v86
  v87.toNat
def k0_cond1 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let true_78 : BitVec 1 := 1#1
  let v88 : BitVec 1 := Scalar.xori v14 true_78
  let v89 : BitVec 32 := Scalar.extui v88
  let c0_i32_81 : BitVec 32 := 0#32
  let v90 : BitVec 1 := Scalar.cmpi .ne v89 c0_i32_81
  v90

def k0_dev5 (d0 : Dev nD) : Nat :=
  let c0_i32_357 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_356 : BitVec 32 := 4#32
  let v361 : BitVec 32 := Scalar.muli v2 c4_i32_356
  let v362 : BitVec 32 := Scalar.addi c0_i32_357 v361
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_358 : BitVec 32 := 2#32
  let v363 : BitVec 32 := Scalar.muli v9 c2_i32_358
  let v364 : BitVec 32 := Scalar.addi v362 v363
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_359 : BitVec 32 := 1#32
  let v365 : BitVec 32 := Scalar.muli v8 c1_i32_359
  let v366 : BitVec 32 := Scalar.addi v364 v365
  v366.toNat
def k0_cond2 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let v91 : BitVec 32 := Scalar.extui v14
  let c0_i32_88 : BitVec 32 := 0#32
  let v92 : BitVec 1 := Scalar.cmpi .ne v91 c0_i32_88
  v92

def k0_off1 (d0 : Dev nD) : Fin 2 → Nat :=
  let c256_i32 : BitVec 32 := 256#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v361 : BitVec 32 := Scalar.muli c256_i32 v8
  let v362 : Index := Scalar.indexCast v361
  let c0_356 : Index := 0#32
  ![v362.toNat, 0]
def k0_dev6 (d0 : Dev nD) : Nat :=
  let c0_i32_360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_359 : BitVec 32 := 4#32
  let v369 : BitVec 32 := Scalar.muli v2 c4_i32_359
  let v370 : BitVec 32 := Scalar.addi c0_i32_360 v369
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_361 : BitVec 32 := 2#32
  let v371 : BitVec 32 := Scalar.muli v9 c2_i32_361
  let v372 : BitVec 32 := Scalar.addi v370 v371
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_362 : BitVec 32 := 1#32
  let v373 : BitVec 32 := Scalar.muli v8 c1_i32_362
  let v374 : BitVec 32 := Scalar.addi v372 v373
  v374.toNat
def k0_dev7 (d0 : Dev nD) : Nat :=
  let c0_i32_399 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_398 : BitVec 32 := 4#32
  let v472 : BitVec 32 := Scalar.muli v2 c4_i32_398
  let v473 : BitVec 32 := Scalar.addi c0_i32_399 v472
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_400 : BitVec 32 := 2#32
  let v474 : BitVec 32 := Scalar.muli v9 c2_i32_400
  let v475 : BitVec 32 := Scalar.addi v473 v474
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_401 : BitVec 32 := 1#32
  let v476 : BitVec 32 := Scalar.muli v8 c1_i32_401
  let v477 : BitVec 32 := Scalar.addi v475 v476
  v477.toNat
def k0_cond4 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let true_331 : BitVec 1 := 1#1
  let v353 : BitVec 1 := Scalar.xori v14 true_331
  let v354 : BitVec 32 := Scalar.extui v353
  let c0_i32_334 : BitVec 32 := 0#32
  let v355 : BitVec 1 := Scalar.cmpi .ne v354 c0_i32_334
  v355

def k0_dev8 (d0 : Dev nD) : Nat :=
  let c0_i32_359 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_358 : BitVec 32 := 4#32
  let v365 : BitVec 32 := Scalar.muli v2 c4_i32_358
  let v366 : BitVec 32 := Scalar.addi c0_i32_359 v365
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_360 : BitVec 32 := 2#32
  let v367 : BitVec 32 := Scalar.muli v9 c2_i32_360
  let v368 : BitVec 32 := Scalar.addi v366 v367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_361 : BitVec 32 := 1#32
  let v369 : BitVec 32 := Scalar.muli v8 c1_i32_361
  let v370 : BitVec 32 := Scalar.addi v368 v369
  v370.toNat
def k0_cond5 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let v356 : BitVec 32 := Scalar.extui v14
  let c0_i32_347 : BitVec 32 := 0#32
  let v357 : BitVec 1 := Scalar.cmpi .ne v356 c0_i32_347
  v357

def k0_dev9 (d0 : Dev nD) : Nat :=
  let c0_i32_365 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_364 : BitVec 32 := 4#32
  let v376 : BitVec 32 := Scalar.muli v10 c4_i32_364
  let v377 : BitVec 32 := Scalar.addi c0_i32_365 v376
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_366 : BitVec 32 := 2#32
  let v378 : BitVec 32 := Scalar.muli v5 c2_i32_366
  let v379 : BitVec 32 := Scalar.addi v377 v378
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_367 : BitVec 32 := 1#32
  let v380 : BitVec 32 := Scalar.muli v8 c1_i32_367
  let v381 : BitVec 32 := Scalar.addi v379 v380
  v381.toNat
def k0_dev10 (d0 : Dev nD) : Nat :=
  let c0_i32_369 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_368 : BitVec 32 := 4#32
  let v386 : BitVec 32 := Scalar.muli v12 c4_i32_368
  let v387 : BitVec 32 := Scalar.addi c0_i32_369 v386
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_370 : BitVec 32 := 2#32
  let v388 : BitVec 32 := Scalar.muli v5 c2_i32_370
  let v389 : BitVec 32 := Scalar.addi v387 v388
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_371 : BitVec 32 := 1#32
  let v390 : BitVec 32 := Scalar.muli v13 c1_i32_371
  let v391 : BitVec 32 := Scalar.addi v389 v390
  v391.toNat
def k0_dev11 (d0 : Dev nD) : Nat :=
  let c0_i32_373 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_372 : BitVec 32 := 4#32
  let v396 : BitVec 32 := Scalar.muli v2 c4_i32_372
  let v397 : BitVec 32 := Scalar.addi c0_i32_373 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_374 : BitVec 32 := 2#32
  let v398 : BitVec 32 := Scalar.muli v5 c2_i32_374
  let v399 : BitVec 32 := Scalar.addi v397 v398
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_375 : BitVec 32 := 1#32
  let v400 : BitVec 32 := Scalar.muli v11 c1_i32_375
  let v401 : BitVec 32 := Scalar.addi v399 v400
  v401.toNat
def k0_off2 (d0 : Dev nD) : Fin 2 → Nat :=
  let c256_i32 : BitVec 32 := 256#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v406 : BitVec 32 := Scalar.muli c256_i32 v8
  let v407 : Index := Scalar.indexCast v406
  let c0_376 : Index := 0#32
  ![v407.toNat, 0]
def k0_off3 (d0 : Dev nD) : Fin 2 → Nat :=
  let c256_i32_384 : BitVec 32 := 256#32
  let c1_i32_383 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v419 : BitVec 32 := Scalar.subi c1_i32_383 v8
  let v420 : BitVec 32 := Scalar.muli c256_i32_384 v419
  let v421 : Index := Scalar.indexCast v420
  let c0_385 : Index := 0#32
  ![v421.toNat, 0]
def k0_cond6 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let true_348 : BitVec 1 := 1#1
  let v358 : BitVec 1 := Scalar.xori v14 true_348
  let v359 : BitVec 32 := Scalar.extui v358
  let c0_i32_355 : BitVec 32 := 0#32
  let v360 : BitVec 1 := Scalar.cmpi .ne v359 c0_i32_355
  v360

def k0_off4 (d0 : Dev nD) : Fin 2 → Nat :=
  let c256_i32 : BitVec 32 := 256#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v373 : BitVec 32 := Scalar.muli c256_i32 v8
  let v374 : Index := Scalar.indexCast v373
  let c0_363 : Index := 0#32
  ![v374.toNat, 0]
def k0_off5 (d0 : Dev nD) : Fin 2 → Nat :=
  let c256_i32_371 : BitVec 32 := 256#32
  let c1_i32_370 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v386 : BitVec 32 := Scalar.subi c1_i32_370 v8
  let v387 : BitVec 32 := Scalar.muli c256_i32_371 v386
  let v388 : Index := Scalar.indexCast v387
  let c0_372 : Index := 0#32
  ![v388.toNat, 0]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S_ : Shape := ⟨0, ![]⟩
abbrev S1024x2 : Shape := ⟨2, ![1024, 2]⟩
abbrev S1024 : Shape := ⟨1, ![1024]⟩
abbrev S1024x1 : Shape := ⟨2, ![1024, 1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩

abbrev nBuf : Space → Nat
  | .hbm => 315
  | .vmem => 0
  | .smem => 0
  | _ => 0

abbrev hbmTy0_0 (i : Nat) : BufTy := match i % 128 with
  | 0 => ⟨S1024x1024, .f32⟩
  | 1 => ⟨S1024x8, .f32⟩
  | 2 => ⟨S8x1024x2048, .f32⟩
  | 3 => ⟨S8x2048x1024, .f32⟩
  | 4 => ⟨S1024x8, .f32⟩
  | 5 => ⟨S1024x8, .i32⟩
  | 6 => ⟨S1024x8, .i32⟩
  | 7 => ⟨S_, .i32⟩
  | 8 => ⟨S1024x8, .i32⟩
  | 9 => ⟨S1024x8, .i1⟩
  | 10 => ⟨S_, .i32⟩
  | 11 => ⟨S1024x8, .i32⟩
  | 12 => ⟨S1024x8, .i1⟩
  | 13 => ⟨S1024x8, .i1⟩
  | 14 => ⟨S1024x8, .i32⟩
  | 15 => ⟨S1024x8, .f32⟩
  | 16 => ⟨S1024x8, .f32⟩
  | 17 => ⟨S1024x8, .i32⟩
  | 18 => ⟨S1024x8, .i32⟩
  | 19 => ⟨S1024x2, .i32⟩
  | 20 => ⟨S1024x2, .f32⟩
  | 21 => ⟨S1024x2, .f32⟩
  | 22 => ⟨S_, .f32⟩
  | 23 => ⟨S1024, .f32⟩
  | 24 => ⟨S1024x1, .f32⟩
  | 25 => ⟨S1024x2, .f32⟩
  | 26 => ⟨S1024x2, .f32⟩
  | 27 => ⟨S1024x2, .f32⟩
  | 28 => ⟨S_, .f32⟩
  | 29 => ⟨S1024, .f32⟩
  | 30 => ⟨S1024x1, .f32⟩
  | 31 => ⟨S1024x2, .f32⟩
  | 32 => ⟨S1024x2, .f32⟩
  | 33 => ⟨S1x1024x2048, .f32⟩
  | 34 => ⟨S1024x2048, .f32⟩
  | 35 => ⟨S1024x2048, .f32⟩
  | 36 => ⟨S_, .f32⟩
  | 37 => ⟨S1024x2048, .f32⟩
  | 38 => ⟨S1024x2048, .f32⟩
  | 39 => ⟨S1x2048x1024, .f32⟩
  | 40 => ⟨S2048x1024, .f32⟩
  | 41 => ⟨S1024x1024, .f32⟩
  | 42 => ⟨S1x1024x2048, .f32⟩
  | 43 => ⟨S1024x2048, .f32⟩
  | 44 => ⟨S1024x2048, .f32⟩
  | 45 => ⟨S_, .f32⟩
  | 46 => ⟨S1024x2048, .f32⟩
  | 47 => ⟨S1024x2048, .f32⟩
  | 48 => ⟨S1x2048x1024, .f32⟩
  | 49 => ⟨S2048x1024, .f32⟩
  | 50 => ⟨S1024x1024, .f32⟩
  | 51 => ⟨S1x1024x2048, .f32⟩
  | 52 => ⟨S1024x2048, .f32⟩
  | 53 => ⟨S1024x2048, .f32⟩
  | 54 => ⟨S_, .f32⟩
  | 55 => ⟨S1024x2048, .f32⟩
  | 56 => ⟨S1024x2048, .f32⟩
  | 57 => ⟨S1x2048x1024, .f32⟩
  | 58 => ⟨S2048x1024, .f32⟩
  | 59 => ⟨S1024x1024, .f32⟩
  | 60 => ⟨S1x1024x2048, .f32⟩
  | 61 => ⟨S1024x2048, .f32⟩
  | 62 => ⟨S1024x2048, .f32⟩
  | 63 => ⟨S_, .f32⟩
  | 64 => ⟨S1024x2048, .f32⟩
  | 65 => ⟨S1024x2048, .f32⟩
  | 66 => ⟨S1x2048x1024, .f32⟩
  | 67 => ⟨S2048x1024, .f32⟩
  | 68 => ⟨S1024x1024, .f32⟩
  | 69 => ⟨S1x1024x2048, .f32⟩
  | 70 => ⟨S1024x2048, .f32⟩
  | 71 => ⟨S1024x2048, .f32⟩
  | 72 => ⟨S_, .f32⟩
  | 73 => ⟨S1024x2048, .f32⟩
  | 74 => ⟨S1024x2048, .f32⟩
  | 75 => ⟨S1x2048x1024, .f32⟩
  | 76 => ⟨S2048x1024, .f32⟩
  | 77 => ⟨S1024x1024, .f32⟩
  | 78 => ⟨S1x1024x2048, .f32⟩
  | 79 => ⟨S1024x2048, .f32⟩
  | 80 => ⟨S1024x2048, .f32⟩
  | 81 => ⟨S_, .f32⟩
  | 82 => ⟨S1024x2048, .f32⟩
  | 83 => ⟨S1024x2048, .f32⟩
  | 84 => ⟨S1x2048x1024, .f32⟩
  | 85 => ⟨S2048x1024, .f32⟩
  | 86 => ⟨S1024x1024, .f32⟩
  | 87 => ⟨S1x1024x2048, .f32⟩
  | 88 => ⟨S1024x2048, .f32⟩
  | 89 => ⟨S1024x2048, .f32⟩
  | 90 => ⟨S_, .f32⟩
  | 91 => ⟨S1024x2048, .f32⟩
  | 92 => ⟨S1024x2048, .f32⟩
  | 93 => ⟨S1x2048x1024, .f32⟩
  | 94 => ⟨S2048x1024, .f32⟩
  | 95 => ⟨S1024x1024, .f32⟩
  | 96 => ⟨S1x1024x2048, .f32⟩
  | 97 => ⟨S1024x2048, .f32⟩
  | 98 => ⟨S1024x2048, .f32⟩
  | 99 => ⟨S_, .f32⟩
  | 100 => ⟨S1024x2048, .f32⟩
  | 101 => ⟨S1024x2048, .f32⟩
  | 102 => ⟨S1x2048x1024, .f32⟩
  | 103 => ⟨S2048x1024, .f32⟩
  | 104 => ⟨S1024x1024, .f32⟩
  | 105 => ⟨S_, .f32⟩
  | 106 => ⟨S1024x1024, .f32⟩
  | 107 => ⟨S1024x1, .i32⟩
  | 108 => ⟨S_, .i32⟩
  | 109 => ⟨S1024x1, .i32⟩
  | 110 => ⟨S1024x1, .i1⟩
  | 111 => ⟨S1024x1, .f32⟩
  | 112 => ⟨S1024x1024, .f32⟩
  | 113 => ⟨S1024x1024, .f32⟩
  | 114 => ⟨S_, .f32⟩
  | 115 => ⟨S_, .f32⟩
  | 116 => ⟨S1024x1024, .i1⟩
  | 117 => ⟨S1024x1024, .f32⟩
  | 118 => ⟨S1024x1024, .f32⟩
  | 119 => ⟨S1024x1024, .f32⟩
  | 120 => ⟨S1024x1, .i32⟩
  | 121 => ⟨S_, .i32⟩
  | 122 => ⟨S1024x1, .i32⟩
  | 123 => ⟨S1024x1, .i1⟩
  | 124 => ⟨S1024x1, .f32⟩
  | 125 => ⟨S1024x1024, .f32⟩
  | 126 => ⟨S1024x1024, .f32⟩
  | 127 => ⟨S_, .f32⟩
  | _ => ⟨S1024x1024, .f32⟩

abbrev hbmTy0_1 (i : Nat) : BufTy := match i % 128 with
  | 0 => ⟨S_, .f32⟩
  | 1 => ⟨S1024x1024, .i1⟩
  | 2 => ⟨S1024x1024, .f32⟩
  | 3 => ⟨S1024x1024, .f32⟩
  | 4 => ⟨S1024x1024, .f32⟩
  | 5 => ⟨S1024x1, .i32⟩
  | 6 => ⟨S_, .i32⟩
  | 7 => ⟨S1024x1, .i32⟩
  | 8 => ⟨S1024x1, .i1⟩
  | 9 => ⟨S1024x1, .f32⟩
  | 10 => ⟨S1024x1024, .f32⟩
  | 11 => ⟨S1024x1024, .f32⟩
  | 12 => ⟨S_, .f32⟩
  | 13 => ⟨S_, .f32⟩
  | 14 => ⟨S1024x1024, .i1⟩
  | 15 => ⟨S1024x1024, .f32⟩
  | 16 => ⟨S1024x1024, .f32⟩
  | 17 => ⟨S1024x1024, .f32⟩
  | 18 => ⟨S1024x1, .i32⟩
  | 19 => ⟨S_, .i32⟩
  | 20 => ⟨S1024x1, .i32⟩
  | 21 => ⟨S1024x1, .i1⟩
  | 22 => ⟨S1024x1, .f32⟩
  | 23 => ⟨S1024x1024, .f32⟩
  | 24 => ⟨S1024x1024, .f32⟩
  | 25 => ⟨S_, .f32⟩
  | 26 => ⟨S_, .f32⟩
  | 27 => ⟨S1024x1024, .i1⟩
  | 28 => ⟨S1024x1024, .f32⟩
  | 29 => ⟨S1024x1024, .f32⟩
  | 30 => ⟨S1024x1024, .f32⟩
  | 31 => ⟨S1024x1, .i32⟩
  | 32 => ⟨S_, .i32⟩
  | 33 => ⟨S1024x1, .i32⟩
  | 34 => ⟨S1024x1, .i1⟩
  | 35 => ⟨S1024x1, .f32⟩
  | 36 => ⟨S1024x1024, .f32⟩
  | 37 => ⟨S1024x1024, .f32⟩
  | 38 => ⟨S_, .f32⟩
  | 39 => ⟨S_, .f32⟩
  | 40 => ⟨S1024x1024, .i1⟩
  | 41 => ⟨S1024x1024, .f32⟩
  | 42 => ⟨S1024x1024, .f32⟩
  | 43 => ⟨S1024x1024, .f32⟩
  | 44 => ⟨S1024x1, .i32⟩
  | 45 => ⟨S_, .i32⟩
  | 46 => ⟨S1024x1, .i32⟩
  | 47 => ⟨S1024x1, .i1⟩
  | 48 => ⟨S1024x1, .f32⟩
  | 49 => ⟨S1024x1024, .f32⟩
  | 50 => ⟨S1024x1024, .f32⟩
  | 51 => ⟨S_, .f32⟩
  | 52 => ⟨S_, .f32⟩
  | 53 => ⟨S1024x1024, .i1⟩
  | 54 => ⟨S1024x1024, .f32⟩
  | 55 => ⟨S1024x1024, .f32⟩
  | 56 => ⟨S1024x1024, .f32⟩
  | 57 => ⟨S1024x1, .i32⟩
  | 58 => ⟨S_, .i32⟩
  | 59 => ⟨S1024x1, .i32⟩
  | 60 => ⟨S1024x1, .i1⟩
  | 61 => ⟨S1024x1, .f32⟩
  | 62 => ⟨S1024x1024, .f32⟩
  | 63 => ⟨S1024x1024, .f32⟩
  | 64 => ⟨S_, .f32⟩
  | 65 => ⟨S_, .f32⟩
  | 66 => ⟨S1024x1024, .i1⟩
  | 67 => ⟨S1024x1024, .f32⟩
  | 68 => ⟨S1024x1024, .f32⟩
  | 69 => ⟨S1024x1024, .f32⟩
  | 70 => ⟨S1024x1, .i32⟩
  | 71 => ⟨S_, .i32⟩
  | 72 => ⟨S1024x1, .i32⟩
  | 73 => ⟨S1024x1, .i1⟩
  | 74 => ⟨S1024x1, .f32⟩
  | 75 => ⟨S1024x1024, .f32⟩
  | 76 => ⟨S1024x1024, .f32⟩
  | 77 => ⟨S_, .f32⟩
  | 78 => ⟨S_, .f32⟩
  | 79 => ⟨S1024x1024, .i1⟩
  | 80 => ⟨S1024x1024, .f32⟩
  | 81 => ⟨S1024x1024, .f32⟩
  | 82 => ⟨S1024x1024, .f32⟩
  | 83 => ⟨S1024x1, .i32⟩
  | 84 => ⟨S_, .i32⟩
  | 85 => ⟨S1024x1, .i32⟩
  | 86 => ⟨S1024x1, .i1⟩
  | 87 => ⟨S1024x1, .f32⟩
  | 88 => ⟨S1024x1024, .f32⟩
  | 89 => ⟨S1024x1024, .f32⟩
  | 90 => ⟨S_, .f32⟩
  | 91 => ⟨S_, .f32⟩
  | 92 => ⟨S1024x1024, .i1⟩
  | 93 => ⟨S1024x1024, .f32⟩
  | 94 => ⟨S1024x1024, .f32⟩
  | 95 => ⟨S1024x1024, .f32⟩
  | 96 => ⟨S1024x1, .i32⟩
  | 97 => ⟨S_, .i32⟩
  | 98 => ⟨S1024x1, .i32⟩
  | 99 => ⟨S1024x1, .i1⟩
  | 100 => ⟨S1024x1, .f32⟩
  | 101 => ⟨S1024x1024, .f32⟩
  | 102 => ⟨S1024x1024, .f32⟩
  | 103 => ⟨S_, .f32⟩
  | 104 => ⟨S_, .f32⟩
  | 105 => ⟨S1024x1024, .i1⟩
  | 106 => ⟨S1024x1024, .f32⟩
  | 107 => ⟨S1024x1024, .f32⟩
  | 108 => ⟨S1024x1024, .f32⟩
  | 109 => ⟨S1024x1, .i32⟩
  | 110 => ⟨S_, .i32⟩
  | 111 => ⟨S1024x1, .i32⟩
  | 112 => ⟨S1024x1, .i1⟩
  | 113 => ⟨S1024x1, .f32⟩
  | 114 => ⟨S1024x1024, .f32⟩
  | 115 => ⟨S1024x1024, .f32⟩
  | 116 => ⟨S_, .f32⟩
  | 117 => ⟨S_, .f32⟩
  | 118 => ⟨S1024x1024, .i1⟩
  | 119 => ⟨S1024x1024, .f32⟩
  | 120 => ⟨S1024x1024, .f32⟩
  | 121 => ⟨S1024x1024, .f32⟩
  | 122 => ⟨S1024x1, .i32⟩
  | 123 => ⟨S_, .i32⟩
  | 124 => ⟨S1024x1, .i32⟩
  | 125 => ⟨S1024x1, .i1⟩
  | 126 => ⟨S1024x1, .f32⟩
  | 127 => ⟨S1024x1024, .f32⟩
  | _ => ⟨S1024x1024, .f32⟩

abbrev hbmTy0_2 (i : Nat) : BufTy := match i % 128 with
  | 0 => ⟨S1024x1024, .f32⟩
  | 1 => ⟨S_, .f32⟩
  | 2 => ⟨S_, .f32⟩
  | 3 => ⟨S1024x1024, .i1⟩
  | 4 => ⟨S1024x1024, .f32⟩
  | 5 => ⟨S1024x1024, .f32⟩
  | 6 => ⟨S1024x1024, .f32⟩
  | 7 => ⟨S1024x1, .i32⟩
  | 8 => ⟨S_, .i32⟩
  | 9 => ⟨S1024x1, .i32⟩
  | 10 => ⟨S1024x1, .i1⟩
  | 11 => ⟨S1024x1, .f32⟩
  | 12 => ⟨S1024x1024, .f32⟩
  | 13 => ⟨S1024x1024, .f32⟩
  | 14 => ⟨S_, .f32⟩
  | 15 => ⟨S_, .f32⟩
  | 16 => ⟨S1024x1024, .i1⟩
  | 17 => ⟨S1024x1024, .f32⟩
  | 18 => ⟨S1024x1024, .f32⟩
  | 19 => ⟨S1024x1024, .f32⟩
  | 20 => ⟨S1024x1, .i32⟩
  | 21 => ⟨S_, .i32⟩
  | 22 => ⟨S1024x1, .i32⟩
  | 23 => ⟨S1024x1, .i1⟩
  | 24 => ⟨S1024x1, .f32⟩
  | 25 => ⟨S1024x1024, .f32⟩
  | 26 => ⟨S1024x1024, .f32⟩
  | 27 => ⟨S_, .f32⟩
  | 28 => ⟨S_, .f32⟩
  | 29 => ⟨S1024x1024, .i1⟩
  | 30 => ⟨S1024x1024, .f32⟩
  | 31 => ⟨S1024x1024, .f32⟩
  | 32 => ⟨S1024x1024, .f32⟩
  | 33 => ⟨S1024x1, .i32⟩
  | 34 => ⟨S_, .i32⟩
  | 35 => ⟨S1024x1, .i32⟩
  | 36 => ⟨S1024x1, .i1⟩
  | 37 => ⟨S1024x1, .f32⟩
  | 38 => ⟨S1024x1024, .f32⟩
  | 39 => ⟨S1024x1024, .f32⟩
  | 40 => ⟨S_, .f32⟩
  | 41 => ⟨S_, .f32⟩
  | 42 => ⟨S1024x1024, .i1⟩
  | 43 => ⟨S1024x1024, .f32⟩
  | 44 => ⟨S1024x1024, .f32⟩
  | 45 => ⟨S1024x1024, .f32⟩
  | 46 => ⟨S1024x1, .i32⟩
  | 47 => ⟨S_, .i32⟩
  | 48 => ⟨S1024x1, .i32⟩
  | 49 => ⟨S1024x1, .i1⟩
  | 50 => ⟨S1024x1, .f32⟩
  | 51 => ⟨S1024x1024, .f32⟩
  | 52 => ⟨S1024x1024, .f32⟩
  | 53 => ⟨S_, .f32⟩
  | 54 => ⟨S_, .f32⟩
  | 55 => ⟨S1024x1024, .i1⟩
  | 56 => ⟨S1024x1024, .f32⟩
  | 57 => ⟨S1024x1024, .f32⟩
  | 58 => ⟨S1024x1024, .f32⟩
  | _ => ⟨S1024x1024, .f32⟩

abbrev hbmTy (i : Nat) : BufTy := match i / 128 with
  | 0 => hbmTy0_0 i
  | 1 => hbmTy0_1 i
  | 2 => hbmTy0_2 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_9 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_10 : Ref sig .tc := ⟨.hbm, 105, rfl⟩
abbrev main_v87 : Ref sig .tc := ⟨.hbm, 106, rfl⟩
abbrev main_v88 : Ref sig .tc := ⟨.hbm, 107, rfl⟩
abbrev main_c_11 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_12 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_c_13 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_14 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_c_15 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_16 : Ref sig .tc := ⟨.hbm, 140, rfl⟩
abbrev main_call2_v0 : Ref sig .tc := ⟨.hbm, 141, rfl⟩
abbrev main_call2_v1 : Ref sig .tc := ⟨.hbm, 142, rfl⟩
abbrev main_call2_v2 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_c_17 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_18 : Ref sig .tc := ⟨.hbm, 153, rfl⟩
abbrev main_call3_v0 : Ref sig .tc := ⟨.hbm, 154, rfl⟩
abbrev main_call3_v1 : Ref sig .tc := ⟨.hbm, 155, rfl⟩
abbrev main_call3_v2 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_19 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_20 : Ref sig .tc := ⟨.hbm, 166, rfl⟩
abbrev main_call4_v0 : Ref sig .tc := ⟨.hbm, 167, rfl⟩
abbrev main_call4_v1 : Ref sig .tc := ⟨.hbm, 168, rfl⟩
abbrev main_call4_v2 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_c_21 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_22 : Ref sig .tc := ⟨.hbm, 179, rfl⟩
abbrev main_call5_v0 : Ref sig .tc := ⟨.hbm, 180, rfl⟩
abbrev main_call5_v1 : Ref sig .tc := ⟨.hbm, 181, rfl⟩
abbrev main_call5_v2 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_c_23 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_24 : Ref sig .tc := ⟨.hbm, 192, rfl⟩
abbrev main_call6_v0 : Ref sig .tc := ⟨.hbm, 193, rfl⟩
abbrev main_call6_v1 : Ref sig .tc := ⟨.hbm, 194, rfl⟩
abbrev main_call6_v2 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_c_25 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_26 : Ref sig .tc := ⟨.hbm, 205, rfl⟩
abbrev main_call7_v0 : Ref sig .tc := ⟨.hbm, 206, rfl⟩
abbrev main_call7_v1 : Ref sig .tc := ⟨.hbm, 207, rfl⟩
abbrev main_call7_v2 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_c_27 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_28 : Ref sig .tc := ⟨.hbm, 218, rfl⟩
abbrev main_call8_v0 : Ref sig .tc := ⟨.hbm, 219, rfl⟩
abbrev main_call8_v1 : Ref sig .tc := ⟨.hbm, 220, rfl⟩
abbrev main_call8_v2 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_c_29 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_cst_30 : Ref sig .tc := ⟨.hbm, 231, rfl⟩
abbrev main_call9_v0 : Ref sig .tc := ⟨.hbm, 232, rfl⟩
abbrev main_call9_v1 : Ref sig .tc := ⟨.hbm, 233, rfl⟩
abbrev main_call9_v2 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_c_31 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_cst_32 : Ref sig .tc := ⟨.hbm, 244, rfl⟩
abbrev main_call10_v0 : Ref sig .tc := ⟨.hbm, 245, rfl⟩
abbrev main_call10_v1 : Ref sig .tc := ⟨.hbm, 246, rfl⟩
abbrev main_call10_v2 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_c_33 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_cst_34 : Ref sig .tc := ⟨.hbm, 257, rfl⟩
abbrev main_call11_v0 : Ref sig .tc := ⟨.hbm, 258, rfl⟩
abbrev main_call11_v1 : Ref sig .tc := ⟨.hbm, 259, rfl⟩
abbrev main_call11_v2 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_c_35 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_cst_36 : Ref sig .tc := ⟨.hbm, 270, rfl⟩
abbrev main_call12_v0 : Ref sig .tc := ⟨.hbm, 271, rfl⟩
abbrev main_call12_v1 : Ref sig .tc := ⟨.hbm, 272, rfl⟩
abbrev main_call12_v2 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_c_37 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_cst_38 : Ref sig .tc := ⟨.hbm, 283, rfl⟩
abbrev main_call13_v0 : Ref sig .tc := ⟨.hbm, 284, rfl⟩
abbrev main_call13_v1 : Ref sig .tc := ⟨.hbm, 285, rfl⟩
abbrev main_call13_v2 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_c_39 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_cst_40 : Ref sig .tc := ⟨.hbm, 296, rfl⟩
abbrev main_call14_v0 : Ref sig .tc := ⟨.hbm, 297, rfl⟩
abbrev main_call14_v1 : Ref sig .tc := ⟨.hbm, 298, rfl⟩
abbrev main_call14_v2 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_c_41 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_cst_42 : Ref sig .tc := ⟨.hbm, 309, rfl⟩
abbrev main_call15_v0 : Ref sig .tc := ⟨.hbm, 310, rfl⟩
abbrev main_call15_v1 : Ref sig .tc := ⟨.hbm, 311, rfl⟩
abbrev main_call15_v2 : Ref sig .tc := ⟨.hbm, 312, rfl⟩
abbrev main_v214 : Ref sig .tc := ⟨.hbm, 313, rfl⟩
abbrev main_v215 : Ref sig .tc := ⟨.hbm, 314, rfl⟩

abbrev nD : Nat := 1
abbrev τ : Topo := Topo.v7x

variable {F : FTy → Type} [FloatOps F]
-- ==== Proof.Ideal.Base.lean ====
/- The mesh, the buffers and the semaphore cells of the kernel, and the resource algebra its proof uses. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The shared protocol's records: duties are named by `Fin 4`. -/
abbrev UB : Type := URounds (GSem nD τ sig) (Fin 4)
/-- The pipeline's records, the protocol's, and the counters of the local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev EQ : Emb (UB × Counters) (MT nD τ sig Unit (Elt F) ℕ UU ℕ) := embR
/-- Where the protocol's records live. -/
def ER : Emb UB (MT nD τ sig Unit (Elt F) ℕ UU ℕ) := (Emb.inl : Emb UB (UB × Counters)).trans (EQ (F := F))

instance ER_landsIn : (ER (F := F)).LandsIn (upEmb : UEmb _ (MT nD τ sig Unit (Elt F) ℕ UU ℕ)) := by
  unfold ER EQ; infer_instance

/-! ## The mesh -/

/-- Device `c` holds the tokens it computes gates for. -/
def home (c : Dev nD) : Prop := c.val / 4 = c.val / 2 % 2

instance (c : Dev nD) : Decidable (home c) := inferInstanceAs (Decidable (_ = _))

/-- The four devices `c` talks to: across y, across x, across z, and across both x and z. -/
def peer (d : Fin 4) (c : Dev nD) : Dev nD :=
  ⟨match d with
    | 0 => c.val ^^^ 2
    | 1 => c.val ^^^ 4
    | 2 => c.val ^^^ 1
    | 3 => c.val ^^^ 5, by revert d c; decide⟩

theorem peer_peer (d : Fin 4) (c : Dev nD) : peer d (peer d c) = c := by revert d c; decide

theorem peer_ne (d : Fin 4) (c : Dev nD) : peer d c ≠ c := by revert d c; decide

theorem peer_inj_duty (c : Dev nD) {d d' : Fin 4} (h : d ≠ d') : peer d c ≠ peer d' c := by
  revert c d d'; decide

theorem home_peer (d : Fin 4) (c : Dev nD) : home (peer d c) ↔ ((d = 2 ∧ home c) ∨ (d ≠ 2 ∧ ¬ home c)) := by
  revert d c; decide

/-- A peer relation as a permutation of the devices. -/
def peerEquiv (d : Fin 4) : Dev nD ≃ Dev nD := ⟨peer d, peer d, peer_peer d, peer_peer d⟩

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 3 c := by revert c; decide
theorem dev5_eq (c : Dev nD) (h) : (⟨k0_dev5 c, k0_dev5_lt c h⟩ : Dev nD) = peer 0 c := by revert c; decide
theorem dev6_eq (c : Dev nD) (h) : (⟨k0_dev6 c, k0_dev6_lt c h⟩ : Dev nD) = peer 0 c := by revert c; decide
theorem dev7_eq (c : Dev nD) (h) : (⟨k0_dev7 c, k0_dev7_lt c h⟩ : Dev nD) = peer 0 c := by revert c; decide
theorem dev8_eq (c : Dev nD) (h) : (⟨k0_dev8 c, k0_dev8_lt c h⟩ : Dev nD) = peer 0 c := by revert c; decide
theorem dev9_eq (c : Dev nD) (h) : (⟨k0_dev9 c, k0_dev9_lt c h⟩ : Dev nD) = peer 1 c := by revert c; decide
theorem dev10_eq (c : Dev nD) (h) : (⟨k0_dev10 c, k0_dev10_lt c h⟩ : Dev nD) = peer 3 c := by revert c; decide
theorem dev11_eq (c : Dev nD) (h) : (⟨k0_dev11 c, k0_dev11_lt c h⟩ : Dev nD) = peer 2 c := by revert c; decide

theorem cond1_iff (c : Dev nD) : k0_cond1 c = 1#1 ↔ ¬ home c := by revert c; decide
theorem cond2_iff (c : Dev nD) : k0_cond2 c = 1#1 ↔ home c := by revert c; decide
theorem cond4_iff (c : Dev nD) : k0_cond4 c = 1#1 ↔ ¬ home c := by revert c; decide
theorem cond5_iff (c : Dev nD) : k0_cond5 c = 1#1 ↔ home c := by revert c; decide

/-! ## The buffers -/

abbrev xM : Memref sig .tc .vmem S512x1024 .f32 := Memref.whole cc0_stg0_0
abbrev rM : Memref sig .tc .vmem S1024x4 .f32 := Memref.whole cc0_stg1_0
abbrev w1M : Memref sig .tc .hbm S4x1024x2048 .f32 := Memref.whole main_arg2
abbrev w2M : Memref sig .tc .hbm S4x2048x1024 .f32 := Memref.whole main_arg3
abbrev oM : Memref sig .tc .vmem S512x1024 .f32 := Memref.whole cc0_stg2_0
abbrev w1vM : Memref sig .tc .vmem S2x1024x2048 .f32 := Memref.whole cc0_scratch0
abbrev w2vM : Memref sig .tc .vmem S2x2048x1024 .f32 := Memref.whole cc0_scratch1
abbrev rrM : Memref sig .tc .vmem S1024x4 .f32 := Memref.whole cc0_scratch2
abbrev xcM : Memref sig .tc .vmem S256x1024 .bf16 := Memref.whole cc0_scratch3
abbrev mcM : Memref sig .tc .vmem S256x4 .f32 := Memref.whole cc0_scratch4
abbrev msM : Memref sig .tc .vmem S256x4 .f32 := Memref.whole cc0_scratch5
abbrev csM : Memref sig .tc .vmem S256x1024 .bf16 := Memref.whole cc0_scratch6
abbrev crM : Memref sig .tc .vmem S256x1024 .bf16 := Memref.whole cc0_scratch7
abbrev dsM : Memref sig .tc .vmem S256x1024 .bf16 := Memref.whole cc0_scratch8
abbrev dxM : Memref sig .tc .vmem S256x1024 .bf16 := Memref.whole cc0_scratch9
abbrev dgM : Memref sig .tc .vmem S256x1024 .bf16 := Memref.whole cc0_scratch10
abbrev dzM : Memref sig .tc .vmem S256x1024 .bf16 := Memref.whole cc0_scratch11

/-! ## The semaphores -/

abbrev sendA : DmaSems sig S7 := cc0_scratch12
abbrev recvA : DmaSems sig S7 := cc0_scratch13
abbrev wA : DmaSems sig S8 := cc0_scratch14
/-- The barrier semaphore. -/
abbrev barS : Sem sig := (SemArray.scalar (sig.barrier 0 rfl) : Sems sig S_).sem

end Cert.KernelIdealRun

end
-- ==== Proof.Ideal.Vals.lean ====
/- What each buffer of the kernel holds, as a function of the arguments: the chunks of tokens and gates the devices
   exchange, the partial products of the experts, and the result. -/
module

public import proofs.«01_k».proof.Proof.Ideal.Base

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The computation on one device, as functions of its loads -/

/-- The gates of a token block from the two halves of its logits: rows of the device's own chunk, own experts. -/
def mcF (z : BitVec 32) (a b : FVec F S512x4 .f32) : FVec F S256x4 .f32 := k0_pay20 z (k0_pay15 a b)

/-- The same rows, the other half's experts. -/
def msF (z : BitVec 32) (a b : FVec F S512x4 .f32) : FVec F S256x4 .f32 :=
  k0_pay21 z (k0_pay8 a b) (k0_pay11 a b) (k0_pay13 a b) (k0_pay14 a b)
    (iota .tc S512x4 32 [1] iota_S512x4_d1_w32) k0_pay16

section Experts

variable (xi : Vec F S256x1024 .bf16) (mi : Vec F S256x4 .f32)
  (w1 : Fin 4 → Fin 2 → Vec F S1x512x2048 .f32) (w2 : Fin 4 → Fin 2 → Vec F S1x1024x1024 .f32)

/-- The accumulator after expert 0. -/
def acc0 : FVec F S256x1024 .f32 :=
  k0_pay30 (k0_pay24 (w2 0 0)) (k0_pay25 (w2 0 1)) k0_pay28 (k0_pay29 (k0_pay22 (w1 0 0)) (k0_pay23 (w1 0 1)) xi mi)

/-- Expert 1's hidden activations, weighted. -/
def hid1 : FVec F S256x2048 .bf16 :=
  k0_pay32 mi (k0_pay26 xi) (k0_pay27 xi) (k0_pay31 (w1 1 0)) (w1 1 1)

/-- The accumulator after expert 1. -/
def acc1 : FVec F S256x1024 .f32 :=
  k0_pay35 (k0_pay33 (acc0 xi mi w1 w2) (hid1 xi mi w1) (w2 1 0)) (k0_pay34 (hid1 xi mi w1) (w2 1 1))

/-- The accumulator after expert 2. -/
def acc2 : FVec F S256x1024 .f32 :=
  k0_pay37 (acc1 xi mi w1 w2) (k0_pay36 mi (k0_pay26 xi) (k0_pay27 xi) (w1 2 0) (w1 2 1)) (w2 2 0) (w2 2 1)

/-- Expert 3's hidden activations, weighted. -/
def hid3 : FVec F S256x2048 .bf16 :=
  k0_pay39 mi (k0_pay26 xi) (k0_pay27 xi) (k0_pay38 (w1 3 0)) (w1 3 1)

/-- The four experts' contribution, at the accumulator's width. -/
def sumF : FVec F S256x1024 .f32 := k0_pay41 (acc2 xi mi w1 w2) (hid3 xi mi w1) (k0_pay40 (w2 3 0)) (w2 3 1)

/-- The same, narrowed for the way home. -/
def sumB : FVec F S256x1024 .bf16 := k0_pay42 (acc2 xi mi w1 w2) (hid3 xi mi w1) (k0_pay40 (w2 3 0)) (w2 3 1)

end Experts

/-! ## The contents on each device -/

variable (m : (ℓ : Loc nD τ sig) → Buf (Elt F) ℓ)

/-- The tokens staged on device `c`. -/
def xV (c : Dev nD) : Vec F S512x1024 .f32 := (win0_0.blk (0 : Fin 1)).view.read (Elt F) (m ((c : Thread nD τ).loc main_arg0))
/-- The router columns staged on device `c`. -/
def rV (c : Dev nD) : Vec F S1024x4 .f32 := (win0_1.blk (0 : Fin 1)).view.read (Elt F) (m ((c : Thread nD τ).loc main_arg1))

theorem w1_inb (e : Fin 4) (h : Fin 2) : ∀ a, (![e.val, 512 * h.val, 0] : Fin 3 → Nat) a + S1x512x2048.size a ≤ S4x1024x2048.size a := by
  revert e h; decide
theorem w2_inb (e : Fin 4) (h : Fin 2) : ∀ a, (![e.val, 1024 * h.val, 0] : Fin 3 → Nat) a + S1x1024x1024.size a ≤ S4x2048x1024.size a := by
  revert e h; decide

/-- Half `h` of local expert `e`'s first weight on device `c`. -/
def w1b (c : Dev nD) (e : Fin 4) (h : Fin 2) : Vec F S1x512x2048 .f32 :=
  w1M.view.readAt (Elt F) (Rect.unit (s := S4x1024x2048) ![e.val, 512 * h.val, 0] S1x512x2048.size (w1_inb e h)).toLoadRect
    (m ((c : Thread nD τ).loc main_arg2))
/-- Half `h` of local expert `e`'s second weight on device `c`. -/
def w2b (c : Dev nD) (e : Fin 4) (h : Fin 2) : Vec F S1x1024x1024 .f32 :=
  w2M.view.readAt (Elt F) (Rect.unit (s := S4x2048x1024) ![e.val, 1024 * h.val, 0] S1x1024x1024.size (w2_inb e h)).toLoadRect
    (m ((c : Thread nD τ).loc main_arg3))

/-- Device `c`'s coordinate along z, as the program computes it. -/
def zW (c : Dev nD) : BitVec 32 := Scalar.remsi (Scalar.divsi (Dev.word c) 1#32) 2#32

theorem chunk_inb (c : Dev nD) : ∀ a, (![256 * (c.val % 2), 0] : Fin 2 → Nat) a + S256x1024.size a ≤ S512x1024.size a := by
  revert c; decide
theorem other_inb (c : Dev nD) : ∀ a, (![256 - 256 * (c.val % 2), 0] : Fin 2 → Nat) a + S256x1024.size a ≤ S512x1024.size a := by
  revert c; decide

/-- Rows of the token block device `c` computes. -/
abbrev ownR (c : Dev nD) : Rect S512x1024 := Rect.unit (s := S512x1024) ![256 * (c.val % 2), 0] S256x1024.size (chunk_inb c)
/-- The other rows. -/
abbrev othR (c : Dev nD) : Rect S512x1024 := Rect.unit (s := S512x1024) ![256 - 256 * (c.val % 2), 0] S256x1024.size (other_inb c)

/-- The token chunk a home device computes on and sends. -/
def xcV (c : Dev nD) : Vec F S256x1024 .bf16 := k0_pay3 (xM.view.readAt (Elt F) (ownR c).toLoadRect (xV m c))

/-- The two halves of the logits of a home device's tokens: its own experts', the other half's. -/
def lgA (c : Dev nD) : FVec F S512x4 .f32 := k0_pay4 (xV m c) (rV m c)
def lgB (c : Dev nD) : FVec F S512x4 .f32 := k0_pay5 (xV m c) (rV m (peer 0 c))

/-- The gates a home device keeps, and those it sends. -/
def mcV (c : Dev nD) : Vec F S256x4 .f32 := mcF (zW c) (lgA m c) (lgB m c)
def msV (c : Dev nD) : Vec F S256x4 .f32 := msF (zW c) (lgA m c) (lgB m c)

/-- The contribution a device away from home sends back. -/
def c1V (c : Dev nD) : Vec F S256x1024 .bf16 :=
  sumB (xcV m (peer 0 c)) (msV m (peer 0 c)) (w1b m c) (w2b m c)
/-- The contribution a home device computes. -/
def ownV (c : Dev nD) : FVec F S256x1024 .f32 := sumF (xcV m c) (mcV m c) (w1b m c) (w2b m c)
/-- A home device's finished chunk, and its narrowed copy for the others. -/
def doneV (c : Dev nD) : FVec F S256x1024 .f32 := k0_pay17 (ownV m c) (c1V m (peer 0 c))
def dsV (c : Dev nD) : Vec F S256x1024 .bf16 := k0_pay18 (ownV m c) (c1V m (peer 0 c))

/-- The result: two chunks written over a block (whose own contents do not show). -/
def outF (c : Dev nD) (base : Vec F S512x1024 .f32) (a b : FVec F S256x1024 .f32) : Vec F S512x1024 .f32 :=
  (oM.access (othR c)).write (Elt F) ((oM.access (ownR c)).write (Elt F) base a Finset.univ) b Finset.univ

def outV (c : Dev nD) : Vec F S512x1024 .f32 :=
  if home c then outF c (xV m c) (doneV m c) (k0_pay19 (dsV m (peer 2 c)))
  else outF c (xV m c) (k0_pay1 (dsV m (peer 1 c))) (k0_pay2 (dsV m (peer 3 c)))

end Cert.KernelIdealRun

end
-- ==== Proof.Ideal.Sched.lean ====
/- The protocol on the kernel's fifteen shared semaphores of each device.

   A device's barrier semaphore is raised once by each of its four peers (duty `d` by `peer d`), each handing over the
   landing buffers it will receive into from this device. Each of the seven receive semaphores is raised once, by the
   copy that lands the sender's buffer, and hands over that buffer with its contents; each of the seven send semaphores
   is raised once, by the end of the device's own copy, and hands the source's share back. Home devices (x = y) and
   the others use different semaphores (`pays`, `gets`); an unused one has no duty. -/
module

public import proofs.«01_k».proof.Proof.Ideal.Vals

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

/-- The fifteen shared semaphores of a device: the barrier, the seven send semaphores, the seven receive semaphores. -/
def csem : Fin 15 → SemLoc sig := fun k =>
  if k.val = 0 then .reg barS
  else if h : k.val < 8 then .dma ⟨k.val + 2, by have := h; show _ < 25; omega⟩
  else .dma ⟨k.val + 2, by have := k.2; show _ < 25; omega⟩

abbrev kcell (ck : Dev nD × Fin 15) : GSem nD τ sig := ((ck.1 : Thread nD τ), csem ck.2)
abbrev bar (c : Dev nD) : GSem nD τ sig := ((c : Thread nD τ), .reg barS)
/-- Send semaphore `k`. -/
abbrev sS (k : Fin 7) : DmaSem sig := ⟨k.val + 3, by have := k.2; show _ < 25; omega⟩
/-- Receive semaphore `k`. -/
abbrev rS (k : Fin 7) : DmaSem sig := ⟨k.val + 10, by have := k.2; show _ < 25; omega⟩
abbrev snd (k : Fin 7) (c : Dev nD) : GSem nD τ sig := ((c : Thread nD τ), .dma (sS k))
abbrev rcv (k : Fin 7) (c : Dev nD) : GSem nD τ sig := ((c : Thread nD τ), .dma (rS k))

/-- Where a semaphore stands among the fifteen. -/
def kind (s : SemLoc sig) : Option (Fin 15) := (List.finRange 15).find? fun k => decide (csem k = s)

theorem kind_csem (k : Fin 15) : kind (csem k) = some k := by revert k; decide
theorem csem_inj : Function.Injective csem := fun k k' h => by
  have := kind_csem k; rw [h, kind_csem] at this; exact (Option.some.inj this).symm

theorem csem_bar : csem 0 = .reg barS := rfl
abbrev sIx (k : Fin 7) : Fin 15 := ⟨k.val + 1, by omega⟩
abbrev rIx (k : Fin 7) : Fin 15 := ⟨k.val + 8, by omega⟩
theorem csem_snd (k : Fin 7) : csem (sIx k) = .dma (sS k) := by revert k; decide
theorem csem_rcv (k : Fin 7) : csem (rIx k) = .dma (rS k) := by revert k; decide
theorem kind_bar : kind (.reg barS) = some 0 := kind_csem 0
theorem kind_snd (k : Fin 7) : kind (.dma (sS k)) = some (sIx k) := by rw [← csem_snd]; exact kind_csem _
theorem kind_rcv (k : Fin 7) : kind (.dma (rS k)) = some (rIx k) := by rw [← csem_rcv]; exact kind_csem _

/-! ## Who pays what -/

/-- Device `c` sends copy `k`. -/
def pays (k : Fin 7) (c : Dev nD) : Prop := if k = 0 ∨ k = 3 then ¬ home c else home c
/-- Device `c` receives copy `k`. -/
def gets (k : Fin 7) (c : Dev nD) : Prop := if k = 0 ∨ k = 3 ∨ k = 6 then home c else ¬ home c
instance (k c) : Decidable (pays k c) := by unfold pays; infer_instance
instance (k c) : Decidable (gets k c) := by unfold gets; infer_instance

/-- Across which link copy `k` goes. -/
def link (k : Fin 7) : Fin 4 := ![0, 0, 0, 0, 1, 3, 2] k

theorem gets_peer (k : Fin 7) (c : Dev nD) : gets k (peer (link k) c) ↔ pays k c := by revert k c; decide

/-- The credit of copy `k`. -/
def amt (k : Fin 7) : ℕ := ![16384, 16384, 4096, 16384, 16384, 16384, 16384] k

theorem amt_pos (k : Fin 7) : 0 < amt k := by revert k; decide

/-! ## Points-tos of whole buffers -/

/-- Buffer `b` of device `c`, whole, at share `q`, holding `f`. -/
abbrev pt (b : Ref sig .tc) (c : Dev nD) (q : PosShare TreeShare) (f : Buf (Elt F) ((c : Thread nD τ).loc b)) : sProp 𝕄 :=
  (((c : Thread nD τ).loc b) ↦{q} f)
/-- Buffer `b` of device `c`, whole, at some contents. -/
abbrev ptE (b : Ref sig .tc) (c : Dev nD) : sProp 𝕄 := iprop(∃ f : Buf (Elt F) ((c : Thread nD τ).loc b), pt b c fullShare f)

/-! ## The payloads -/

/-- What `p` hands over when it raises duty `d` of a barrier cell: the buffers it will receive into from that device. -/
def barPay : Fin 4 → Dev nD → sProp 𝕄
  | 0, p => if home p then iprop(ptE (F := F) cc0_scratch2 p ∗ ptE (F := F) cc0_scratch7 p)
      else iprop(ptE (F := F) cc0_scratch3 p ∗ ptE (F := F) cc0_scratch4 p)
  | 1, p => if home p then iprop(emp) else ptE (F := F) cc0_scratch9 p
  | 2, p => if home p then ptE (F := F) cc0_scratch11 p else iprop(emp)
  | 3, p => if home p then iprop(emp) else ptE (F := F) cc0_scratch10 p

/-- What lands on `c` with copy `k`. -/
def rcvPay : Fin 7 → Dev nD → sProp 𝕄
  | 0, c => pt cc0_scratch2 c fullShare (rV m (peer 0 c))
  | 1, c => pt cc0_scratch3 c fullShare (xcV m (peer 0 c))
  | 2, c => pt cc0_scratch4 c fullShare (msV m (peer 0 c))
  | 3, c => pt cc0_scratch7 c fullShare (c1V m (peer 0 c))
  | 4, c => pt cc0_scratch9 c fullShare (dsV m (peer 1 c))
  | 5, c => pt cc0_scratch10 c fullShare (dsV m (peer 3 c))
  | 6, c => pt cc0_scratch11 c fullShare (dsV m (peer 2 c))

/-- What `c` gets back when its own copy `k` is done. -/
def sndPay : Fin 7 → Dev nD → sProp 𝕄
  | 0, c => pt cc0_stg1_0 c fullShare (rV m c)
  | 1, c => pt cc0_scratch3 c fullShare.right (xcV m c)
  | 2, c => pt cc0_scratch5 c fullShare (msV m c)
  | 3, c => pt cc0_scratch6 c fullShare (c1V m c)
  | 4, c => pt cc0_scratch8 c fullShare.left (dsV m c)
  | 5, c => pt cc0_scratch8 c fullShare.right.left (dsV m c)
  | 6, c => pt cc0_scratch8 c fullShare.right.right (dsV m c)

instance barPay_storable (d : Fin 4) (p : Dev nD) : BI.Storable (upEmb : UEmb _ 𝕄) (barPay (F := F) d p) := by
  fin_cases d <;> simp only [barPay] <;> (try split) <;> infer_instance
instance rcvPay_storable (k : Fin 7) (c : Dev nD) : BI.Storable (upEmb : UEmb _ 𝕄) (rcvPay m k c) := by
  fin_cases k <;> simp only [rcvPay] <;> infer_instance
instance sndPay_storable (k : Fin 7) (c : Dev nD) : BI.Storable (upEmb : UEmb _ 𝕄) (sndPay m k c) := by
  fin_cases k <;> simp only [sndPay] <;> infer_instance

/-- The payload of a cell by its place among the fifteen. -/
def payK (c : Dev nD) (k : Fin 15) (d : Fin 4) : sProp 𝕄 :=
  if k.val = 0 then barPay d (peer d c)
  else if h : k.val < 8 then sndPay m ⟨k.val - 1, by omega⟩ c
  else rcvPay m ⟨k.val - 8, by omega⟩ c

instance payK_storable (c : Dev nD) (k : Fin 15) (d : Fin 4) : BI.Storable (upEmb : UEmb _ 𝕄) (payK m c k d) := by
  unfold payK; (repeat' split) <;> infer_instance

/-- The duties of a cell by its place. -/
def dutK (c : Dev nD) (k : Fin 15) : Finset (Fin 4) :=
  if k.val = 0 then Finset.univ
  else if h : k.val < 8 then (if pays ⟨k.val - 1, by omega⟩ c then {0} else ∅)
  else (if gets ⟨k.val - 8, by omega⟩ c then {0} else ∅)

/-- The amount of a cell's duties by its place. -/
def amtK (k : Fin 15) : ℕ :=
  if k.val = 0 then 1 else if h : k.val < 8 then amt ⟨k.val - 1, by omega⟩ else amt ⟨k.val - 8, by omega⟩

theorem amtK_pos (k : Fin 15) : 0 < amtK k := by revert k; decide

/-- The protocol: one round, round 0. -/
def Rd : Rounds.Schedule (GSem nD τ sig) (Fin 4) 𝕄 where
  duties g r := if r = 0 ∧ g.1.2 = .tc then (match kind g.2 with | some k => dutK g.1.1 k | none => ∅) else ∅
  unitless _ := False
  amount g _ _ := match kind g.2 with | some k => amtK k | none => 1
  payload g _ d := match kind g.2 with | some k => payK m g.1.1 k d | none => iprop(emp)
  amount_pos g _ _ _ := by
    cases kind g.2 with
    | none => exact Nat.one_pos
    | some k => exact amtK_pos k

instance Rd_payload_storable (g : GSem nD τ sig) (r : ℕ) (d : Fin 4) :
    BI.Storable (upEmb : UEmb _ 𝕄) ((Rd m).payload g r d) := by
  show BI.Storable upEmb (match kind g.2 with | some k => payK m g.1.1 k d | none => iprop(emp))
  cases kind g.2 <;> infer_instance

/-! ## The schedule's tables -/

section Tables
variable (c : Dev nD) (k : Fin 7)

theorem duties_bar : (Rd m).duties (bar c) 0 = Finset.univ := by
  dsimp only [Rd]; rw [if_pos ⟨rfl, rfl⟩, kind_bar]; rfl
theorem duties_snd : (Rd m).duties (snd k c) 0 = if pays k c then {0} else ∅ := by
  dsimp only [Rd]; rw [if_pos ⟨rfl, rfl⟩, kind_snd]
  dsimp only [dutK]; rw [if_neg (by omega), dif_pos (by omega)]; rfl
theorem duties_rcv : (Rd m).duties (rcv k c) 0 = if gets k c then {0} else ∅ := by
  dsimp only [Rd]; rw [if_pos ⟨rfl, rfl⟩, kind_rcv]
  dsimp only [dutK]; rw [if_neg (by omega), dif_neg (by omega)]; rfl
theorem duties_later (g : GSem nD τ sig) : ∀ r, 1 ≤ r → (Rd m).duties g r = ∅ :=
  fun r hr => by dsimp only [Rd]; rw [if_neg fun h => by omega]
theorem duties_none_snd (h : ¬ pays k c) : ∀ r, 0 ≤ r → (Rd m).duties (snd k c) r = ∅ := fun r _ => by
  rcases Nat.eq_zero_or_pos r with rfl | hr
  · rw [duties_snd, if_neg h]
  · exact duties_later m _ r hr
theorem duties_none_rcv (h : ¬ gets k c) : ∀ r, 0 ≤ r → (Rd m).duties (rcv k c) r = ∅ := fun r _ => by
  rcases Nat.eq_zero_or_pos r with rfl | hr
  · rw [duties_rcv, if_neg h]
  · exact duties_later m _ r hr

theorem amount_bar (d : Fin 4) : (Rd m).amount (bar c) 0 d = 1 := by dsimp only [Rd]; rw [kind_bar]; rfl
theorem amount_snd (d : Fin 4) : (Rd m).amount (snd k c) 0 d = amt k := by
  dsimp only [Rd]; rw [kind_snd]; dsimp only [amtK]; rw [if_neg (by omega), dif_pos (by omega)]; rfl
theorem amount_rcv (d : Fin 4) : (Rd m).amount (rcv k c) 0 d = amt k := by
  dsimp only [Rd]; rw [kind_rcv]; dsimp only [amtK]; rw [if_neg (by omega), dif_neg (by omega)]; rfl

theorem payload_bar (d : Fin 4) : (Rd m).payload (bar c) 0 d = barPay d (peer d c) := by
  dsimp only [Rd]; rw [kind_bar]; rfl
theorem payload_snd (d : Fin 4) : (Rd m).payload (snd k c) 0 d = sndPay m k c := by
  dsimp only [Rd]; rw [kind_snd]; dsimp only [payK]; rw [if_neg (by omega), dif_pos (by omega)]; rfl
theorem payload_rcv (d : Fin 4) : (Rd m).payload (rcv k c) 0 d = rcvPay m k c := by
  dsimp only [Rd]; rw [kind_rcv]; dsimp only [payK]; rw [if_neg (by omega), dif_neg (by omega)]; rfl

theorem expect_bar : (Rd m).expect (bar c) 0 = 4 := by
  unfold Schedule.expect Schedule.amountOf
  rw [duties_bar, Finset.sum_congr rfl fun d _ => amount_bar m c d, Finset.sum_const, Finset.card_univ, Fintype.card_fin, smul_eq_mul]
theorem expect_snd (h : pays k c) : (Rd m).expect (snd k c) 0 = amt k := by
  unfold Schedule.expect Schedule.amountOf; rw [duties_snd, if_pos h, Finset.sum_singleton, amount_snd]
theorem expect_rcv (h : gets k c) : (Rd m).expect (rcv k c) 0 = amt k := by
  unfold Schedule.expect Schedule.amountOf; rw [duties_rcv, if_pos h, Finset.sum_singleton, amount_rcv]

/-- What a barrier wait brings: the four peers' payloads. -/
theorem rest_bar : bigSep ((Rd m).duties (bar c) 0 \ ∅) (fun d => (Rd m).payload (bar c) 0 d)
    = iprop(barPay (F := F) 0 (peer 0 c) ∗ barPay (F := F) 1 (peer 1 c) ∗ barPay (F := F) 2 (peer 2 c) ∗ barPay (F := F) 3 (peer 3 c)) := by
  rw [Finset.sdiff_empty, duties_bar, bigSep_univ_eq_bigSepL [0, 1, 2, 3] (by decide) (by decide), bigSepL_cons_cons, bigSepL_cons_cons,
    bigSepL_cons_cons, bigSepL_singleton, payload_bar, payload_bar, payload_bar, payload_bar]
  rfl
theorem rest_snd (h : pays k c) : bigSep ((Rd m).duties (snd k c) 0 \ ∅) (fun d => (Rd m).payload (snd k c) 0 d) = sndPay m k c := by
  rw [Finset.sdiff_empty, duties_snd, if_pos h, bigSep_singleton, payload_snd]
theorem rest_rcv (h : gets k c) : bigSep ((Rd m).duties (rcv k c) 0 \ ∅) (fun d => (Rd m).payload (rcv k c) 0 d) = rcvPay m k c := by
  rw [Finset.sdiff_empty, duties_rcv, if_pos h, bigSep_singleton, payload_rcv]

end Tables

/-! ## Levels -/

/-- The level of a semaphore: the barrier first, then the receive semaphores in the order their payloads depend on. -/
def lvS : SemLoc sig → ℕ
  | .reg s => if s = barS then 1 else 0
  | .dma q => if h : 10 ≤ q.val ∧ q.val < 17 then (![2, 3, 4, 5, 6, 6, 6] : Fin 7 → ℕ) ⟨q.val - 10, by omega⟩ else 0

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Everything owed under `O` lies on a TensorCore's cell at a level above `n`. -/
def Above (n : ℕ) (O : CellTallies nD τ sig Unit) : Prop := ∀ (g : GSem nD τ sig) (i : Unit), 0 < O g i → g.1.2 = .tc ∧ n < lvS g.2

theorem Above.zero (n : ℕ) : Above n 0 := fun g i h => absurd h (by simp)
theorem Above.add {n : ℕ} {O O' : CellTallies nD τ sig Unit} (h : Above n O) (h' : Above n O') : Above n (O + O') := fun g i hg => by
  rcases Pipeline.add_pos_cases hg with hg | hg
  · exact h g i hg
  · exact h' g i hg
theorem Above.tally {n : ℕ} (c : Dev nD) (s : SemLoc sig) (k : ℕ) (h : n < lvS s) :
    Above n (tallyAt ((c : Thread nD τ), s) () k) := fun g i hg => by
  obtain ⟨rfl, -⟩ := Pipeline.tallyAt_pos hg
  exact ⟨rfl, h⟩
theorem Above.mono {n n' : ℕ} {O : CellTallies nD τ sig Unit} (h : Above n O) (hn : n' ≤ n) : Above n' O := fun g i hg =>
  ⟨(h g i hg).1, lt_of_le_of_lt hn (h g i hg).2⟩

/-- A wait is allowed while everything owed lies above it. -/
theorem mayWait (c : Dev nD) (s : SemLoc sig) (n : ℕ) (hs : lvS s = n) (O : CellTallies nD τ sig Unit) (hO : Above n O) :
    (levAts L lv : sProp 𝕄) ⊢ MayWait (c : Thread nD τ) s () O :=
  Pipeline.mayWait_of_levAts (by rw [L_tc]; exact Finset.mem_singleton_self _) fun g i hg => by
    refine ⟨?_, ?_⟩
    · rw [L, if_pos (hO g i hg).1]; exact Finset.mem_singleton_self _
    · show lvS s < lvS g.2
      rw [hs]; exact (hO g i hg).2

/-! ## What a device owes -/

/-- What device `c` owes by copy `k`. -/
def owK (c : Dev nD) (k : Fin 7) : CellTallies nD τ sig Unit :=
  tallyAt (rcv k (peer (link k) c)) () (if pays k c then amt k else 0)
/-- What it owes its four peers' barriers. -/
def owB (c : Dev nD) (d : Fin 4) : CellTallies nD τ sig Unit := tallyAt (bar (peer d c)) () 1

/-- What device `c` owes at launch. -/
def O₀ (c : Dev nD) : CellTallies nD τ sig Unit := (∑ k, owK c k) + owB c 3 + owB c 2 + owB c 1 + owB c 0

/-- The debts of a home device after the barrier, the first paid last. -/
theorem owed_home {c : Dev nD} (h : home c) :
    (∑ k, owK c k) = tallyAt (rcv 6 (peer 2 c)) () 16384 + tallyAt (rcv 5 (peer 3 c)) () 16384 + tallyAt (rcv 4 (peer 1 c)) () 16384
      + tallyAt (rcv 2 (peer 0 c)) () 4096 + tallyAt (rcv 1 (peer 0 c)) () 16384 := by
  have e0 : owK c 0 = 0 := by unfold owK; rw [if_neg (by unfold pays; simpa using h)]; exact tallyAt_zero _ _
  have e3 : owK c 3 = 0 := by unfold owK; rw [if_neg (by unfold pays; simpa using h)]; exact tallyAt_zero _ _
  have e (k : Fin 7) (hk : ¬ (k = 0 ∨ k = 3)) : owK c k = tallyAt (rcv k (peer (link k) c)) () (amt k) := by
    unfold owK; rw [if_pos (by unfold pays; rw [if_neg hk]; exact h)]
  rw [Fin.sum_univ_seven, e0, e3, e 1 (by decide), e 2 (by decide), e 4 (by decide), e 5 (by decide), e 6 (by decide), zero_add, add_zero]
  show tallyAt (rcv 1 (peer 0 c)) () 16384 + tallyAt (rcv 2 (peer 0 c)) () 4096 + tallyAt (rcv 4 (peer 1 c)) () 16384
    + tallyAt (rcv 5 (peer 3 c)) () 16384 + tallyAt (rcv 6 (peer 2 c)) () 16384 = _
  ac_rfl

/-- The debts of a device away from home after the barrier. -/
theorem owed_away {c : Dev nD} (h : ¬ home c) :
    (∑ k, owK c k) = tallyAt (rcv 3 (peer 0 c)) () 16384 + tallyAt (rcv 0 (peer 0 c)) () 16384 := by
  have e0 (k : Fin 7) (hk : ¬ (k = 0 ∨ k = 3)) : owK c k = 0 := by
    unfold owK; rw [if_neg (by unfold pays; rw [if_neg hk]; exact h)]; exact tallyAt_zero _ _
  have e (k : Fin 7) (hk : k = 0 ∨ k = 3) : owK c k = tallyAt (rcv k (peer (link k) c)) () (amt k) := by
    unfold owK; rw [if_pos (by unfold pays; rw [if_pos hk]; exact h)]
  rw [Fin.sum_univ_seven, e0 1 (by decide), e0 2 (by decide), e0 4 (by decide), e0 5 (by decide), e0 6 (by decide), e 0 (by decide), e 3 (by decide)]
  simp only [add_zero]
  show tallyAt (rcv 0 (peer 0 c)) () 16384 + tallyAt (rcv 3 (peer 0 c)) () 16384 = _
  ac_rfl

theorem above_O₀ (c : Dev nD) : Above 0 (O₀ c) := by
  unfold O₀ owB
  have hK : Above 0 (∑ k, owK c k) := by
    rw [Fin.sum_univ_seven]
    have h (k : Fin 7) : Above 0 (owK c k) := Above.tally _ _ _ (by revert k; decide)
    exact ((((((h 0).add (h 1)).add (h 2)).add (h 3)).add (h 4)).add (h 5)).add (h 6)
  have hB (d : Fin 4) : Above 0 (tallyAt (bar (peer d c)) () 1) := Above.tally _ _ _ (by decide)
  exact (((hK.add (hB 3)).add (hB 2)).add (hB 1)).add (hB 0)

end Cert.KernelIdealRun

end
-- ==== Proof.Ideal.Weights.lean ====
/- The weight windows: a local copy of a rectangle of a weight array into one window of a landing buffer, its wait, and
   the load of that window. A window is known by its semaphore, the part `S` of the landing buffer it owns, and the
   contents `X` the load will read. -/
module

public import proofs.«01_k».proof.Proof.Ideal.Sched

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## One window, in general -/

section Window
variable {dM dA sz : Fin 3 → ℕ} {u : Shape}

/-- The window of `M` at `o`, with the unit axis dropped. -/
abbrev cut {sp : Space} {d : Fin 3 → ℕ} (M : Memref sig .tc sp ⟨3, d⟩ .f32) (o : Fin 3 → ℕ) (h : ∀ a, o a + sz a ≤ d a)
    (hq : (⟨3, sz⟩ : Shape).Squeezes u) : Memref sig .tc sp u .f32 :=
  (M.slice (Rect.unit (s := ⟨3, d⟩) o sz h) (fun _ => rfl)).squeeze u hq

/-- What a load of the window of `M` at `o` reads. -/
abbrev rdw {sp : Space} {d : Fin 3 → ℕ} (M : Memref sig .tc sp ⟨3, d⟩ .f32) (o : Fin 3 → ℕ) (h : ∀ a, o a + sz a ≤ d a)
    (f : M.view.ty.Contents (Elt F)) : FVec F ⟨3, sz⟩ .f32 :=
  M.view.readAt (Elt F) (Rect.unit (s := ⟨3, d⟩) o sz h).toLoadRect f

omit [FloatOps F] in
/-- A window just written from another reads as that one. -/
theorem rdw_write (M : Memref sig .tc .vmem ⟨3, dM⟩ .f32) (A : Memref sig .tc .hbm ⟨3, dA⟩ .f32) (o o' : Fin 3 → ℕ)
    (h : ∀ a, o a + sz a ≤ dM a) (h' : ∀ a, o' a + sz a ≤ dA a) (hq : (⟨3, sz⟩ : Shape).Squeezes u)
    (f : M.view.ty.Contents (Elt F)) (V : A.view.ty.Contents (Elt F)) :
    rdw M o h ((cut M o h hq).view.write (Elt F) f ((cut A o' h' hq).view.read (Elt F) V) Finset.univ) = rdw A o' h' V := by
  show (M.view.slice _).read (Elt F) (((M.view.slice (Rect.unit (s := ⟨3, dM⟩) o sz h)).reshape u hq.numel_eq).write (Elt F) f _ Finset.univ) = _
  rw [View.write_reshape_univ, View.read_write_univ]
  funext x
  show (A.view.slice (Rect.unit (s := ⟨3, dA⟩) o' sz h')).read (Elt F) V (Shape.reshapeEquiv hq.numel_eq ((Shape.reshapeEquiv hq.numel_eq).symm x)) = _
  rw [Equiv.apply_symm_apply]; rfl

variable (c : Dev nD) (sm : DmaSem sig) (M : Memref sig .tc .vmem ⟨3, dM⟩ .f32) (S : Finset M.view.ty.Idx)
  (o : Fin 3 → ℕ) (h : ∀ a, o a + sz a ≤ dM a) (q : PosShare TreeShare) (A : Memref sig .tc .hbm ⟨3, dA⟩ .f32)
  (V : A.view.ty.Contents (Elt F)) (X : FVec F ⟨3, sz⟩ .f32)

/-- The part `S` of the landing buffer, holding contents whose window at `o` reads `X`. -/
def wbuf : sProp 𝕄 :=
  iprop(∃ f : M.view.ty.Contents (Elt F), ⌜rdw M o h f = X⌝ ∗ (M.view.loc (c : Thread nD τ) ↦[S]{fullShare} f))

/-- A window at rest: its semaphore at zero, its part of the landing buffer, its share of the weight array. -/
def wheld : sProp 𝕄 :=
  iprop(semVal ((c : Thread nD τ), SemLoc.dma sm) 0 ∗ wbuf c M S o h X ∗ (A.view.loc (c : Thread nD τ) ↦{q} V))

/-- A window being filled: waiting for `N` units gives it back, reading `X`. -/
def wfly (N : ℕ) : sProp 𝕄 :=
  iprop(∃ D : sProp 𝕄, Transfers.Flight (countersEmb (U := UU)) (c : Thread nD τ) (SemLoc.dma sm) () N D
    ∗ (D -∗ (wbuf c M S o h X ∗ (A.view.loc (c : Thread nD τ) ↦{q} V))))

variable {c sm M S o h q A V X}

/-- Starting the copy of a rectangle of the weight array into a window at rest. -/
theorem wp_wstart {α : Type} {Q : α → sProp 𝕄} {o' : Fin 3 → ℕ} {h' : ∀ a, o' a + sz a ≤ dA a} {hq : (⟨3, sz⟩ : Shape).Squeezes u} {N : ℕ}
    (hN : (cut M o h hq).view.dmaCredit = N) (hN0 : 0 < N) (hS : (cut M o h hq).view.set ⊆ S)
    {hsrc : (cut A o' h' hq).view.WordExact} {hdst : (cut M o h hq).view.WordExact}
    {hsem : DmaTarget.Typed (nD := nD) (τ := τ) (p := .tc) .hbm (.dma sm) (.here (cut M o h hq))}
    {k : PUnit → Prog (TpuEff nD τ sig (Elt F) Λ₀ .tc) α} :
    wheld c sm M S o h q A V X
      ⊢ iprop((wfly c sm M S o h q A V (rdw A o' h' V) N -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (cut A o' h' hq) (.here (cut M o h hq)) (.dma sm) hsrc hdst hsem) k) Q) := by
  unfold wheld wbuf
  iintro ⟨Hv, ⟨%f, %hf, Hd⟩, HA⟩ Hk
  ihave HA' := (pointsTo_split_subset (I := (cut A o' h' hq).view.set) (Finset.subset_univ _)).1 $$ HA
  icases HA' with ⟨HA, HR⟩
  iapply (Transfers.wp_dmaLocal (countersEmb (U := UU)) 𝒱₀ (c : Thread nD τ) none (via := .same) (dst := cut M o h hq) (sm := .dma sm) () N hN hN0 hS) $$ [HA Hd Hv]
  · isplitl [HA]; · iexact HA
    isplitl [Hd] <;> iassumption
  iintro HF
  iapply Hk
  unfold wfly
  iexists _
  isplitl [HF]; · iexact HF
  iintro ⟨Hd, HA⟩
  isplitl [Hd]
  · unfold wbuf
    iexists _
    isplitr
    · ipureintro; exact rdw_write M A o o' h h' hq f V
    iexact Hd
  iapply (pointsTo_split_subset (I := (cut A o' h' hq).view.set) (Finset.subset_univ _)).2
  isplitl [HA]; · iexact HA
  iexact HR

/-- Waiting for a window being filled. -/
theorem wp_wwait {α : Type} {Q : α → sProp 𝕄} {N n : ℕ} {O : CellTallies nD τ sig Unit} (hO : Above n O) (hs : lvS (.dma sm) = n) {s' : Shape} {e' : EltTy} {sp' : Space}
    {srcw : Memref sig .tc sp' s' e'} {sp'' : Space} {s'' : Shape} {e'' : EltTy} {dstw : Memref sig .tc sp'' s'' e''} {hsrc : srcw.view.WordExact} {hdst : dstw.view.WordExact}
    (hN : dstw.view.dmaCredit = N) {W : Waits sig Unit} {k : PUnit → Prog (TpuEff nD τ sig (Elt F) Λ₀ .tc) α} :
    iprop(wfly c sm M S o h q A V X N ∗ owes (c : Thread nD τ) O W ∗ levAts L lv)
      ⊢ iprop(((wheld c sm M S o h q A V X ∗ owes (c : Thread nD τ) O (insert (SemLoc.dma sm, ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dstw hsrc hdst) k) Q) := by
  unfold wfly
  iintro ⟨⟨%D, HF, HD⟩, HO, Hl⟩ Hk
  iapply (Transfers.wp_waitLocalO (countersEmb (U := UU)) 𝒱₀ (c : Thread nD τ) none () hN) $$ [HF HO Hl]
  · isplitl [HF]; · iexact HF
    isplitl [HO]; · iexact HO
    iapply (mayWait c (.dma sm) n hs O hO) $$ Hl
  iintro ⟨HD', Hv, HO⟩
  iapply Hk
  isplitl [Hv HD HD']
  · unfold wheld
    isplitl [Hv]; · iexact Hv
    iapply HD $$ HD'
  iexact HO

/-- Loading a window at rest. -/
theorem wp_wload {α : Type} {Q : α → sProp 𝕄} (hS : (M.access (Rect.unit (s := ⟨3, dM⟩) o sz h)).set ⊆ S)
    {hl : M.view.LoadsAt (Rect.unit (s := ⟨3, dM⟩) o sz h).toLoadRect}
    {k : ((Rect.unit (s := ⟨3, dM⟩) o sz h).shape.Idx → Elt F .f32) → Prog (TpuEff nD τ sig (Elt F) Λ₀ .tc) α} :
    wheld c sm M S o h q A V X
      ⊢ iprop((wheld c sm M S o h q A V X -∗ wp frame (wpE (defs₀ (F := F)) 𝒱₀ (c : Thread nD τ) none) Set.univ (k X) Q)
          -∗ wp frame (wpE (defs₀ (F := F)) 𝒱₀ (c : Thread nD τ) none) Set.univ
            (.op (.load M (Rect.unit (s := ⟨3, dM⟩) o sz h).toLoadRect hl) k) Q) := by
  unfold wheld wbuf
  iintro ⟨Hv, ⟨%f, %hf, Hd⟩, HA⟩ Hk
  subst hf
  iapply (wp_load_rect 𝒱₀ (c : Thread nD τ) none Set.univ hS) $$ Hd
  iintro Hd
  iapply Hk
  isplitl [Hv]; · iexact Hv
  isplitl [Hd]
  · iexists f
    isplitr; · ipureintro; rfl
    iexact Hd
  iexact HA

end Window

end Cert.KernelIdealRun

end
-- ==== Proof.Ideal.Parts.lean ====
/- The parts of the kernel that only move and read weights, at the windows' names. -/
module

public import proofs.«01_k».proof.Proof.Ideal.Weights

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The eight windows -/

/-- The rows of the first landing buffer belonging to the window at `o`. -/
def rg1 (o : Fin 3 → ℕ) : Finset w1vM.view.ty.Idx := Finset.univ.filter fun i => (i 0).val = o 0 ∧ (i 1).val / 512 = o 1 / 512
/-- The rows of the second landing buffer belonging to the window at `o`. -/
def rg2 (o : Fin 3 → ℕ) : Finset w2vM.view.ty.Idx := Finset.univ.filter fun i => (i 0).val = o 0 ∧ (i 1).val / 1024 = o 1 / 1024

theorem rg1_cut (o : Fin 3 → ℕ) (h : ∀ a, o a + S1x512x2048.size a ≤ S2x1024x2048.size a) (ho : 512 ∣ o 1) :
    (w1vM.access (Rect.unit (s := S2x1024x2048) o S1x512x2048.size h)).set ⊆ rg1 o := by
  intro i hi
  obtain ⟨x, -, rfl⟩ := Finset.mem_map.mp hi
  have h0 : (x 0).val < 1 := (x 0).2
  have h1 : (x 1).val < 512 := (x 1).2
  refine Finset.mem_filter.mpr ⟨Finset.mem_univ _, ?_, ?_⟩
  · show o 0 + 1 * (x 0).val = o 0; omega
  · show (o 1 + 1 * (x 1).val) / 512 = o 1 / 512; omega

theorem rg2_cut (o : Fin 3 → ℕ) (h : ∀ a, o a + S1x1024x1024.size a ≤ S2x2048x1024.size a) (ho : 1024 ∣ o 1) :
    (w2vM.access (Rect.unit (s := S2x2048x1024) o S1x1024x1024.size h)).set ⊆ rg2 o := by
  intro i hi
  obtain ⟨x, -, rfl⟩ := Finset.mem_map.mp hi
  have h0 : (x 0).val < 1 := (x 0).2
  have h1 : (x 1).val < 1024 := (x 1).2
  refine Finset.mem_filter.mpr ⟨Finset.mem_univ _, ?_, ?_⟩
  · show o 0 + 1 * (x 0).val = o 0; omega
  · show (o 1 + 1 * (x 1).val) / 1024 = o 1 / 1024; omega

theorem rg1_cut' (o : Fin 3 → ℕ) (h : ∀ a, o a + S1x512x2048.size a ≤ S2x1024x2048.size a) (ho : 512 ∣ o 1) :
    (cut w1vM o h squeezes_S1x512x2048_S512x2048).view.set ⊆ rg1 o := by
  show ((w1vM.view.slice _).reshape _ _).set ⊆ _
  rw [View.set_reshape]; exact rg1_cut o h ho
theorem rg2_cut' (o : Fin 3 → ℕ) (h : ∀ a, o a + S1x1024x1024.size a ≤ S2x2048x1024.size a) (ho : 1024 ∣ o 1) :
    (cut w2vM o h squeezes_S1x1024x1024_S1024x1024).view.set ⊆ rg2 o := by
  show ((w2vM.view.slice _).reshape _ _).set ⊆ _
  rw [View.set_reshape]; exact rg2_cut o h ho

/-- Semaphore of window `k`. -/
abbrev wS (k : Fin 8) : DmaSem sig := ⟨k.val + 17, by have := k.2; show _ < 25; omega⟩

/-- The share of a weight array a window reads through. -/
def wq : Fin 4 → PosShare TreeShare := ![fullShare.left.left, fullShare.left.right, fullShare.right.left, fullShare.right.right]

variable (m : (ℓ : Loc nD τ sig) → Buf (Elt F) ℓ) (c : Dev nD)

/-- The owed tallies of device `c`, whatever waits it has recorded. -/
def ow (O : CellTallies nD τ sig Unit) : sProp 𝕄 := iprop(∃ W : Waits sig Unit, owes (c : Thread nD τ) O W)

/-- Window a0 at rest, reading `X`. -/
abbrev a0 (X : Vec F S1x512x2048 .f32) : sProp 𝕄 := wheld c (wS 0) w1vM (rg1 ![0, 0, 0]) ![0, 0, 0] inb_S2x1024x2048_S1x512x2048_0_0_0 (wq 0) w1M (m ((c : Thread nD τ).loc main_arg2)) X
/-- Window a0 being filled, to read `X`. -/
abbrev a0F (X : Vec F S1x512x2048 .f32) : sProp 𝕄 := wfly c (wS 0) w1vM (rg1 ![0, 0, 0]) ![0, 0, 0] inb_S2x1024x2048_S1x512x2048_0_0_0 (wq 0) w1M (m ((c : Thread nD τ).loc main_arg2)) X 131072

/-- Window b0 at rest, reading `X`. -/
abbrev b0 (X : Vec F S1x1024x1024 .f32) : sProp 𝕄 := wheld c (wS 2) w2vM (rg2 ![0, 0, 0]) ![0, 0, 0] inb_S2x2048x1024_S1x1024x1024_0_0_0 (wq 0) w2M (m ((c : Thread nD τ).loc main_arg3)) X
/-- Window b0 being filled, to read `X`. -/
abbrev b0F (X : Vec F S1x1024x1024 .f32) : sProp 𝕄 := wfly c (wS 2) w2vM (rg2 ![0, 0, 0]) ![0, 0, 0] inb_S2x2048x1024_S1x1024x1024_0_0_0 (wq 0) w2M (m ((c : Thread nD τ).loc main_arg3)) X 131072

/-- Window a1 at rest, reading `X`. -/
abbrev a1 (X : Vec F S1x512x2048 .f32) : sProp 𝕄 := wheld c (wS 1) w1vM (rg1 ![0, 512, 0]) ![0, 512, 0] inb_S2x1024x2048_S1x512x2048_0_512_0 (wq 1) w1M (m ((c : Thread nD τ).loc main_arg2)) X
/-- Window a1 being filled, to read `X`. -/
abbrev a1F (X : Vec F S1x512x2048 .f32) : sProp 𝕄 := wfly c (wS 1) w1vM (rg1 ![0, 512, 0]) ![0, 512, 0] inb_S2x1024x2048_S1x512x2048_0_512_0 (wq 1) w1M (m ((c : Thread nD τ).loc main_arg2)) X 131072

/-- Window b1 at rest, reading `X`. -/
abbrev b1 (X : Vec F S1x1024x1024 .f32) : sProp 𝕄 := wheld c (wS 3) w2vM (rg2 ![0, 1024, 0]) ![0, 1024, 0] inb_S2x2048x1024_S1x1024x1024_0_1024_0 (wq 1) w2M (m ((c : Thread nD τ).loc main_arg3)) X
/-- Window b1 being filled, to read `X`. -/
abbrev b1F (X : Vec F S1x1024x1024 .f32) : sProp 𝕄 := wfly c (wS 3) w2vM (rg2 ![0, 1024, 0]) ![0, 1024, 0] inb_S2x2048x1024_S1x1024x1024_0_1024_0 (wq 1) w2M (m ((c : Thread nD τ).loc main_arg3)) X 131072

/-- Window a2 at rest, reading `X`. -/
abbrev a2 (X : Vec F S1x512x2048 .f32) : sProp 𝕄 := wheld c (wS 4) w1vM (rg1 ![1, 0, 0]) ![1, 0, 0] inb_S2x1024x2048_S1x512x2048_1_0_0 (wq 2) w1M (m ((c : Thread nD τ).loc main_arg2)) X
/-- Window a2 being filled, to read `X`. -/
abbrev a2F (X : Vec F S1x512x2048 .f32) : sProp 𝕄 := wfly c (wS 4) w1vM (rg1 ![1, 0, 0]) ![1, 0, 0] inb_S2x1024x2048_S1x512x2048_1_0_0 (wq 2) w1M (m ((c : Thread nD τ).loc main_arg2)) X 131072

/-- Window b2 at rest, reading `X`. -/
abbrev b2 (X : Vec F S1x1024x1024 .f32) : sProp 𝕄 := wheld c (wS 6) w2vM (rg2 ![1, 0, 0]) ![1, 0, 0] inb_S2x2048x1024_S1x1024x1024_1_0_0 (wq 2) w2M (m ((c : Thread nD τ).loc main_arg3)) X
/-- Window b2 being filled, to read `X`. -/
abbrev b2F (X : Vec F S1x1024x1024 .f32) : sProp 𝕄 := wfly c (wS 6) w2vM (rg2 ![1, 0, 0]) ![1, 0, 0] inb_S2x2048x1024_S1x1024x1024_1_0_0 (wq 2) w2M (m ((c : Thread nD τ).loc main_arg3)) X 131072

/-- Window a3 at rest, reading `X`. -/
abbrev a3 (X : Vec F S1x512x2048 .f32) : sProp 𝕄 := wheld c (wS 5) w1vM (rg1 ![1, 512, 0]) ![1, 512, 0] inb_S2x1024x2048_S1x512x2048_1_512_0 (wq 3) w1M (m ((c : Thread nD τ).loc main_arg2)) X
/-- Window a3 being filled, to read `X`. -/
abbrev a3F (X : Vec F S1x512x2048 .f32) : sProp 𝕄 := wfly c (wS 5) w1vM (rg1 ![1, 512, 0]) ![1, 512, 0] inb_S2x1024x2048_S1x512x2048_1_512_0 (wq 3) w1M (m ((c : Thread nD τ).loc main_arg2)) X 131072

/-- Window b3 at rest, reading `X`. -/
abbrev b3 (X : Vec F S1x1024x1024 .f32) : sProp 𝕄 := wheld c (wS 7) w2vM (rg2 ![1, 1024, 0]) ![1, 1024, 0] inb_S2x2048x1024_S1x1024x1024_1_1024_0 (wq 3) w2M (m ((c : Thread nD τ).loc main_arg3)) X
/-- Window b3 being filled, to read `X`. -/
abbrev b3F (X : Vec F S1x1024x1024 .f32) : sProp 𝕄 := wfly c (wS 7) w2vM (rg2 ![1, 1024, 0]) ![1, 1024, 0] inb_S2x2048x1024_S1x1024x1024_1_1024_0 (wq 3) w2M (m ((c : Thread nD τ).loc main_arg3)) X 131072

/-- Waiting for a window being filled, whatever waits are recorded. -/
theorem wp_wwait' {dM dA sz : Fin 3 → ℕ} {sm : DmaSem sig} {M : Memref sig .tc .vmem ⟨3, dM⟩ .f32} {S : Finset M.view.ty.Idx}
    {o : Fin 3 → ℕ} {h : ∀ a, o a + sz a ≤ dM a} {q : PosShare TreeShare} {A : Memref sig .tc .hbm ⟨3, dA⟩ .f32}
    {V : A.view.ty.Contents (Elt F)} {X : FVec F ⟨3, sz⟩ .f32} {α : Type} {Q : α → sProp 𝕄}
    {N : ℕ} {O : CellTallies nD τ sig Unit} (hO : Above 0 O) (hs : lvS (.dma sm) = 0) {s' : Shape} {e' : EltTy} {sp' : Space}
    {srcw : Memref sig .tc sp' s' e'} {sp'' : Space} {s'' : Shape} {e'' : EltTy} {dstw : Memref sig .tc sp'' s'' e''} {hsrc : srcw.view.WordExact} {hdst : dstw.view.WordExact}
    (hN : dstw.view.dmaCredit = N) {k : PUnit → Prog (TpuEff nD τ sig (Elt F) Λ₀ .tc) α} :
    iprop(wfly c sm M S o h q A V X N ∗ ow c O ∗ levAts L lv)
      ⊢ iprop(((wheld c sm M S o h q A V X ∗ ow c O)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dstw hsrc hdst) k) Q) := by
  unfold ow
  iintro ⟨HF, ⟨%W, HO⟩, Hl⟩ Hk
  iapply (wp_wwait hO hs hN (W := W)) $$ [HF HO Hl]
  · isplitl [HF]; · iexact HF
    isplitl [HO] <;> iassumption
  iintro ⟨HF, HO⟩
  iapply Hk
  isplitl [HF]; · iexact HF
  iexists _; iexact HO

variable {m c}

/-- Three more first windows are set filling. -/
theorem part6_wp {Xa1} {Xb1} {Xa2} {Xb2} {Q}  :
    iprop(a1 m c Xa1 ∗ b1 m c Xb1 ∗ a2 m c Xa2 ∗ b2 m c Xb2)
      ⊢ iprop(((a1F m c (w1b m c 0 1) ∗ b1F m c (w2b m c 0 1) ∗ a2F m c (w1b m c 1 0) ∗ b2F m c (w2b m c 1 0)) -∗ Q ⟨⟩)
        -∗ wp frame (wpE (defs₀ (F := F)) 𝒱₀ (c : Thread nD τ) none) Set.univ (k0_part6_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA ) Q) := by
  unfold k0_part6_skel
  simp only [Prog.lift, Prog.bind_op, Prog.bind_ret, Prog.pure_eq_ret]
  iintro ⟨Ha1, Hb1, Ha2, Hb2⟩ Hk
  iapply (wp_wstart (N := 131072) rfl (by decide) (rg1_cut' _ _ (by decide))) $$ Ha1
  iintro Ha1
  iapply (wp_wstart (N := 131072) rfl (by decide) (rg2_cut' _ _ (by decide))) $$ Hb1
  iintro Hb1
  iapply (wp_wstart (N := 131072) rfl (by decide) (rg1_cut' _ _ (by decide))) $$ Ha2
  iintro Ha2
  iapply (wp_wstart (N := 131072) rfl (by decide) (rg2_cut' _ _ (by decide))) $$ Hb2
  iintro Hb2
  rw [wp_ret]
  imodintro
  iapply Hk
  isplitl [Ha1]; · iexact Ha1
  isplitl [Hb1]; · iexact Hb1
  isplitl [Ha2]; · iexact Ha2
  iexact Hb2

/-- Expert 2's second weight set filling; expert 1's first weight arrives. -/
theorem part11_wp {O : CellTallies nD τ sig Unit} (hO : Above 0 O) {Xb0} {Xb1} {Q} (v119 : FVec F S1024x1024 .bf16) (v128 : FVec F S1024x1024 .bf16) (v136 : FVec F S256x1024 .f32) (v157 : FVec F S256x2048 .bf16) :
    iprop(b0 m c Xb0 ∗ b1 m c Xb1 ∗ a2F m c (w1b m c 1 0) ∗ a3F m c (w1b m c 1 1) ∗ ow c O ∗ levAts L lv)
      ⊢ iprop(((b0F m c (w2b m c 2 0) ∗ b1F m c (w2b m c 2 1) ∗ a2 m c (w1b m c 1 0) ∗ a3 m c (w1b m c 1 1) ∗ ow c O) -∗ Q ⟨k0_pay30 v119 v128 v136 v157, k0_pay31 (w1b m c 1 0)⟩)
        -∗ wp frame (wpE (defs₀ (F := F)) 𝒱₀ (c : Thread nD τ) none) Set.univ (k0_part11_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA v119 v128 v136 v157) Q) := by
  unfold k0_part11_skel
  simp only [Prog.lift, Prog.bind_op, Prog.bind_ret, Prog.pure_eq_ret]
  iintro ⟨Hb0, Hb1, Ha2, Ha3, HO, #Hl⟩ Hk
  iapply (wp_wstart (N := 131072) rfl (by decide) (rg2_cut' _ _ (by decide))) $$ Hb0
  iintro Hb0
  iapply (wp_wstart (N := 131072) rfl (by decide) (rg2_cut' _ _ (by decide))) $$ Hb1
  iintro Hb1
  iapply (wp_wwait' c hO (by decide) (N := 131072) rfl) $$ [Ha2 HO]
  · isplitl [Ha2]; · iexact Ha2
    isplitl [HO]; · iexact HO
    iexact Hl
  iintro ⟨Ha2, HO⟩
  iapply (wp_wload (rg1_cut _ _ (by decide))) $$ Ha2
  iintro Ha2
  iapply (wp_wwait' c hO (by decide) (N := 131072) rfl) $$ [Ha3 HO]
  · isplitl [Ha3]; · iexact Ha3
    isplitl [HO]; · iexact HO
    iexact Hl
  iintro ⟨Ha3, HO⟩
  rw [wp_ret]
  imodintro
  iapply Hk
  isplitl [Hb0]; · iexact Hb0
  isplitl [Hb1]; · iexact Hb1
  isplitl [Ha2]; · iexact Ha2
  isplitl [Ha3]; · iexact Ha3
  iexact HO

/-- Expert 3's first weight set filling. -/
theorem part12_wp {O : CellTallies nD τ sig Unit} (hO : Above 0 O) {Xa2} {Q} (v133 : Vec F S256x4 .f32) (v134 : FVec F S256x512 .bf16) (v135 : FVec F S256x512 .bf16) (v184 : FVec F S512x2048 .bf16) :
    iprop(a3 m c (w1b m c 1 1) ∗ a2 m c Xa2 ∗ b2F m c (w2b m c 1 0) ∗ ow c O ∗ levAts L lv)
      ⊢ iprop(((a3F m c (w1b m c 3 1) ∗ a2F m c (w1b m c 3 0) ∗ b2 m c (w2b m c 1 0) ∗ ow c O) -∗ Q (k0_pay32 v133 v134 v135 v184 (w1b m c 1 1)))
        -∗ wp frame (wpE (defs₀ (F := F)) 𝒱₀ (c : Thread nD τ) none) Set.univ (k0_part12_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA v133 v134 v135 v184) Q) := by
  unfold k0_part12_skel
  simp only [Prog.lift, Prog.bind_op, Prog.bind_ret, Prog.pure_eq_ret]
  iintro ⟨Ha3, Ha2, Hb2, HO, #Hl⟩ Hk
  iapply (wp_wload (rg1_cut _ _ (by decide))) $$ Ha3
  iintro Ha3
  iapply (wp_wstart (N := 131072) rfl (by decide) (rg1_cut' _ _ (by decide))) $$ Ha2
  iintro Ha2
  iapply (wp_wstart (N := 131072) rfl (by decide) (rg1_cut' _ _ (by decide))) $$ Ha3
  iintro Ha3
  iapply (wp_wwait' c hO (by decide) (N := 131072) rfl) $$ [Hb2 HO]
  · isplitl [Hb2]; · iexact Hb2
    isplitl [HO]; · iexact HO
    iexact Hl
  iintro ⟨Hb2, HO⟩
  rw [wp_ret]
  imodintro
  iapply Hk
  isplitl [Ha3]; · iexact Ha3
  isplitl [Ha2]; · iexact Ha2
  isplitl [Hb2]; · iexact Hb2
  iexact HO

/-- Expert 1's second weight arrives; expert 3's set filling. -/
theorem part13_wp {O : CellTallies nD τ sig Unit} (hO : Above 0 O)  {Q} (v175 : FVec F S256x1024 .f32) (v214 : FVec F S256x2048 .bf16) :
    iprop(b2 m c (w2b m c 1 0) ∗ b3F m c (w2b m c 1 1) ∗ ow c O ∗ levAts L lv)
      ⊢ iprop(((b2F m c (w2b m c 3 0) ∗ b3F m c (w2b m c 3 1) ∗ ow c O) -∗ Q ⟨k0_pay33 v175 v214 (w2b m c 1 0), k0_pay34 v214 (w2b m c 1 1)⟩)
        -∗ wp frame (wpE (defs₀ (F := F)) 𝒱₀ (c : Thread nD τ) none) Set.univ (k0_part13_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA v175 v214) Q) := by
  unfold k0_part13_skel
  simp only [Prog.lift, Prog.bind_op, Prog.bind_ret, Prog.pure_eq_ret]
  iintro ⟨Hb2, Hb3, HO, #Hl⟩ Hk
  iapply (wp_wload (rg2_cut _ _ (by decide))) $$ Hb2
  iintro Hb2
  iapply (wp_wwait' c hO (by decide) (N := 131072) rfl) $$ [Hb3 HO]
  · isplitl [Hb3]; · iexact Hb3
    isplitl [HO]; · iexact HO
    iexact Hl
  iintro ⟨Hb3, HO⟩
  iapply (wp_wload (rg2_cut _ _ (by decide))) $$ Hb3
  iintro Hb3
  iapply (wp_wstart (N := 131072) rfl (by decide) (rg2_cut' _ _ (by decide))) $$ Hb2
  iintro Hb2
  iapply (wp_wstart (N := 131072) rfl (by decide) (rg2_cut' _ _ (by decide))) $$ Hb3
  iintro Hb3
  rw [wp_ret]
  imodintro
  iapply Hk
  isplitl [Hb2]; · iexact Hb2
  isplitl [Hb3]; · iexact Hb3
  iexact HO

/-- Expert 2's first weight arrives. -/
theorem part14_wp {O : CellTallies nD τ sig Unit} (hO : Above 0 O)  {Q} (v133 : Vec F S256x4 .f32) (v134 : FVec F S256x512 .bf16) (v135 : FVec F S256x512 .bf16) (v247 : FVec F S256x1024 .f32) (v249 : FVec F S256x1024 .f32) :
    iprop(a0F m c (w1b m c 2 0) ∗ a1F m c (w1b m c 2 1) ∗ ow c O ∗ levAts L lv)
      ⊢ iprop(((a0 m c (w1b m c 2 0) ∗ a1 m c (w1b m c 2 1) ∗ ow c O) -∗ Q ⟨k0_pay35 v247 v249, k0_pay36 v133 v134 v135 (w1b m c 2 0) (w1b m c 2 1)⟩)
        -∗ wp frame (wpE (defs₀ (F := F)) 𝒱₀ (c : Thread nD τ) none) Set.univ (k0_part14_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA v133 v134 v135 v247 v249) Q) := by
  unfold k0_part14_skel
  simp only [Prog.lift, Prog.bind_op, Prog.bind_ret, Prog.pure_eq_ret]
  iintro ⟨Ha0, Ha1, HO, #Hl⟩ Hk
  iapply (wp_wwait' c hO (by decide) (N := 131072) rfl) $$ [Ha0 HO]
  · isplitl [Ha0]; · iexact Ha0
    isplitl [HO]; · iexact HO
    iexact Hl
  iintro ⟨Ha0, HO⟩
  iapply (wp_wload (rg1_cut _ _ (by decide))) $$ Ha0
  iintro Ha0
  iapply (wp_wwait' c hO (by decide) (N := 131072) rfl) $$ [Ha1 HO]
  · isplitl [Ha1]; · iexact Ha1
    isplitl [HO]; · iexact HO
    iexact Hl
  iintro ⟨Ha1, HO⟩
  iapply (wp_wload (rg1_cut _ _ (by decide))) $$ Ha1
  iintro Ha1
  rw [wp_ret]
  imodintro
  iapply Hk
  isplitl [Ha0]; · iexact Ha0
  isplitl [Ha1]; · iexact Ha1
  iexact HO

/-- Expert 2's second weight arrives. -/
theorem part15_wp {O : CellTallies nD τ sig Unit} (hO : Above 0 O)  {Q} (v250 : FVec F S256x1024 .f32) (v277 : FVec F S256x2048 .bf16) :
    iprop(b0F m c (w2b m c 2 0) ∗ b1F m c (w2b m c 2 1) ∗ a2F m c (w1b m c 3 0) ∗ ow c O ∗ levAts L lv)
      ⊢ iprop(((b0 m c (w2b m c 2 0) ∗ b1 m c (w2b m c 2 1) ∗ a2 m c (w1b m c 3 0) ∗ ow c O) -∗ Q ⟨k0_pay37 v250 v277 (w2b m c 2 0) (w2b m c 2 1), k0_pay38 (w1b m c 3 0)⟩)
        -∗ wp frame (wpE (defs₀ (F := F)) 𝒱₀ (c : Thread nD τ) none) Set.univ (k0_part15_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA v250 v277) Q) := by
  unfold k0_part15_skel
  simp only [Prog.lift, Prog.bind_op, Prog.bind_ret, Prog.pure_eq_ret]
  iintro ⟨Hb0, Hb1, Ha2, HO, #Hl⟩ Hk
  iapply (wp_wwait' c hO (by decide) (N := 131072) rfl) $$ [Hb0 HO]
  · isplitl [Hb0]; · iexact Hb0
    isplitl [HO]; · iexact HO
    iexact Hl
  iintro ⟨Hb0, HO⟩
  iapply (wp_wload (rg2_cut _ _ (by decide))) $$ Hb0
  iintro Hb0
  iapply (wp_wwait' c hO (by decide) (N := 131072) rfl) $$ [Hb1 HO]
  · isplitl [Hb1]; · iexact Hb1
    isplitl [HO]; · iexact HO
    iexact Hl
  iintro ⟨Hb1, HO⟩
  iapply (wp_wload (rg2_cut _ _ (by decide))) $$ Hb1
  iintro Hb1
  iapply (wp_wwait' c hO (by decide) (N := 131072) rfl) $$ [Ha2 HO]
  · isplitl [Ha2]; · iexact Ha2
    isplitl [HO]; · iexact HO
    iexact Hl
  iintro ⟨Ha2, HO⟩
  iapply (wp_wload (rg1_cut _ _ (by decide))) $$ Ha2
  iintro Ha2
  rw [wp_ret]
  imodintro
  iapply Hk
  isplitl [Hb0]; · iexact Hb0
  isplitl [Hb1]; · iexact Hb1
  isplitl [Ha2]; · iexact Ha2
  iexact HO

/-- Expert 3's first weight arrives. -/
theorem part16_wp {O : CellTallies nD τ sig Unit} (hO : Above 0 O)  {Q} (v133 : Vec F S256x4 .f32) (v134 : FVec F S256x512 .bf16) (v135 : FVec F S256x512 .bf16) (v309 : FVec F S512x2048 .f32) :
    iprop(a3F m c (w1b m c 3 1) ∗ b2F m c (w2b m c 3 0) ∗ ow c O ∗ levAts L lv)
      ⊢ iprop(((a3 m c (w1b m c 3 1) ∗ b2 m c (w2b m c 3 0) ∗ ow c O) -∗ Q ⟨k0_pay39 v133 v134 v135 v309 (w1b m c 3 1), k0_pay40 (w2b m c 3 0)⟩)
        -∗ wp frame (wpE (defs₀ (F := F)) 𝒱₀ (c : Thread nD τ) none) Set.univ (k0_part16_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA v133 v134 v135 v309) Q) := by
  unfold k0_part16_skel
  simp only [Prog.lift, Prog.bind_op, Prog.bind_ret, Prog.pure_eq_ret]
  iintro ⟨Ha3, Hb2, HO, #Hl⟩ Hk
  iapply (wp_wwait' c hO (by decide) (N := 131072) rfl) $$ [Ha3 HO]
  · isplitl [Ha3]; · iexact Ha3
    isplitl [HO]; · iexact HO
    iexact Hl
  iintro ⟨Ha3, HO⟩
  iapply (wp_wload (rg1_cut _ _ (by decide))) $$ Ha3
  iintro Ha3
  iapply (wp_wwait' c hO (by decide) (N := 131072) rfl) $$ [Hb2 HO]
  · isplitl [Hb2]; · iexact Hb2
    isplitl [HO]; · iexact HO
    iexact Hl
  iintro ⟨Hb2, HO⟩
  iapply (wp_wload (rg2_cut _ _ (by decide))) $$ Hb2
  iintro Hb2
  rw [wp_ret]
  imodintro
  iapply Hk
  isplitl [Ha3]; · iexact Ha3
  isplitl [Hb2]; · iexact Hb2
  iexact HO

end Cert.KernelIdealRun

end
-- ==== Proof.Ideal.Steps.lean ====
/- The protocol's steps, one lemma each: a barrier signal, the barrier wait, a copy sent to a peer, the wait for its end,
   the wait for a copy received, and the closing of a semaphore. -/
module

public import proofs.«01_k».proof.Proof.Ideal.Parts

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 15 → ℕ)

/-! ## What every device knows, and what each holds -/

/-- Every shared semaphore's invariant, and that its round 0 is open. -/
def Recs : sProp 𝕄 :=
  iprop((bigSep Finset.univ fun ck : Dev nD × Fin 15 => cellInv ER (Rd m) (K ck) (kcell ck))
    ∗ bigSep Finset.univ fun ck : Dev nD × Fin 15 => reached ER (kcell ck) 0)

instance Recs_persistent : BI.Persistent (Recs m K) := by unfold Recs; infer_instance

theorem inv_at (ck : Dev nD × Fin 15) : Recs m K ⊢ cellInv ER (Rd m) (K ck) (kcell ck) := by
  unfold Recs
  exact sep_elim_left.trans (bigSep_elim (Finset.mem_univ ck))
theorem reached_at (ck : Dev nD × Fin 15) : Recs m K ⊢ reached ER (kcell ck) 0 := by
  unfold Recs
  exact sep_elim_right.trans (bigSep_elim (Finset.mem_univ ck))

theorem inv_bar (c : Dev nD) : Recs m K ⊢ cellInv ER (Rd m) (K (c, 0)) (bar c) := inv_at m K (c, 0)
theorem inv_snd (k : Fin 7) (c : Dev nD) : Recs m K ⊢ cellInv ER (Rd m) (K (c, sIx k)) (snd k c) := by
  have h := inv_at m K (c, sIx k); unfold kcell at h; rwa [csem_snd] at h
theorem inv_rcv (k : Fin 7) (c : Dev nD) : Recs m K ⊢ cellInv ER (Rd m) (K (c, rIx k)) (rcv k c) := by
  have h := inv_at m K (c, rIx k); unfold kcell at h; rwa [csem_rcv] at h
theorem reached_bar (c : Dev nD) : Recs m K ⊢ reached ER (bar c) 0 := reached_at m K (c, 0)
theorem reached_snd (k : Fin 7) (c : Dev nD) : Recs m K ⊢ reached ER (snd k c) 0 := by
  have h := reached_at m K (c, sIx k); unfold kcell at h; rwa [csem_snd] at h
theorem reached_rcv (k : Fin 7) (c : Dev nD) : Recs m K ⊢ reached ER (rcv k c) 0 := by
  have h := reached_at m K (c, rIx k); unfold kcell at h; rwa [csem_rcv] at h

/-- Device `c`'s part in copy `k` out: its send semaphore's position, the two tokens it pays with. -/
def sendKit (k : Fin 7) (c : Dev nD) : sProp 𝕄 :=
  iprop(atPos ER (snd k c) 0 ∅ 0 ∗ dutyTok ER (snd k c) 0 0 ∗ dutyTok ER (rcv k (peer (link k) c)) 0 0)
/-- Copy `k` under way from device `c`. -/
def sentKit (k : Fin 7) (c : Dev nD) : sProp 𝕄 :=
  iprop(atPos ER (snd k c) 0 ∅ 0 ∗ cred (tallyAt (snd k c) () (amt k)))
/-- Device `c`'s part in copy `k` in: its receive semaphore's position, and the credit it waits with. -/
def recvKit (k : Fin 7) (c : Dev nD) : sProp 𝕄 :=
  iprop(atPos ER (rcv k c) 0 ∅ 0 ∗ cred (tallyAt (rcv k c) () (if gets k c then amt k else 0)))
/-- Device `c`'s part in the barrier as the one who waits. -/
def barKit (c : Dev nD) : sProp 𝕄 := iprop(atPos ER (bar c) 0 ∅ 0 ∗ cred (tallyAt (bar c) () 4))

omit [FloatOps F] in
theorem lvS_sS (k : Fin 7) : lvS (.dma (sS k)) = 0 := by revert k; decide

section Steps
variable {m K} {c : Dev nD} {α : Type}

/-- Raising the barrier of `peer d c`. -/
theorem wp_sig {Q : α → sProp 𝕄} (d : Fin 4) {n : Dev nD} (hn : n = peer d c) (O : CellTallies nD τ sig Unit) {O' : CellTallies nD τ sig Unit}
    (hO : O' = O + owB c d) {k' : ℕ} (hk : 1 = k') {k : PUnit → Prog (TpuEff nD τ sig (Elt F) Λ₀ .tc) α} :
    iprop(Recs m K ∗ ow c O' ∗ dutyTok ER (bar (peer d c)) 0 d ∗ barPay (F := F) d c)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn
  unfold ow
  iintro ⟨#HR, ⟨%W, HO⟩, Ht, Hp⟩ Hk
  iapply (Rounds.wp_signal 𝒱₀ ER (Rd m) (c : Thread nD τ) none (dst := (peer d c : Thread nD τ)) (κ := K (peer d c, 0))
      (d := d) (by rw [duties_bar]; exact Finset.mem_univ _) ((amount_bar m (peer d c) d).trans hk) () (O₀ := O') O
      (by rw [hO, ← hk]; rfl)) $$ [HO Ht Hp]
  · isplitr; · iapply (inv_bar m K (peer d c)) $$ HR
    isplitl [HO]; · iexact HO
    isplitl [Ht]; · iexact Ht
    isplitl [Hp]; · rw [payload_bar, peer_peer]; iexact Hp
    iapply (reached_bar m K (peer d c)) $$ HR
  iintro HO
  iapply Hk
  iexists W; iexact HO

/-- Waiting for the barrier: the four peers' landing buffers come with it. -/
theorem wp_bar {Q : α → sProp 𝕄} {O : CellTallies nD τ sig Unit} (hO : Above 1 O) {k' : ℕ} (hk : k' = 4)
    {k : PUnit → Prog (TpuEff nD τ sig (Elt F) Λ₀ .tc) α} :
    iprop(Recs m K ∗ ow c O ∗ levAts L lv ∗ barKit c)
      ⊢ iprop(((ow c O ∗ atPos ER (bar c) 1 ∅ 0
            ∗ barPay (F := F) 0 (peer 0 c) ∗ barPay (F := F) 1 (peer 1 c) ∗ barPay (F := F) 2 (peer 2 c) ∗ barPay (F := F) 3 (peer 3 c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold ow barKit
  iintro ⟨#HR, ⟨%W, HO⟩, #Hl, Hat, Hc⟩ Hk
  iapply (Rounds.wp_wait_rest_token 𝒱₀ ER (Rd m) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Hat]
  · isplitr; · iapply (inv_bar m K c) $$ HR
    isplitl [Hc]; · iexact Hc
    isplitl [HO]; · iexact HO
    isplitr; · iapply (mayWait c (.reg barS) 1 rfl O hO) $$ Hl
    iexact Hat
  iintro ⟨HO, Hat, -, Hp⟩
  ihave Hp := (Entails.of_eq (rest_bar m c)) $$ Hp
  iapply Hk
  isplitl [HO]; · iexists _; iexact HO
  isplitl [Hat]; · iexact Hat
  iexact Hp

/-- Sending copy `k`: the source share goes out with it, the landing buffer on the peer with it, and the debt is paid. -/
theorem wp_send {Q : α → sProp 𝕄} (k : Fin 7) (hp : pays k c) {n : Dev nD} (hn : n = peer (link k) c) {sp : Space} {s : Shape} {e : EltTy}
    {src dst : Memref sig .tc sp s e} {hsc : dst.view.ref.isScScratch = false}
    {hsrc : src.view.WordExact} {hdst : dst.view.WordExact}
    {hsem : DmaTarget.Typed sp (.dma (rS k)) (.remote (Dev.tc n : Thread nD τ) dst (.dma (sS k)) hsc)}
    {q : PosShare TreeShare} {fs : Buf (Elt F) (src.view.loc (c : Thread nD τ))} {fd : Buf (Elt F) (dst.view.loc (peer (link k) c : Thread nD τ))}
    (hN : dst.view.dmaCredit = amt k) (O : CellTallies nD τ sig Unit) {O' : CellTallies nD τ sig Unit}
    (hO : O' = O + tallyAt (rcv k (peer (link k) c)) () (amt k))
    (h₁ : (src.view.loc (c : Thread nD τ) ↦[src.view.set]{q} fs) ⊢ sndPay m k c)
    (h₂ : (dst.view.loc (peer (link k) c : Thread nD τ) ↦[dst.view.set]{fullShare} (dst.view.write (Elt F) fd (src.view.read (Elt F) fs) Finset.univ))
      ⊢ rcvPay m k (peer (link k) c))
    {kk : PUnit → Prog (TpuEff nD τ sig (Elt F) Λ₀ .tc) α} :
    iprop(Recs m K ∗ ow c O' ∗ sendKit k c ∗ (src.view.loc (c : Thread nD τ) ↦[src.view.set]{q} fs)
        ∗ (dst.view.loc (peer (link k) c : Thread nD τ) ↦[dst.view.set]{fullShare} fd))
      ⊢ iprop(((ow c O ∗ sentKit k c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma src (.remote (Dev.tc n : Thread nD τ) dst (.dma (sS k)) hsc) (.dma (rS k)) hsrc hdst hsem) kk) Q) := by
  subst hn
  unfold ow sendKit sentKit
  iintro ⟨#HR, ⟨%W, HO⟩, ⟨Hat, Hts, Htr⟩, Hs, Hd⟩ Hk
  iapply (Rounds.wp_send_pointsTo 𝒱₀ ER (Rd m) (c : Thread nD τ) none (κ₁ := K (c, sIx k)) (κ₂ := K (peer (link k) c, rIx k))
    (r₁ := 0) (r₂ := 0) (d₁ := 0) (d₂ := 0) (fd := fd)
    (by rw [duties_snd, if_pos hp]; exact Finset.mem_singleton_self _)
    (by rw [duties_rcv, if_pos ((gets_peer k c).mpr hp)]; exact Finset.mem_singleton_self _)
    () () (amt k) (show dst.view.amount (.dma (rS k)) = amt k from hN) (amount_snd m c k 0) (amount_rcv m (peer (link k) c) k 0) O hO (W := W)
    (by rw [payload_snd]; exact h₁) (by rw [payload_rcv]; exact h₂)) $$ [HO Hs Hd Hts Htr]
  · isplitr; · iapply (inv_snd m K k c) $$ HR
    isplitr; · iapply (inv_rcv m K k (peer (link k) c)) $$ HR
    isplitl [Hs]; · iexact Hs
    isplitl [Hd]; · iexact Hd
    isplitl [HO]; · iexact HO
    isplitl [Hts]; · iexact Hts
    isplitr; · iapply (reached_snd m K k c) $$ HR
    isplitl [Htr]; · iexact Htr
    iapply (reached_rcv m K k (peer (link k) c)) $$ HR
  iintro ⟨Hc, HO⟩
  iapply Hk
  isplitl [HO]; · iexists W; iexact HO
  isplitl [Hat] <;> iassumption

/-- Waiting for the end of the device's own copy `k`. -/
theorem wp_sent {Q : α → sProp 𝕄} (k : Fin 7) (hp : pays k c) {O : CellTallies nD τ sig Unit} (hO : Above 0 O) {s s' : Shape} {e e' : EltTy} {sp sp' : Space}
    {srcw : Memref sig .tc sp' s' e'} {dstw : Memref sig .tc sp s e} {hsrc : srcw.view.WordExact} {hdst : dstw.view.WordExact}
    (hN : dstw.view.dmaCredit = amt k) {kk : PUnit → Prog (TpuEff nD τ sig (Elt F) Λ₀ .tc) α} :
    iprop(Recs m K ∗ ow c O ∗ levAts L lv ∗ sentKit k c)
      ⊢ iprop(((ow c O ∗ atPos ER (snd k c) 1 ∅ 0 ∗ sndPay m k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sS k) srcw dstw hsrc hdst) kk) Q) := by
  unfold ow sentKit
  iintro ⟨#HR, ⟨%W, HO⟩, #Hl, Hat, Hc⟩ Hk
  iapply (Rounds.wp_wait_rest_token 𝒱₀ ER (Rd m) (c : Thread nD τ) none (κ := K (c, sIx k))
      (wpE_waitDma2_eq 𝒱₀ (c : Thread nD τ) none Set.univ) (Set.mem_univ _) () (O := O) (W := W) (R := 0) (m := 0) (T := ∅)
      (by rw [Nat.zero_add, expect_snd m c k hp]; exact hN)) $$ [Hc HO Hat]
  · isplitr; · iapply (inv_snd m K k c) $$ HR
    isplitl [Hc]; · rw [hN]; iexact Hc
    isplitl [HO]; · iexact HO
    isplitr; · iapply (mayWait c (.dma (sS k)) 0 (lvS_sS k) O hO) $$ Hl
    iexact Hat
  iintro ⟨HO, Hat, -, Hp⟩
  ihave Hp := (Entails.of_eq (rest_snd m c k hp)) $$ Hp
  iapply Hk
  isplitl [HO]; · iexists _; iexact HO
  isplitl [Hat]; · iexact Hat
  iexact Hp

/-- Waiting for copy `k` to land. -/
theorem wp_recv {Q : α → sProp 𝕄} (k : Fin 7) (hg : gets k c) (n : ℕ) (hl : lvS (.dma (rS k)) = n) {O : CellTallies nD τ sig Unit} (hO : Above n O) {s s' : Shape} {e e' : EltTy} {sp sp' : Space}
    {srcw : Memref sig .tc sp' s' e'} {dstw : Memref sig .tc sp s e} {hsrc : srcw.view.WordExact} {hdst : dstw.view.WordExact}
    (hN : dstw.view.dmaCredit = amt k) {kk : PUnit → Prog (TpuEff nD τ sig (Elt F) Λ₀ .tc) α} :
    iprop(Recs m K ∗ ow c O ∗ levAts L lv ∗ recvKit k c)
      ⊢ iprop(((ow c O ∗ atPos ER (rcv k c) 1 ∅ 0 ∗ rcvPay m k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rS k) srcw dstw hsrc hdst) kk) Q) := by
  unfold ow recvKit
  rw [if_pos hg]
  iintro ⟨#HR, ⟨%W, HO⟩, #Hl, Hat, Hc⟩ Hk
  iapply (Rounds.wp_wait_rest_token 𝒱₀ ER (Rd m) (c : Thread nD τ) none (κ := K (c, rIx k))
      (wpE_waitDma2_eq 𝒱₀ (c : Thread nD τ) none Set.univ) (Set.mem_univ _) () (O := O) (W := W) (R := 0) (m := 0) (T := ∅)
      (by rw [Nat.zero_add, expect_rcv m c k hg]; exact hN)) $$ [Hc HO Hat]
  · isplitr; · iapply (inv_rcv m K k c) $$ HR
    isplitl [Hc]; · rw [hN]; iexact Hc
    isplitl [HO]; · iexact HO
    isplitr; · iapply (mayWait c (.dma (rS k)) n hl O hO) $$ Hl
    iexact Hat
  iintro ⟨HO, Hat, -, Hp⟩
  ihave Hp := (Entails.of_eq (rest_rcv m c k hg)) $$ Hp
  iapply Hk
  isplitl [HO]; · iexists _; iexact HO
  isplitl [Hat]; · iexact Hat
  iexact Hp

/-! ## Closing a semaphore -/

theorem close_bar : iprop(Recs m K ∗ atPos ER (bar c) 1 ∅ 0) ⊢ iprop(|={Set.univ}=> semVal (bar c) 0) := by
  iintro ⟨#HR, Hat⟩
  iapply (Rounds.cell_close ER (Rd m) (Set.mem_univ (K (c, 0))) (fun h => h) (R := 1) (duties_later m (bar c)))
  isplitr; · iapply (inv_bar m K c) $$ HR
  iexact Hat
theorem close_snd (k : Fin 7) : iprop(Recs m K ∗ atPos ER (snd k c) 1 ∅ 0) ⊢ iprop(|={Set.univ}=> semVal (snd k c) 0) := by
  iintro ⟨#HR, Hat⟩
  iapply (Rounds.cell_close ER (Rd m) (Set.mem_univ (K (c, sIx k))) (fun h => h) (R := 1) (duties_later m (snd k c)))
  isplitr; · iapply (inv_snd m K k c) $$ HR
  iexact Hat
theorem close_rcv (k : Fin 7) : iprop(Recs m K ∗ atPos ER (rcv k c) 1 ∅ 0) ⊢ iprop(|={Set.univ}=> semVal (rcv k c) 0) := by
  iintro ⟨#HR, Hat⟩
  iapply (Rounds.cell_close ER (Rd m) (Set.mem_univ (K (c, rIx k))) (fun h => h) (R := 1) (duties_later m (rcv k c)))
  isplitr; · iapply (inv_rcv m K k c) $$ HR
  iexact Hat
theorem close_unsent (k : Fin 7) (hp : ¬ pays k c) : iprop(Recs m K ∗ sendKit k c) ⊢ iprop(|={Set.univ}=> semVal (snd k c) 0) := by
  unfold sendKit
  iintro ⟨#HR, Hat, -, -⟩
  iapply (Rounds.cell_close ER (Rd m) (Set.mem_univ (K (c, sIx k))) (fun h => h) (R := 0) (duties_none_snd m c k hp))
  isplitr; · iapply (inv_snd m K k c) $$ HR
  iexact Hat
theorem close_unrecv (k : Fin 7) (hg : ¬ gets k c) : iprop(Recs m K ∗ recvKit k c) ⊢ iprop(|={Set.univ}=> semVal (rcv k c) 0) := by
  unfold recvKit
  iintro ⟨#HR, Hat, -⟩
  iapply (Rounds.cell_close ER (Rd m) (Set.mem_univ (K (c, rIx k))) (fun h => h) (R := 0) (duties_none_rcv m c k hg))
  isplitr; · iapply (inv_rcv m K k c) $$ HR
  iexact Hat

end Steps

end Cert.KernelIdealRun

end
-- ==== Proof.Ideal.Copies.lean ====
/- Loads and stores of whole buffers, the seven copies between devices, and what each wait brings, in the kernel's own
   buffers. -/
module

public import proofs.«01_k».proof.Proof.Ideal.Steps

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {K : Dev nD × Fin 15 → ℕ} {c : Dev nD} {α : Type}

/-- A load at a buffer held whole. -/
theorem wp_ld {Q : α → sProp 𝕄} {s : Shape} {e : EltTy} {M : Memref sig .tc .vmem s e} {r : LoadRect s} {hl : M.view.LoadsAt r}
    {k : (r.shape.Idx → Elt F e) → Prog (TpuEff nD τ sig (Elt F) Λ₀ .tc) α} {q : PosShare TreeShare} {f : Buf (Elt F) (M.view.loc (c : Thread nD τ))}
    (v : r.shape.Idx → Elt F e) (hv : M.view.readAt (Elt F) r f = v) :
    (M.view.loc (c : Thread nD τ) ↦{q} f)
      ⊢ iprop(((M.view.loc (c : Thread nD τ) ↦{q} f) -∗ wp frame (wpE (defs₀ (F := F)) 𝒱₀ (c : Thread nD τ) none) Set.univ (k v) Q)
        -∗ wp frame (wpE (defs₀ (F := F)) 𝒱₀ (c : Thread nD τ) none) Set.univ (.op (.load M r hl) k) Q) := by
  subst hv
  exact wp_load 𝒱₀ (c : Thread nD τ) none Set.univ (Finset.subset_univ _)

/-- A store at a buffer held whole. -/
theorem wp_st {Q : α → sProp 𝕄} (i : Fin (sig.nNear .tc .vmem)) (hκ : sig.names .tc .vmem i = true)
    {r : Rect (sig.tyNear .tc .vmem i).shape} {w : r.shape.Idx → Elt F (sig.tyNear .tc .vmem i).elt}
    {hx : ((Memref.whole ⟨.vmem, i, hκ⟩ : Memref sig .tc _ _ _).access r).Stores Finset.univ} {hm : Finset.univ = Finset.univ ∨ ∀ a, r.stride a = 1}
    {k : PUnit → Prog (TpuEff nD τ sig (Elt F) Λ₀ .tc) α} {f : Buf (Elt F) ((c : Thread nD τ).loc ⟨.vmem, i, hκ⟩)}
    (g : Buf (Elt F) ((c : Thread nD τ).loc ⟨.vmem, i, hκ⟩))
    (hg : ((Memref.whole ⟨.vmem, i, hκ⟩ : Memref sig .tc _ _ _).access r).write (Elt F) f w Finset.univ = g) :
    pt ⟨.vmem, i, hκ⟩ c fullShare f
      ⊢ iprop((pt ⟨.vmem, i, hκ⟩ c fullShare g -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole ⟨.vmem, i, hκ⟩) r w Finset.univ hx hm) k) Q) := by
  iintro H Hk
  iapply (wp_store 𝒱₀ (c : Thread nD τ) none Set.univ (m := Memref.whole ⟨.vmem, i, hκ⟩) (r := r) (f := f) (w := w) (Mk := Finset.univ) (S := Finset.univ) (Finset.subset_univ _)) $$ H
  iintro H
  rw [hg]
  iapply Hk
  iexact H

theorem off00 : (![0, 0] : Fin 2 → ℕ) = fun _ => 0 := by funext a; fin_cases a <;> rfl

/-- The router columns go home. -/
theorem wp_send0 {Q : α → sProp 𝕄} (hp : pays 0 c) {n : Dev nD} (hn : n = peer 0 c) {hsc : rrM.view.ref.isScScratch = false}
    {hsrc : rM.view.WordExact} {hdst : rrM.view.WordExact}
    {hsem : DmaTarget.Typed .vmem (.dma (rS 0)) (.remote (Dev.tc n : Thread nD τ) rrM (.dma (sS 0)) hsc)}
    (O : CellTallies nD τ sig Unit) {O' : CellTallies nD τ sig Unit} (hO : O' = O + tallyAt (rcv 0 (peer 0 c)) () 16384)
    {kk : PUnit → Prog (TpuEff nD τ sig (Elt F) Λ₀ .tc) α} :
    iprop(Recs m K ∗ ow c O' ∗ sendKit 0 c ∗ pt cc0_stg1_0 c fullShare (rV m c) ∗ ptE (F := F) cc0_scratch2 (peer 0 c))
      ⊢ iprop(((ow c O ∗ sentKit 0 c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma rM (.remote (Dev.tc n : Thread nD τ) rrM (.dma (sS 0)) hsc) (.dma (rS 0)) hsrc hdst hsem) kk) Q) := by
  iintro ⟨#HR, HO, Hk, Hs, ⟨%f, Hd⟩⟩ HK
  iapply (wp_send 0 hp (n := n) hn (src := rM) (dst := rrM) (q := fullShare) (fs := rV m c) (fd := f) rfl O hO
    (by rw [View.set_whole]; exact entails_refl _)
    (by
      rw [View.set_whole]
      show (_ ⊢ pt cc0_scratch2 (peer 0 c) fullShare (rV m (peer 0 (peer 0 c))))
      rw [peer_peer]
      exact Entails.of_eq (congrArg (fun g => pt cc0_scratch2 (peer 0 c) fullShare g) (View.write_whole_univ _ _ _)))) $$ [HO Hk Hs Hd]
  · isplitr; · iexact HR
    isplitl [HO]; · iexact HO
    isplitl [Hk]; · iexact Hk
    isplitl [Hs]
    · rw [View.set_whole]; iexact Hs
    · rw [View.set_whole]; iexact Hd
  iexact HK

/-- The token chunk goes across. -/
theorem wp_send1 {Q : α → sProp 𝕄} (hp : pays 1 c) {n : Dev nD} (hn : n = peer 0 c) {hsc : xcM.view.ref.isScScratch = false}
    {hsrc : xcM.view.WordExact} {hdst : xcM.view.WordExact}
    {hsem : DmaTarget.Typed .vmem (.dma (rS 1)) (.remote (Dev.tc n : Thread nD τ) xcM (.dma (sS 1)) hsc)}
    (O : CellTallies nD τ sig Unit) {O' : CellTallies nD τ sig Unit} (hO : O' = O + tallyAt (rcv 1 (peer 0 c)) () 16384)
    {kk : PUnit → Prog (TpuEff nD τ sig (Elt F) Λ₀ .tc) α} :
    iprop(Recs m K ∗ ow c O' ∗ sendKit 1 c ∗ pt cc0_scratch3 c fullShare.right (xcV m c) ∗ ptE (F := F) cc0_scratch3 (peer 0 c))
      ⊢ iprop(((ow c O ∗ sentKit 1 c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma xcM (.remote (Dev.tc n : Thread nD τ) xcM (.dma (sS 1)) hsc) (.dma (rS 1)) hsrc hdst hsem) kk) Q) := by
  iintro ⟨#HR, HO, Hk, Hs, ⟨%f, Hd⟩⟩ HK
  iapply (wp_send 1 hp (n := n) hn (src := xcM) (dst := xcM) (q := fullShare.right) (fs := xcV m c) (fd := f) rfl O hO
    (by rw [View.set_whole]; exact entails_refl _)
    (by
      rw [View.set_whole]
      show (_ ⊢ pt cc0_scratch3 (peer 0 c) fullShare (xcV m (peer 0 (peer 0 c))))
      rw [peer_peer]
      exact Entails.of_eq (congrArg (fun g => pt cc0_scratch3 (peer 0 c) fullShare g) (View.write_whole_univ _ _ _)))) $$ [HO Hk Hs Hd]
  · isplitr; · iexact HR
    isplitl [HO]; · iexact HO
    isplitl [Hk]; · iexact Hk
    isplitl [Hs]
    · rw [View.set_whole]; iexact Hs
    · rw [View.set_whole]; iexact Hd
  iexact HK

/-- The gates go across. -/
theorem wp_send2 {Q : α → sProp 𝕄} (hp : pays 2 c) {n : Dev nD} (hn : n = peer 0 c) {hsc : mcM.view.ref.isScScratch = false}
    {hsrc : msM.view.WordExact} {hdst : mcM.view.WordExact}
    {hsem : DmaTarget.Typed .vmem (.dma (rS 2)) (.remote (Dev.tc n : Thread nD τ) mcM (.dma (sS 2)) hsc)}
    (O : CellTallies nD τ sig Unit) {O' : CellTallies nD τ sig Unit} (hO : O' = O + tallyAt (rcv 2 (peer 0 c)) () 4096)
    {kk : PUnit → Prog (TpuEff nD τ sig (Elt F) Λ₀ .tc) α} :
    iprop(Recs m K ∗ ow c O' ∗ sendKit 2 c ∗ pt cc0_scratch5 c fullShare (msV m c) ∗ ptE (F := F) cc0_scratch4 (peer 0 c))
      ⊢ iprop(((ow c O ∗ sentKit 2 c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma msM (.remote (Dev.tc n : Thread nD τ) mcM (.dma (sS 2)) hsc) (.dma (rS 2)) hsrc hdst hsem) kk) Q) := by
  iintro ⟨#HR, HO, Hk, Hs, ⟨%f, Hd⟩⟩ HK
  iapply (wp_send 2 hp (n := n) hn (src := msM) (dst := mcM) (q := fullShare) (fs := msV m c) (fd := f) rfl O hO
    (by rw [View.set_whole]; exact entails_refl _)
    (by
      rw [View.set_whole]
      show (_ ⊢ pt cc0_scratch4 (peer 0 c) fullShare (msV m (peer 0 (peer 0 c))))
      rw [peer_peer]
      exact Entails.of_eq (congrArg (fun g => pt cc0_scratch4 (peer 0 c) fullShare g) (View.write_whole_univ _ _ _)))) $$ [HO Hk Hs Hd]
  · isplitr; · iexact HR
    isplitl [HO]; · iexact HO
    isplitl [Hk]; · iexact Hk
    isplitl [Hs]
    · rw [View.set_whole]; iexact Hs
    · rw [View.set_whole]; iexact Hd
  iexact HK

/-- The contribution goes home. -/
theorem wp_send3 {Q : α → sProp 𝕄} (hp : pays 3 c) {n : Dev nD} (hn : n = peer 0 c) {hsc : crM.view.ref.isScScratch = false}
    {hsrc : csM.view.WordExact} {hdst : crM.view.WordExact}
    {hsem : DmaTarget.Typed .vmem (.dma (rS 3)) (.remote (Dev.tc n : Thread nD τ) crM (.dma (sS 3)) hsc)}
    (O : CellTallies nD τ sig Unit) {O' : CellTallies nD τ sig Unit} (hO : O' = O + tallyAt (rcv 3 (peer 0 c)) () 16384)
    {kk : PUnit → Prog (TpuEff nD τ sig (Elt F) Λ₀ .tc) α} :
    iprop(Recs m K ∗ ow c O' ∗ sendKit 3 c ∗ pt cc0_scratch6 c fullShare (c1V m c) ∗ ptE (F := F) cc0_scratch7 (peer 0 c))
      ⊢ iprop(((ow c O ∗ sentKit 3 c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma csM (.remote (Dev.tc n : Thread nD τ) crM (.dma (sS 3)) hsc) (.dma (rS 3)) hsrc hdst hsem) kk) Q) := by
  iintro ⟨#HR, HO, Hk, Hs, ⟨%f, Hd⟩⟩ HK
  iapply (wp_send 3 hp (n := n) hn (src := csM) (dst := crM) (q := fullShare) (fs := c1V m c) (fd := f) rfl O hO
    (by rw [View.set_whole]; exact entails_refl _)
    (by
      rw [View.set_whole]
      show (_ ⊢ pt cc0_scratch7 (peer 0 c) fullShare (c1V m (peer 0 (peer 0 c))))
      rw [peer_peer]
      exact Entails.of_eq (congrArg (fun g => pt cc0_scratch7 (peer 0 c) fullShare g) (View.write_whole_univ _ _ _)))) $$ [HO Hk Hs Hd]
  · isplitr; · iexact HR
    isplitl [HO]; · iexact HO
    isplitl [Hk]; · iexact Hk
    isplitl [Hs]
    · rw [View.set_whole]; iexact Hs
    · rw [View.set_whole]; iexact Hd
  iexact HK

/-- The finished chunk goes across x. -/
theorem wp_send4 {Q : α → sProp 𝕄} (hp : pays 4 c) {n : Dev nD} (hn : n = peer 1 c) {hsc : dxM.view.ref.isScScratch = false}
    {hsrc : dsM.view.WordExact} {hdst : dxM.view.WordExact}
    {hsem : DmaTarget.Typed .vmem (.dma (rS 4)) (.remote (Dev.tc n : Thread nD τ) dxM (.dma (sS 4)) hsc)}
    (O : CellTallies nD τ sig Unit) {O' : CellTallies nD τ sig Unit} (hO : O' = O + tallyAt (rcv 4 (peer 1 c)) () 16384)
    {kk : PUnit → Prog (TpuEff nD τ sig (Elt F) Λ₀ .tc) α} :
    iprop(Recs m K ∗ ow c O' ∗ sendKit 4 c ∗ pt cc0_scratch8 c fullShare.left (dsV m c) ∗ ptE (F := F) cc0_scratch9 (peer 1 c))
      ⊢ iprop(((ow c O ∗ sentKit 4 c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma dsM (.remote (Dev.tc n : Thread nD τ) dxM (.dma (sS 4)) hsc) (.dma (rS 4)) hsrc hdst hsem) kk) Q) := by
  iintro ⟨#HR, HO, Hk, Hs, ⟨%f, Hd⟩⟩ HK
  iapply (wp_send 4 hp (n := n) hn (src := dsM) (dst := dxM) (q := fullShare.left) (fs := dsV m c) (fd := f) rfl O hO
    (by rw [View.set_whole]; exact entails_refl _)
    (by
      rw [View.set_whole]
      show (_ ⊢ pt cc0_scratch9 (peer 1 c) fullShare (dsV m (peer 1 (peer 1 c))))
      rw [peer_peer]
      exact Entails.of_eq (congrArg (fun g => pt cc0_scratch9 (peer 1 c) fullShare g) (View.write_whole_univ _ _ _)))) $$ [HO Hk Hs Hd]
  · isplitr; · iexact HR
    isplitl [HO]; · iexact HO
    isplitl [Hk]; · iexact Hk
    isplitl [Hs]
    · rw [View.set_whole]; iexact Hs
    · rw [View.set_whole]; iexact Hd
  iexact HK

/-- The finished chunk goes across the diagonal. -/
theorem wp_send5 {Q : α → sProp 𝕄} (hp : pays 5 c) {n : Dev nD} (hn : n = peer 3 c) {hsc : dgM.view.ref.isScScratch = false}
    {hsrc : dsM.view.WordExact} {hdst : dgM.view.WordExact}
    {hsem : DmaTarget.Typed .vmem (.dma (rS 5)) (.remote (Dev.tc n : Thread nD τ) dgM (.dma (sS 5)) hsc)}
    (O : CellTallies nD τ sig Unit) {O' : CellTallies nD τ sig Unit} (hO : O' = O + tallyAt (rcv 5 (peer 3 c)) () 16384)
    {kk : PUnit → Prog (TpuEff nD τ sig (Elt F) Λ₀ .tc) α} :
    iprop(Recs m K ∗ ow c O' ∗ sendKit 5 c ∗ pt cc0_scratch8 c fullShare.right.left (dsV m c) ∗ ptE (F := F) cc0_scratch10 (peer 3 c))
      ⊢ iprop(((ow c O ∗ sentKit 5 c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma dsM (.remote (Dev.tc n : Thread nD τ) dgM (.dma (sS 5)) hsc) (.dma (rS 5)) hsrc hdst hsem) kk) Q) := by
  iintro ⟨#HR, HO, Hk, Hs, ⟨%f, Hd⟩⟩ HK
  iapply (wp_send 5 hp (n := n) hn (src := dsM) (dst := dgM) (q := fullShare.right.left) (fs := dsV m c) (fd := f) rfl O hO
    (by rw [View.set_whole]; exact entails_refl _)
    (by
      rw [View.set_whole]
      show (_ ⊢ pt cc0_scratch10 (peer 3 c) fullShare (dsV m (peer 3 (peer 3 c))))
      rw [peer_peer]
      exact Entails.of_eq (congrArg (fun g => pt cc0_scratch10 (peer 3 c) fullShare g) (View.write_whole_univ _ _ _)))) $$ [HO Hk Hs Hd]
  · isplitr; · iexact HR
    isplitl [HO]; · iexact HO
    isplitl [Hk]; · iexact Hk
    isplitl [Hs]
    · rw [View.set_whole]; iexact Hs
    · rw [View.set_whole]; iexact Hd
  iexact HK

/-- The finished chunk goes across z. -/
theorem wp_send6 {Q : α → sProp 𝕄} (hp : pays 6 c) {n : Dev nD} (hn : n = peer 2 c) {hsc : dzM.view.ref.isScScratch = false}
    {hsrc : dsM.view.WordExact} {hdst : dzM.view.WordExact}
    {hsem : DmaTarget.Typed .vmem (.dma (rS 6)) (.remote (Dev.tc n : Thread nD τ) dzM (.dma (sS 6)) hsc)}
    (O : CellTallies nD τ sig Unit) {O' : CellTallies nD τ sig Unit} (hO : O' = O + tallyAt (rcv 6 (peer 2 c)) () 16384)
    {kk : PUnit → Prog (TpuEff nD τ sig (Elt F) Λ₀ .tc) α} :
    iprop(Recs m K ∗ ow c O' ∗ sendKit 6 c ∗ pt cc0_scratch8 c fullShare.right.right (dsV m c) ∗ ptE (F := F) cc0_scratch11 (peer 2 c))
      ⊢ iprop(((ow c O ∗ sentKit 6 c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma dsM (.remote (Dev.tc n : Thread nD τ) dzM (.dma (sS 6)) hsc) (.dma (rS 6)) hsrc hdst hsem) kk) Q) := by
  iintro ⟨#HR, HO, Hk, Hs, ⟨%f, Hd⟩⟩ HK
  iapply (wp_send 6 hp (n := n) hn (src := dsM) (dst := dzM) (q := fullShare.right.right) (fs := dsV m c) (fd := f) rfl O hO
    (by rw [View.set_whole]; exact entails_refl _)
    (by
      rw [View.set_whole]
      show (_ ⊢ pt cc0_scratch11 (peer 2 c) fullShare (dsV m (peer 2 (peer 2 c))))
      rw [peer_peer]
      exact Entails.of_eq (congrArg (fun g => pt cc0_scratch11 (peer 2 c) fullShare g) (View.write_whole_univ _ _ _)))) $$ [HO Hk Hs Hd]
  · isplitr; · iexact HR
    isplitl [HO]; · iexact HO
    isplitl [Hk]; · iexact Hk
    isplitl [Hs]
    · rw [View.set_whole]; iexact Hs
    · rw [View.set_whole]; iexact Hd
  iexact HK

end Cert.KernelIdealRun

end
-- ==== Proof.Ideal.Talk.lean ====
/- The parts of the kernel that talk to the other devices, on a home device and on one away from home. -/
module

public import proofs.«01_k».proof.Proof.Ideal.Copies

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The debts as they shrink -/

def oH3 (c : Dev nD) : CellTallies nD τ sig Unit :=
  tallyAt (rcv 6 (peer 2 c)) () 16384 + tallyAt (rcv 5 (peer 3 c)) () 16384 + tallyAt (rcv 4 (peer 1 c)) () 16384
def oH4 (c : Dev nD) : CellTallies nD τ sig Unit := tallyAt (rcv 6 (peer 2 c)) () 16384 + tallyAt (rcv 5 (peer 3 c)) () 16384
def oH5 (c : Dev nD) : CellTallies nD τ sig Unit := tallyAt (rcv 6 (peer 2 c)) () 16384
def oH2 (c : Dev nD) : CellTallies nD τ sig Unit := oH3 c + tallyAt (rcv 2 (peer 0 c)) () 4096
def oA2 (c : Dev nD) : CellTallies nD τ sig Unit := tallyAt (rcv 3 (peer 0 c)) () 16384

theorem sum_home {c : Dev nD} (h : home c) : (∑ k, owK c k) = oH2 c + tallyAt (rcv 1 (peer 0 c)) () 16384 := owed_home h
theorem sum_away {c : Dev nD} (h : ¬ home c) : (∑ k, owK c k) = oA2 c + tallyAt (rcv 0 (peer 0 c)) () 16384 := owed_away h

theorem above_oH5 (c : Dev nD) : Above 5 (oH5 c) := Above.tally _ _ _ (by decide)
theorem above_oH4 (c : Dev nD) : Above 5 (oH4 c) := (above_oH5 c).add (Above.tally _ _ _ (by decide))
theorem above_oH3 (c : Dev nD) : Above 5 (oH3 c) := (above_oH4 c).add (Above.tally _ _ _ (by decide))
theorem above_oH2 (c : Dev nD) : Above 2 (oH2 c) := ((above_oH3 c).mono (by decide)).add (Above.tally _ _ _ (by decide))
theorem above_oA2 (c : Dev nD) : Above 4 (oA2 c) := Above.tally _ _ _ (by decide)
theorem above_sum (c : Dev nD) : Above 1 (∑ k, owK c k) := by
  rw [Fin.sum_univ_seven]
  have h (k : Fin 7) : Above 1 (owK c k) := Above.tally _ _ _ (by revert k; decide)
  exact ((((((h 0).add (h 1)).add (h 2)).add (h 3)).add (h 4)).add (h 5)).add (h 6)

theorem away_of (d : Fin 4) (hd : d ≠ 2) {c : Dev nD} (h : home c) : ¬ home (peer d c) := by revert d c; decide
theorem home_of (d : Fin 4) (hd : d ≠ 2) {c : Dev nD} (h : ¬ home c) : home (peer d c) := by revert d c; decide
theorem home_of2 {c : Dev nD} (h : home c) : home (peer 2 c) := by revert c; decide
theorem away_of2 {c : Dev nD} (h : ¬ home c) : ¬ home (peer 2 c) := by revert c; decide

theorem pays_home {k : Fin 7} (hk : k ≠ 0 ∧ k ≠ 3) {c : Dev nD} (h : home c) : pays k c := by revert k c; decide
theorem pays_away {k : Fin 7} (hk : k = 0 ∨ k = 3) {c : Dev nD} (h : ¬ home c) : pays k c := by revert k c; decide
theorem gets_home {k : Fin 7} (hk : k = 0 ∨ k = 3 ∨ k = 6) {c : Dev nD} (h : home c) : gets k c := by revert k c; decide
theorem gets_away {k : Fin 7} (hk : k = 1 ∨ k = 2 ∨ k = 4 ∨ k = 5) {c : Dev nD} (h : ¬ home c) : gets k c := by revert k c; decide

variable {m : (ℓ : Loc nD τ sig) → Buf (Elt F) ℓ} {K : Dev nD × Fin 15 → ℕ} {c : Dev nD}

/-- The device reads its place; the first two windows are set filling. -/
theorem part5_wp {Xa0} {Xb0} {Q} :
    iprop(a0 m c Xa0 ∗ b0 m c Xb0)
      ⊢ iprop(((a0F m c (w1b m c 0 0) ∗ b0F m c (w2b m c 0 0)) -∗ Q ⟨c, Scalar.remsi (Scalar.divsi (Dev.word c) 4#32) 2#32, Scalar.remsi (Scalar.divsi (Dev.word c) 2#32) 2#32, (Scalar.remsi (Scalar.divsi (Dev.word c) 1#32) 2#32),
          Scalar.subi 1#32 (Scalar.remsi (Scalar.divsi (Dev.word c) 2#32) 2#32), Scalar.subi 1#32 (Scalar.remsi (Scalar.divsi (Dev.word c) 4#32) 2#32),
          Scalar.subi 1#32 ((Scalar.remsi (Scalar.divsi (Dev.word c) 1#32) 2#32)), Scalar.subi 1#32 (Scalar.remsi (Scalar.divsi (Dev.word c) 4#32) 2#32), Scalar.subi 1#32 ((Scalar.remsi (Scalar.divsi (Dev.word c) 1#32) 2#32)),
          Scalar.cmpi .eq (Scalar.remsi (Scalar.divsi (Dev.word c) 4#32) 2#32) (Scalar.remsi (Scalar.divsi (Dev.word c) 2#32) 2#32)⟩)
        -∗ wp frame (wpE (defs₀ (F := F)) 𝒱₀ (c : Thread nD τ) none) Set.univ (k0_part5_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA) Q) := by
  unfold k0_part5_skel
  simp only [Prog.lift, Prog.bind_op, Prog.bind_ret, Prog.pure_eq_ret, semSignalWord, semWaitWord]
  iintro ⟨Ha0, Hb0⟩ Hk
  simp only [wp_deviceId]
  iapply (wp_wstart (N := 131072) rfl (by decide) (rg1_cut' _ _ (by decide))) $$ Ha0
  iintro Ha0
  iapply (wp_wstart (N := 131072) rfl (by decide) (rg2_cut' _ _ (by decide))) $$ Hb0
  iintro Hb0
  rw [wp_ret]
  imodintro
  iapply Hk
  isplitl [Ha0]; · iexact Ha0
  iexact Hb0

/-- The last two first windows are set filling; three of the four barriers are raised. -/
theorem part7_wp {Xa3} {Xb3} {Q} (v2 v5 v8 v9 v10 v11 v12 : BitVec 32) (O : CellTallies nD τ sig Unit) :
    iprop(Recs m K ∗ a3 m c Xa3 ∗ b3 m c Xb3 ∗ ow c (O + owB c 2 + owB c 1 + owB c 0)
        ∗ dutyTok ER (bar (peer 0 c)) 0 (0 : Fin 4) ∗ dutyTok ER (bar (peer 1 c)) 0 (1 : Fin 4) ∗ dutyTok ER (bar (peer 2 c)) 0 (2 : Fin 4)
        ∗ barPay (F := F) 0 c ∗ barPay (F := F) 1 c ∗ barPay (F := F) 2 c)
      ⊢ iprop(((a3F m c (w1b m c 1 1) ∗ b3F m c (w2b m c 1 1) ∗ ow c O) -∗ Q ⟨SemArray.scalar (sig.barrier 0 rfl), Scalar.muli v12 4#32, 0#32⟩)
        -∗ wp frame (wpE (defs₀ (F := F)) 𝒱₀ (c : Thread nD τ) none) Set.univ (k0_part7_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA c v2 v5 v8 v9 v10 v11 v12) Q) := by
  unfold k0_part7_skel
  simp only [Prog.lift, Prog.bind_op, Prog.bind_ret, Prog.pure_eq_ret, semSignalWord, semWaitWord]
  iintro ⟨#HR, Ha3, Hb3, HO, Ht0, Ht1, Ht2, Hp0, Hp1, Hp2⟩ Hk
  iapply (wp_wstart (N := 131072) rfl (by decide) (rg1_cut' _ _ (by decide))) $$ Ha3
  iintro Ha3
  iapply (wp_wstart (N := 131072) rfl (by decide) (rg2_cut' _ _ (by decide))) $$ Hb3
  iintro Hb3
  iapply (wp_sig (m := m) (K := K) 0 (dev1_eq c) (O + owB c 2 + owB c 1) rfl (by decide)) $$ [HO Ht0 Hp0]
  · isplitr; · iexact HR
    isplitl [HO]; · iexact HO
    isplitl [Ht0] <;> iassumption
  iintro HO
  iapply (wp_sig (m := m) (K := K) 1 (dev2_eq c) (O + owB c 2) rfl (by decide)) $$ [HO Ht1 Hp1]
  · isplitr; · iexact HR
    isplitl [HO]; · iexact HO
    isplitl [Ht1] <;> iassumption
  iintro HO
  iapply (wp_sig (m := m) (K := K) 2 (dev3_eq c) O rfl (by decide)) $$ [HO Ht2 Hp2]
  · isplitr; · iexact HR
    isplitl [HO]; · iexact HO
    isplitl [Ht2] <;> iassumption
  iintro HO
  rw [wp_ret]
  imodintro
  iapply Hk
  isplitl [Ha3]; · iexact Ha3
  isplitl [Hb3]; · iexact Hb3
  iexact HO

theorem read_own {c : Dev nD} {o : Fin 2 → ℕ} (ho : o = ![256 * (c.val % 2), 0]) (h : ∀ a, o a + S256x1024.size a ≤ S512x1024.size a)
    (f : S512x1024.Idx → Elt F .f32) :
    xM.view.readAt (Elt F) (Rect.unit (s := S512x1024) o S256x1024.size h).toLoadRect f = xM.view.readAt (Elt F) (ownR c).toLoadRect f := by
  subst ho; rfl

/-- A home device narrows its token chunk and sends it across, and computes its logits from both halves of the router. -/
theorem part1_wp (h : home c) (k0_h2 : k0_cond2 c = 1#1) {Q} (v2 v8 v9 : BitVec 32) :
    iprop(Recs m K ∗ levAts L lv ∗ ow c (oH2 c + tallyAt (rcv 1 (peer 0 c)) () 16384) ∗ sendKit 1 c ∗ recvKit 0 c
        ∗ pt cc0_stg0_0 c fullShare (xV m c) ∗ pt cc0_stg1_0 c fullShare (rV m c) ∗ ptE (F := F) cc0_scratch3 c ∗ ptE (F := F) cc0_scratch3 (peer 0 c))
      ⊢ iprop(((ow c (oH2 c) ∗ sentKit 1 c ∗ atPos ER (rcv 0 c) 1 ∅ 0 ∗ pt cc0_stg0_0 c fullShare (xV m c) ∗ pt cc0_stg1_0 c fullShare (rV m c)
        ∗ pt cc0_scratch3 c fullShare.left (xcV m c) ∗ pt cc0_scratch2 c fullShare (rV m (peer 0 c))) -∗ Q ⟨k0_pay4 (xV m c) (rV m c), k0_pay5 (xV m c) (rV m (peer 0 c))⟩)
        -∗ wp frame (wpE (defs₀ (F := F)) 𝒱₀ (c : Thread nD τ) none) Set.univ (k0_part1_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA c v2 v8 v9 k0_h2) Q) := by
  unfold k0_part1_skel
  simp only [Prog.lift, Prog.bind_op, Prog.bind_ret, Prog.pure_eq_ret, semSignalWord, semWaitWord]
  iintro ⟨#HR, #Hl, HO, Hk1, Hr0, Hx, Hrt, ⟨%f, Hxc⟩, Hd⟩ Hk
  iapply (wp_ld (M := xM) (r := (Rect.unit (s := S512x1024) (k0_off1 c) S256x1024.size (k0_off1_inb c k0_h2)).toLoadRect) (xM.view.readAt (Elt F) (ownR c).toLoadRect (xV m c)) (read_own (F := F) (k0_off1_eq c) _ _)) $$ Hx
  iintro Hx
  iapply (wp_ld _ (Memref.readAt_unit_zero (Elt F) cc0_scratch3 off00 _ _)) $$ Hxc
  iintro Hxc
  iapply (wp_st cc0_scratch3.2 cc0_scratch3.3 (xcV m c) (Memref.write_access_unit_zero_univ (Elt F) cc0_scratch3 off00 _ _ _)) $$ Hxc
  iintro Hxc
  ihave Hxc := (pointsTo_share (PosShare.mem_left_op_right fullShare)).1 $$ Hxc
  icases Hxc with ⟨Hxl, Hxr⟩
  iapply (wp_send1 (m := m) (K := K) (pays_home (by decide) h) (dev6_eq c k0_h2) (oH2 c) rfl) $$ [HO Hk1 Hxr Hd]
  · isplitr; · iexact HR
    isplitl [HO]; · iexact HO
    isplitl [Hk1]; · iexact Hk1
    isplitl [Hxr]; · iexact Hxr
    iexact Hd
  iintro ⟨HO, Hk1⟩
  iapply (wp_ld _ (Memref.readAt_unit_zero (Elt F) cc0_stg0_0 off00 _ _)) $$ Hx
  iintro Hx
  iapply (wp_ld _ (Memref.readAt_unit_zero (Elt F) cc0_stg1_0 off00 _ _)) $$ Hrt
  iintro Hrt
  iapply (wp_recv (m := m) (K := K) 0 (gets_home (by decide) h) 2 (by decide) (above_oH2 c) rfl) $$ [HO Hr0]
  · isplitr; · iexact HR
    isplitl [HO]; · iexact HO
    isplitr; · iexact Hl
    iexact Hr0
  iintro ⟨HO, Hr0, Hrr⟩
  iapply (wp_ld _ (Memref.readAt_unit_zero (Elt F) cc0_stg0_0 off00 _ _)) $$ Hx
  iintro Hx
  simp only [rcvPay]
  iapply (wp_ld _ (Memref.readAt_unit_zero (Elt F) cc0_scratch2 off00 _ _)) $$ Hrr
  iintro Hrr
  rw [wp_ret]
  imodintro
  iapply Hk
  isplitl [HO]; · iexact HO
  isplitl [Hk1]; · iexact Hk1
  isplitl [Hr0]; · iexact Hr0
  isplitl [Hx]; · iexact Hx
  isplitl [Hrt]; · iexact Hrt
  isplitl [Hxl]; · iexact Hxl
  iexact Hrr

/-- A home device past the barrier: its gates are sent across and kept, and the first weight half arrives. -/
theorem part8_home (h : home c) {Q} (v2 v5 v8 v9 v13 : BitVec 32) (v14 : BitVec 1) (v82 w : BitVec 32) (hz : v8 = zW c) :
    iprop(Recs m K ∗ levAts L lv ∗ ow c ((∑ k, owK c k) + owB c 3) ∗ dutyTok ER (bar (peer 3 c)) 0 (3 : Fin 4) ∗ barPay (F := F) 3 c ∗ barKit c
        ∗ sendKit 1 c ∗ sendKit 2 c ∗ recvKit 0 c ∗ pt cc0_stg0_0 c fullShare (xV m c) ∗ pt cc0_stg1_0 c fullShare (rV m c)
        ∗ ptE (F := F) cc0_scratch3 c ∗ ptE (F := F) cc0_scratch4 c ∗ ptE (F := F) cc0_scratch5 c ∗ a0F m c (w1b m c 0 0))
      ⊢ iprop(((ow c (oH3 c) ∗ atPos ER (bar c) 1 ∅ 0 ∗ sentKit 1 c ∗ sentKit 2 c ∗ atPos ER (rcv 0 c) 1 ∅ 0
        ∗ pt cc0_stg0_0 c fullShare (xV m c) ∗ pt cc0_stg1_0 c fullShare (rV m c)
        ∗ pt cc0_scratch3 c fullShare.left (xcV m c) ∗ pt cc0_scratch2 c fullShare (rV m (peer 0 c)) ∗ pt cc0_scratch4 c fullShare (mcV m c)
        ∗ ptE (F := F) cc0_scratch9 (peer 1 c) ∗ ptE (F := F) cc0_scratch11 (peer 2 c) ∗ ptE (F := F) cc0_scratch10 (peer 3 c) ∗ a0 m c (w1b m c 0 0)) -∗ Q (k0_pay22 (w1b m c 0 0)))
        -∗ wp frame (wpE (defs₀ (F := F)) 𝒱₀ (c : Thread nD τ) none) Set.univ (k0_part8_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA c v2 v5 v8 v9 v13 v14 (SemArray.scalar (sig.barrier 0 rfl)) v82 w) Q) := by
  subst hz
  have hc1 : ¬ k0_cond1 c = 1#1 := fun e => (cond1_iff c).mp e h
  have hc2 : k0_cond2 c = 1#1 := (cond2_iff c).mpr h
  unfold k0_part8_skel
  simp only [Prog.lift, Prog.bind_op, Prog.bind_ret, Prog.pure_eq_ret, semSignalWord, semWaitWord]
  iintro ⟨#HR, #Hl, HO, Ht3, Hp3, HB, Hk1, Hk2, Hr0, Hx, Hrt, Hxc, ⟨%fm, Hmc⟩, ⟨%fs, Hms⟩, Ha0⟩ Hk
  iapply (wp_sig (m := m) (K := K) 3 (dev4_eq c) (∑ k, owK c k) rfl (by decide)) $$ [HO Ht3 Hp3]
  · isplitr; · iexact HR
    isplitl [HO]; · iexact HO
    isplitl [Ht3] <;> iassumption
  iintro HO
  iapply (wp_bar (m := m) (K := K) (above_sum c) (by decide)) $$ [HO HB]
  · isplitr; · iexact HR
    isplitl [HO]; · iexact HO
    isplitr; · iexact Hl
    iexact HB
  iintro ⟨HO, HB, Hb0, Hb1, Hb2, Hb3⟩
  rw [dif_neg hc1, dif_pos hc2, sum_home h]
  simp only [barPay, if_neg (away_of 0 (by decide) h), if_neg (away_of 1 (by decide) h), if_pos (home_of2 h), if_neg (away_of 3 (by decide) h)]
  icases Hb0 with ⟨Hbx, Hbm⟩
  rw [wp_bind, k0_part1_eq_skeleton]
  iapply (part1_wp (m := m) (K := K) h hc2) $$ [HO Hk1 Hr0 Hx Hrt Hxc Hbx]
  · isplitr; · iexact HR
    isplitr; · iexact Hl
    isplitl [HO]; · iexact HO
    isplitl [Hk1]; · iexact Hk1
    isplitl [Hr0]; · iexact Hr0
    isplitl [Hx]; · iexact Hx
    isplitl [Hrt]; · iexact Hrt
    isplitl [Hxc]; · iexact Hxc
    iexact Hbx
  iintro ⟨HO, Hk1, Hr0, Hx, Hrt, Hxl, Hrr⟩
  rw [k0_part2_eq_skeleton]
  unfold k0_part2_skel
  simp only [Prog.bind_op, Prog.bind_ret, Prog.pure_eq_ret]
  iapply (wp_ld _ (Memref.readAt_unit_zero (Elt F) cc0_scratch4 off00 _ _)) $$ Hmc
  iintro Hmc
  iapply (wp_st cc0_scratch4.2 cc0_scratch4.3 (mcV m c) (Memref.write_access_unit_zero_univ (Elt F) cc0_scratch4 off00 _ _ _)) $$ Hmc
  iintro Hmc
  iapply (wp_ld _ (Memref.readAt_unit_zero (Elt F) cc0_scratch5 off00 _ _)) $$ Hms
  iintro Hms
  iapply (wp_st cc0_scratch5.2 cc0_scratch5.3 (msV m c) (Memref.write_access_unit_zero_univ (Elt F) cc0_scratch5 off00 _ _ _)) $$ Hms
  iintro Hms
  iapply (wp_send2 (m := m) (K := K) (pays_home (by decide) h) (dev7_eq c hc2) (oH3 c) rfl) $$ [HO Hk2 Hms Hbm]
  · isplitr; · iexact HR
    isplitl [HO]; · iexact HO
    isplitl [Hk2]; · iexact Hk2
    isplitl [Hms]; · iexact Hms
    iexact Hbm
  iintro ⟨HO, Hk2⟩
  iapply (wp_wwait' c ((above_oH3 c).mono (by decide)) (by decide) (N := 131072) rfl) $$ [Ha0 HO]
  · isplitl [Ha0]; · iexact Ha0
    isplitl [HO]; · iexact HO
    iexact Hl
  iintro ⟨Ha0, HO⟩
  iapply (wp_wload (rg1_cut _ _ (by decide))) $$ Ha0
  iintro Ha0
  rw [wp_ret]
  imodintro
  iapply Hk
  isplitl [HO]; · iexact HO
  isplitl [HB]; · iexact HB
  isplitl [Hk1]; · iexact Hk1
  isplitl [Hk2]; · iexact Hk2
  isplitl [Hr0]; · iexact Hr0
  isplitl [Hx]; · iexact Hx
  isplitl [Hrt]; · iexact Hrt
  isplitl [Hxl]; · iexact Hxl
  isplitl [Hrr]; · iexact Hrr
  isplitl [Hmc]; · iexact Hmc
  isplitl [Hb1]; · iexact Hb1
  isplitl [Hb2]; · iexact Hb2
  isplitl [Hb3]; · iexact Hb3
  iexact Ha0

/-- A device away from home past the barrier: its router columns are sent, and the first weight half arrives. -/
theorem part8_away (h : ¬ home c) {Q} (v2 v5 v8 v9 v13 : BitVec 32) (v14 : BitVec 1) (v82 w : BitVec 32) :
    iprop(Recs m K ∗ levAts L lv ∗ ow c ((∑ k, owK c k) + owB c 3) ∗ dutyTok ER (bar (peer 3 c)) 0 (3 : Fin 4) ∗ barPay (F := F) 3 c ∗ barKit c
        ∗ sendKit 0 c ∗ pt cc0_stg1_0 c fullShare (rV m c) ∗ a0F m c (w1b m c 0 0))
      ⊢ iprop(((ow c (oA2 c) ∗ atPos ER (bar c) 1 ∅ 0 ∗ atPos ER (snd 0 c) 1 ∅ 0 ∗ pt cc0_stg1_0 c fullShare (rV m c)
        ∗ ptE (F := F) cc0_scratch7 (peer 0 c) ∗ a0 m c (w1b m c 0 0)) -∗ Q (k0_pay22 (w1b m c 0 0)))
        -∗ wp frame (wpE (defs₀ (F := F)) 𝒱₀ (c : Thread nD τ) none) Set.univ (k0_part8_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA c v2 v5 v8 v9 v13 v14 (SemArray.scalar (sig.barrier 0 rfl)) v82 w) Q) := by
  have hc1 : k0_cond1 c = 1#1 := (cond1_iff c).mpr h
  have hc2 : ¬ k0_cond2 c = 1#1 := fun e => h ((cond2_iff c).mp e)
  unfold k0_part8_skel
  simp only [Prog.lift, Prog.bind_op, Prog.bind_ret, Prog.pure_eq_ret, semSignalWord, semWaitWord]
  iintro ⟨#HR, #Hl, HO, Ht3, Hp3, HB, Hk0, Hrt, Ha0⟩ Hk
  iapply (wp_sig (m := m) (K := K) 3 (dev4_eq c) (∑ k, owK c k) rfl (by decide)) $$ [HO Ht3 Hp3]
  · isplitr; · iexact HR
    isplitl [HO]; · iexact HO
    isplitl [Ht3] <;> iassumption
  iintro HO
  iapply (wp_bar (m := m) (K := K) (above_sum c) (by decide)) $$ [HO HB]
  · isplitr; · iexact HR
    isplitl [HO]; · iexact HO
    isplitr; · iexact Hl
    iexact HB
  iintro ⟨HO, HB, Hb0, Hb1, Hb2, Hb3⟩
  rw [dif_pos hc1, dif_neg hc2, sum_away h]
  simp only [barPay, if_pos (home_of 0 (by decide) h), if_pos (home_of 1 (by decide) h), if_neg (away_of2 h), if_pos (home_of 3 (by decide) h)]
  icases Hb0 with ⟨Hbr, Hbc⟩
  iapply (wp_send0 (m := m) (K := K) (pays_away (by decide) h) (dev5_eq c hc1) (oA2 c) rfl) $$ [HO Hk0 Hrt Hbr]
  · isplitr; · iexact HR
    isplitl [HO]; · iexact HO
    isplitl [Hk0]; · iexact Hk0
    isplitl [Hrt]; · iexact Hrt
    iexact Hbr
  iintro ⟨HO, Hk0⟩
  iapply (wp_sent (m := m) (K := K) 0 (pays_away (by decide) h) ((above_oA2 c).mono (by decide)) rfl) $$ [HO Hk0]
  · isplitr; · iexact HR
    isplitl [HO]; · iexact HO
    isplitr; · iexact Hl
    iexact Hk0
  iintro ⟨HO, Hk0, Hrt⟩
  simp only [sndPay]
  iapply (wp_wwait' c ((above_oA2 c).mono (by decide)) (by decide) (N := 131072) rfl) $$ [Ha0 HO]
  · isplitl [Ha0]; · iexact Ha0
    isplitl [HO]; · iexact HO
    iexact Hl
  iintro ⟨Ha0, HO⟩
  iapply (wp_wload (rg1_cut _ _ (by decide))) $$ Ha0
  iintro Ha0
  rw [wp_ret]
  imodintro
  iapply Hk
  isplitl [HO]; · iexact HO
  isplitl [HB]; · iexact HB
  isplitl [Hk0]; · iexact Hk0
  isplitl [Hrt]; · iexact Hrt
  isplitl [Hbc]; · iexact Hbc
  iexact Ha0

/-- The rest of the first expert arrives, on a home device. -/
theorem part9_home {O : CellTallies nD τ sig Unit} (hO : Above 0 O) {Q} (v2 v8 v9 : BitVec 32) (v14 : BitVec 1) (hv : ¬ Scalar.cmpi .ne (Scalar.extui (Scalar.xori v14 1#1) : BitVec 32) 0#32 = 1#1) :
    iprop(ow c O ∗ levAts L lv ∗ a1F m c (w1b m c 0 1) ∗ b0F m c (w2b m c 0 0) ∗ b1F m c (w2b m c 0 1))
      ⊢ iprop(((ow c O ∗ a1 m c (w1b m c 0 1) ∗ b0 m c (w2b m c 0 0) ∗ b1 m c (w2b m c 0 1)) -∗ Q ⟨k0_pay23 (w1b m c 0 1), k0_pay24 (w2b m c 0 0), k0_pay25 (w2b m c 0 1)⟩)
        -∗ wp frame (wpE (defs₀ (F := F)) 𝒱₀ (c : Thread nD τ) none) Set.univ (k0_part9_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA v2 v8 v9 v14) Q) := by
  unfold k0_part9_skel
  simp only [Prog.lift, Prog.bind_op, Prog.bind_ret, Prog.pure_eq_ret, semSignalWord, semWaitWord]
  iintro ⟨HO, #Hl, Ha1, Hb0, Hb1⟩ Hk
  iapply (wp_wwait' c hO (by decide) (N := 131072) rfl) $$ [Ha1 HO]
  · isplitl [Ha1]; · iexact Ha1
    isplitl [HO]; · iexact HO
    iexact Hl
  iintro ⟨Ha1, HO⟩
  iapply (wp_wload (rg1_cut _ _ (by decide))) $$ Ha1
  iintro Ha1
  iapply (wp_wwait' c hO (by decide) (N := 131072) rfl) $$ [Hb0 HO]
  · isplitl [Hb0]; · iexact Hb0
    isplitl [HO]; · iexact HO
    iexact Hl
  iintro ⟨Hb0, HO⟩
  iapply (wp_wload (rg2_cut _ _ (by decide))) $$ Hb0
  iintro Hb0
  iapply (wp_wwait' c hO (by decide) (N := 131072) rfl) $$ [Hb1 HO]
  · isplitl [Hb1]; · iexact Hb1
    isplitl [HO]; · iexact HO
    iexact Hl
  iintro ⟨Hb1, HO⟩
  iapply (wp_wload (rg2_cut _ _ (by decide))) $$ Hb1
  iintro Hb1
  rw [dif_neg hv]
  rw [wp_ret]
  imodintro
  iapply Hk
  isplitl [HO]; · iexact HO
  isplitl [Ha1]; · iexact Ha1
  isplitl [Hb0]; · iexact Hb0
  iexact Hb1

/-- The rest of the first expert arrives, and the tokens and gates from home. -/
theorem part9_away (h : ¬ home c) {Q} (v2 v8 v9 : BitVec 32) (v14 : BitVec 1) (hv : Scalar.cmpi .ne (Scalar.extui (Scalar.xori v14 1#1) : BitVec 32) 0#32 = 1#1) :
    iprop(Recs m K ∗ ow c (oA2 c) ∗ levAts L lv ∗ recvKit 1 c ∗ recvKit 2 c ∗ a1F m c (w1b m c 0 1) ∗ b0F m c (w2b m c 0 0) ∗ b1F m c (w2b m c 0 1))
      ⊢ iprop(((ow c (oA2 c) ∗ atPos ER (rcv 1 c) 1 ∅ 0 ∗ atPos ER (rcv 2 c) 1 ∅ 0 ∗ pt cc0_scratch3 c fullShare (xcV m (peer 0 c))
        ∗ pt cc0_scratch4 c fullShare (msV m (peer 0 c)) ∗ a1 m c (w1b m c 0 1) ∗ b0 m c (w2b m c 0 0) ∗ b1 m c (w2b m c 0 1)) -∗ Q ⟨k0_pay23 (w1b m c 0 1), k0_pay24 (w2b m c 0 0), k0_pay25 (w2b m c 0 1)⟩)
        -∗ wp frame (wpE (defs₀ (F := F)) 𝒱₀ (c : Thread nD τ) none) Set.univ (k0_part9_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA v2 v8 v9 v14) Q) := by
  have hO := (above_oA2 c).mono (Nat.zero_le 4)
  unfold k0_part9_skel
  simp only [Prog.lift, Prog.bind_op, Prog.bind_ret, Prog.pure_eq_ret, semSignalWord, semWaitWord]
  iintro ⟨#HR, HO, #Hl, Hr1, Hr2, Ha1, Hb0, Hb1⟩ Hk
  iapply (wp_wwait' c hO (by decide) (N := 131072) rfl) $$ [Ha1 HO]
  · isplitl [Ha1]; · iexact Ha1
    isplitl [HO]; · iexact HO
    iexact Hl
  iintro ⟨Ha1, HO⟩
  iapply (wp_wload (rg1_cut _ _ (by decide))) $$ Ha1
  iintro Ha1
  iapply (wp_wwait' c hO (by decide) (N := 131072) rfl) $$ [Hb0 HO]
  · isplitl [Hb0]; · iexact Hb0
    isplitl [HO]; · iexact HO
    iexact Hl
  iintro ⟨Hb0, HO⟩
  iapply (wp_wload (rg2_cut _ _ (by decide))) $$ Hb0
  iintro Hb0
  iapply (wp_wwait' c hO (by decide) (N := 131072) rfl) $$ [Hb1 HO]
  · isplitl [Hb1]; · iexact Hb1
    isplitl [HO]; · iexact HO
    iexact Hl
  iintro ⟨Hb1, HO⟩
  iapply (wp_wload (rg2_cut _ _ (by decide))) $$ Hb1
  iintro Hb1
  rw [dif_pos hv]
  iapply (wp_recv (m := m) (K := K) 1 (gets_away (by decide) h) 3 (by decide) ((above_oA2 c).mono (by decide)) rfl) $$ [HO Hr1]
  · isplitr; · iexact HR
    isplitl [HO]; · iexact HO
    isplitr; · iexact Hl
    iexact Hr1
  iintro ⟨HO, Hr1, Hx⟩
  iapply (wp_recv (m := m) (K := K) 2 (gets_away (by decide) h) 4 (by decide) (above_oA2 c) rfl) $$ [HO Hr2]
  · isplitr; · iexact HR
    isplitl [HO]; · iexact HO
    isplitr; · iexact Hl
    iexact Hr2
  iintro ⟨HO, Hr2, Hm⟩
  simp only [rcvPay]
  rw [wp_ret]
  imodintro
  iapply Hk
  isplitl [HO]; · iexact HO
  isplitl [Hr1]; · iexact Hr1
  isplitl [Hr2]; · iexact Hr2
  isplitl [Hx]; · iexact Hx
  isplitl [Hm]; · iexact Hm
  isplitl [Ha1]; · iexact Ha1
  isplitl [Hb0]; · iexact Hb0
  iexact Hb1

/-- Tokens and gates are loaded; expert 2's first weight set filling. -/
theorem part10_wp {q : PosShare TreeShare} {xi : Vec F S256x1024 .bf16} {mi : Vec F S256x4 .f32} {Xa0 Xa1} {Q} (v101 v110 : FVec F S512x2048 .bf16) :
    iprop(pt cc0_scratch3 c q xi ∗ pt cc0_scratch4 c fullShare mi ∗ a0 m c Xa0 ∗ a1 m c Xa1)
      ⊢ iprop(((pt cc0_scratch3 c q xi ∗ pt cc0_scratch4 c fullShare mi ∗ a0F m c (w1b m c 2 0) ∗ a1F m c (w1b m c 2 1)) -∗ Q ⟨mi, k0_pay26 xi, k0_pay27 xi, k0_pay28 (F := F), k0_pay29 v101 v110 xi mi⟩)
        -∗ wp frame (wpE (defs₀ (F := F)) 𝒱₀ (c : Thread nD τ) none) Set.univ (k0_part10_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA v101 v110) Q) := by
  unfold k0_part10_skel
  simp only [Prog.lift, Prog.bind_op, Prog.bind_ret, Prog.pure_eq_ret, semSignalWord, semWaitWord]
  iintro ⟨Hx, Hm, Ha0, Ha1⟩ Hk
  iapply (wp_ld _ (Memref.readAt_unit_zero (Elt F) cc0_scratch3 off00 _ _)) $$ Hx
  iintro Hx
  iapply (wp_ld _ (Memref.readAt_unit_zero (Elt F) cc0_scratch4 off00 _ _)) $$ Hm
  iintro Hm
  iapply (wp_wstart (N := 131072) rfl (by decide) (rg1_cut' _ _ (by decide))) $$ Ha0
  iintro Ha0
  iapply (wp_wstart (N := 131072) rfl (by decide) (rg1_cut' _ _ (by decide))) $$ Ha1
  iintro Ha1
  rw [wp_ret]
  imodintro
  iapply Hk
  isplitl [Hx]; · iexact Hx
  isplitl [Hm]; · iexact Hm
  isplitl [Ha0]; · iexact Ha0
  iexact Ha1

/-- A home device adds the contribution that came back, and sends the finished chunk across x and the diagonal. -/
theorem part3_wp (h : home c) (k0_h5 : k0_cond5 c = 1#1) {Q} (v2 v5 v8 v9 v10 v12 v13 : BitVec 32) (v352 : FVec F S256x1024 .f32) (hv : v352 = ownV m c) :
    iprop(Recs m K ∗ levAts L lv ∗ ow c (oH3 c) ∗ recvKit 3 c ∗ sendKit 4 c ∗ sendKit 5 c ∗ ptE (F := F) cc0_scratch8 c
        ∗ ptE (F := F) cc0_scratch9 (peer 1 c) ∗ ptE (F := F) cc0_scratch10 (peer 3 c))
      ⊢ iprop(((ow c (oH5 c) ∗ atPos ER (rcv 3 c) 1 ∅ 0 ∗ sentKit 4 c ∗ sentKit 5 c ∗ pt cc0_scratch8 c fullShare.right.right (dsV m c)
        ∗ pt cc0_scratch7 c fullShare (c1V m (peer 0 c))) -∗ Q ⟨k0_pay17 (ownV m c) (c1V m (peer 0 c)), Scalar.addi 0#32 (Scalar.muli v2 4#32), 2#32⟩)
        -∗ wp frame (wpE (defs₀ (F := F)) 𝒱₀ (c : Thread nD τ) none) Set.univ (k0_part3_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA c v2 v5 v8 v9 v10 v12 v13 v352 k0_h5) Q) := by
  subst hv
  unfold k0_part3_skel
  simp only [Prog.lift, Prog.bind_op, Prog.bind_ret, Prog.pure_eq_ret, semSignalWord, semWaitWord]
  iintro ⟨#HR, #Hl, HO, Hr3, Hk4, Hk5, ⟨%f, Hd⟩, Hb1, Hb3⟩ Hk
  iapply (wp_recv (m := m) (K := K) 3 (gets_home (by decide) h) 5 (by decide) (above_oH3 c) rfl) $$ [HO Hr3]
  · isplitr; · iexact HR
    isplitl [HO]; · iexact HO
    isplitr; · iexact Hl
    iexact Hr3
  iintro ⟨HO, Hr3, Hc⟩
  simp only [rcvPay]
  iapply (wp_ld _ (Memref.readAt_unit_zero (Elt F) cc0_scratch7 off00 _ _)) $$ Hc
  iintro Hc
  iapply (wp_ld _ (Memref.readAt_unit_zero (Elt F) cc0_scratch8 off00 _ _)) $$ Hd
  iintro Hd
  iapply (wp_st cc0_scratch8.2 cc0_scratch8.3 (dsV m c) (Memref.write_access_unit_zero_univ (Elt F) cc0_scratch8 off00 _ _ _)) $$ Hd
  iintro Hd
  ihave Hd := (pointsTo_share (PosShare.mem_left_op_right fullShare)).1 $$ Hd
  icases Hd with ⟨Hd4, Hd⟩
  ihave Hd := (pointsTo_share (PosShare.mem_left_op_right fullShare.right)).1 $$ Hd
  icases Hd with ⟨Hd5, Hd⟩
  iapply (wp_send4 (m := m) (K := K) (pays_home (by decide) h) (dev9_eq c k0_h5) (oH4 c) rfl) $$ [HO Hk4 Hd4 Hb1]
  · isplitr; · iexact HR
    isplitl [HO]; · iexact HO
    isplitl [Hk4]; · iexact Hk4
    isplitl [Hd4]; · iexact Hd4
    iexact Hb1
  iintro ⟨HO, Hk4⟩
  iapply (wp_send5 (m := m) (K := K) (pays_home (by decide) h) (dev10_eq c k0_h5) (oH5 c) rfl) $$ [HO Hk5 Hd5 Hb3]
  · isplitr; · iexact HR
    isplitl [HO]; · iexact HO
    isplitl [Hk5]; · iexact Hk5
    isplitl [Hd5]; · iexact Hd5
    iexact Hb3
  iintro ⟨HO, Hk5⟩
  rw [wp_ret]
  imodintro
  iapply Hk
  isplitl [HO]; · iexact HO
  isplitl [Hr3]; · iexact Hr3
  isplitl [Hk4]; · iexact Hk4
  isplitl [Hk5]; · iexact Hk5
  isplitl [Hd]; · iexact Hd
  iexact Hc

theorem write_own {c : Dev nD} {o : Fin 2 → ℕ} (ho : o = ![256 * (c.val % 2), 0]) (h : ∀ a, o a + S256x1024.size a ≤ S512x1024.size a)
    (f : S512x1024.Idx → Elt F .f32) (w : S256x1024.Idx → Elt F .f32) :
    (oM.access (Rect.unit (s := S512x1024) o S256x1024.size h)).write (Elt F) f w Finset.univ = (oM.access (ownR c)).write (Elt F) f w Finset.univ := by
  subst ho; rfl
theorem write_oth {c : Dev nD} {o : Fin 2 → ℕ} (ho : o = ![256 - 256 * (c.val % 2), 0]) (h : ∀ a, o a + S256x1024.size a ≤ S512x1024.size a)
    (f : S512x1024.Idx → Elt F .f32) (w : S256x1024.Idx → Elt F .f32) :
    (oM.access (Rect.unit (s := S512x1024) o S256x1024.size h)).write (Elt F) f w Finset.univ = (oM.access (othR c)).write (Elt F) f w Finset.univ := by
  subst ho; rfl

/-- A home device sends the finished chunk across z, writes it and the one that comes back, and waits for its copies to end. -/
theorem part4_wp (h : home c) (k0_h5 : k0_cond5 c = 1#1) {Q : PUnit → sProp 𝕄} (v2 v5 v8 v11 : BitVec 32) (v371 : FVec F S256x1024 .f32) (v397 w : BitVec 32) {base : Vec F S512x1024 .f32} :
    iprop(Recs m K ∗ levAts L lv ∗ ow c (oH5 c) ∗ sendKit 6 c ∗ recvKit 6 c ∗ sentKit 1 c ∗ sentKit 4 c ∗ sentKit 5 c ∗ pt cc0_scratch8 c fullShare.right.right (dsV m c)
        ∗ ptE (F := F) cc0_scratch11 (peer 2 c) ∗ pt cc0_stg2_0 c fullShare base)
      ⊢ iprop(((ow c 0 ∗ atPos ER (rcv 6 c) 1 ∅ 0 ∗ atPos ER (snd 6 c) 1 ∅ 0 ∗ atPos ER (snd 1 c) 1 ∅ 0 ∗ atPos ER (snd 4 c) 1 ∅ 0 ∗ atPos ER (snd 5 c) 1 ∅ 0
        ∗ pt cc0_scratch3 c fullShare.right (xcV m c) ∗ pt cc0_scratch8 c fullShare.left (dsV m c) ∗ pt cc0_scratch8 c fullShare.right.left (dsV m c)
        ∗ pt cc0_scratch8 c fullShare.right.right (dsV m c) ∗ pt cc0_scratch11 c fullShare (dsV m (peer 2 c))
        ∗ pt cc0_stg2_0 c fullShare (outF c base v371 (k0_pay19 (dsV m (peer 2 c))))) -∗ Q ⟨⟩)
        -∗ wp frame (wpE (defs₀ (F := F)) 𝒱₀ (c : Thread nD τ) none) Set.univ (k0_part4_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA c v2 v5 v8 v11 k0_h5 v371 v397 w) Q) := by
  unfold k0_part4_skel
  simp only [Prog.lift, Prog.bind_op, Prog.bind_ret, Prog.pure_eq_ret, semSignalWord, semWaitWord]
  iintro ⟨#HR, #Hl, HO, Hk6, Hr6, Hk1, Hk4, Hk5, Hd, Hb2, Ho⟩ Hk
  iapply (wp_send6 (m := m) (K := K) (pays_home (by decide) h) (dev11_eq c k0_h5) 0 (zero_add _).symm) $$ [HO Hk6 Hd Hb2]
  · isplitr; · iexact HR
    isplitl [HO]; · iexact HO
    isplitl [Hk6]; · iexact Hk6
    isplitl [Hd]; · iexact Hd
    iexact Hb2
  iintro ⟨HO, Hk6⟩
  iapply (wp_ld (M := oM) (r := (Rect.unit (s := S512x1024) (k0_off2 c) S256x1024.size (k0_off2_inb c k0_h5)).toLoadRect) _ rfl) $$ Ho
  iintro Ho
  iapply (wp_st cc0_stg2_0.2 cc0_stg2_0.3 ((oM.access (ownR c)).write (Elt F) base v371 Finset.univ) (write_own (k0_off2_eq c) _ _ _)) $$ Ho
  iintro Ho
  iapply (wp_recv (m := m) (K := K) 6 (gets_home (by decide) h) 6 (by decide) (Above.zero _) rfl) $$ [HO Hr6]
  · isplitr; · iexact HR
    isplitl [HO]; · iexact HO
    isplitr; · iexact Hl
    iexact Hr6
  iintro ⟨HO, Hr6, Hz⟩
  simp only [rcvPay]
  iapply (wp_ld _ (Memref.readAt_unit_zero (Elt F) cc0_scratch11 off00 _ _)) $$ Hz
  iintro Hz
  iapply (wp_ld (M := oM) (r := (Rect.unit (s := S512x1024) (k0_off3 c) S256x1024.size (k0_off3_inb c k0_h5)).toLoadRect) _ rfl) $$ Ho
  iintro Ho
  iapply (wp_st cc0_stg2_0.2 cc0_stg2_0.3 (outF c base v371 (k0_pay19 (dsV m (peer 2 c)))) (write_oth (k0_off3_eq c) _ _ _)) $$ Ho
  iintro Ho
  iapply (wp_sent (m := m) (K := K) 4 (pays_home (by decide) h) (Above.zero _) rfl) $$ [HO Hk4]
  · isplitr; · iexact HR
    isplitl [HO]; · iexact HO
    isplitr; · iexact Hl
    iexact Hk4
  iintro ⟨HO, Hk4, Hs4⟩
  iapply (wp_sent (m := m) (K := K) 5 (pays_home (by decide) h) (Above.zero _) rfl) $$ [HO Hk5]
  · isplitr; · iexact HR
    isplitl [HO]; · iexact HO
    isplitr; · iexact Hl
    iexact Hk5
  iintro ⟨HO, Hk5, Hs5⟩
  iapply (wp_sent (m := m) (K := K) 6 (pays_home (by decide) h) (Above.zero _) rfl) $$ [HO Hk6]
  · isplitr; · iexact HR
    isplitl [HO]; · iexact HO
    isplitr; · iexact Hl
    iexact Hk6
  iintro ⟨HO, Hk6, Hs6⟩
  iapply (wp_sent (m := m) (K := K) 1 (pays_home (by decide) h) (Above.zero _) rfl) $$ [HO Hk1]
  · isplitr; · iexact HR
    isplitl [HO]; · iexact HO
    isplitr; · iexact Hl
    iexact Hk1
  iintro ⟨HO, Hk1, Hs1⟩
  simp only [sndPay]
  rw [wp_ret]
  imodintro
  iapply Hk
  isplitl [HO]; · iexact HO
  isplitl [Hr6]; · iexact Hr6
  isplitl [Hk6]; · iexact Hk6
  isplitl [Hk1]; · iexact Hk1
  isplitl [Hk4]; · iexact Hk4
  isplitl [Hk5]; · iexact Hk5
  isplitl [Hs1]; · iexact Hs1
  isplitl [Hs4]; · iexact Hs4
  isplitl [Hs5]; · iexact Hs5
  isplitl [Hs6]; · iexact Hs6
  isplitl [Hz]; · iexact Hz
  iexact Ho

end Cert.KernelIdealRun

end
-- ==== Proof.Ideal.Body.lean ====
/- The body of the kernel on one device, at home and away from home: the parts one after the other. -/
module

public import proofs.«01_k».proof.Proof.Ideal.Talk

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem cond6_iff (c : Dev nD) : k0_cond6 c = 1#1 ↔ ¬ home c := by revert c; decide
theorem away_bit (c : Dev nD) :
    Scalar.cmpi .ne (Scalar.extui (Scalar.xori (Scalar.cmpi .eq (Scalar.remsi (Scalar.divsi (Dev.word c) 4#32) 2#32) (Scalar.remsi (Scalar.divsi (Dev.word c) 2#32) 2#32)) 1#1) : BitVec 32) 0#32 = 1#1 ↔ ¬ home c := by
  revert c; decide

variable {m : (ℓ : Loc nD τ sig) → Buf (Elt F) ℓ} {K : Dev nD × Fin 15 → ℕ} {c : Dev nD}

set_option maxHeartbeats 2000000 in
/-- The body up to its last conditional, on a home device. -/
theorem part17_home (h : home c) {Xa0 Xa1 Xa2 Xa3} {Xb0 Xb1 Xb2 Xb3} {base : Vec F S512x1024 .f32} {Q} :
    iprop(Recs m K ∗ levAts L lv ∗ ow c (O₀ c) ∗ barKit c ∗ dutyTok ER (bar (peer 0 c)) 0 (0 : Fin 4) ∗ dutyTok ER (bar (peer 1 c)) 0 (1 : Fin 4) ∗ dutyTok ER (bar (peer 2 c)) 0 (2 : Fin 4) ∗ dutyTok ER (bar (peer 3 c)) 0 (3 : Fin 4) ∗ barPay (F := F) 0 c ∗ barPay (F := F) 1 c ∗ barPay (F := F) 2 c ∗ barPay (F := F) 3 c ∗ a0 m c Xa0 ∗ a1 m c Xa1 ∗ a2 m c Xa2 ∗ a3 m c Xa3 ∗ b0 m c Xb0 ∗ b1 m c Xb1 ∗ b2 m c Xb2 ∗ b3 m c Xb3 ∗ sendKit 1 c ∗ sendKit 2 c ∗ sendKit 4 c ∗ sendKit 5 c ∗ sendKit 6 c ∗ recvKit 0 c ∗ recvKit 3 c ∗ recvKit 6 c
        ∗ pt cc0_stg0_0 c fullShare (xV m c) ∗ pt cc0_stg1_0 c fullShare (rV m c) ∗ pt cc0_stg2_0 c fullShare base
        ∗ ptE (F := F) cc0_scratch3 c ∗ ptE (F := F) cc0_scratch4 c ∗ ptE (F := F) cc0_scratch5 c ∗ ptE (F := F) cc0_scratch8 c)
      ⊢ iprop(((ow c 0 ∗ atPos ER (bar c) 1 ∅ 0 ∗ atPos ER (snd 1 c) 1 ∅ 0 ∗ atPos ER (snd 2 c) 1 ∅ 0 ∗ atPos ER (snd 4 c) 1 ∅ 0 ∗ atPos ER (snd 5 c) 1 ∅ 0 ∗ atPos ER (snd 6 c) 1 ∅ 0
        ∗ atPos ER (rcv 0 c) 1 ∅ 0 ∗ atPos ER (rcv 3 c) 1 ∅ 0 ∗ atPos ER (rcv 6 c) 1 ∅ 0 ∗ a0 m c (w1b m c 2 0) ∗ a1 m c (w1b m c 2 1) ∗ a2 m c (w1b m c 3 0) ∗ a3 m c (w1b m c 3 1) ∗ b0 m c (w2b m c 2 0) ∗ b1 m c (w2b m c 2 1) ∗ b2 m c (w2b m c 3 0) ∗ b3 m c (w2b m c 3 1)
        ∗ pt cc0_stg0_0 c fullShare (xV m c) ∗ pt cc0_stg1_0 c fullShare (rV m c) ∗ pt cc0_stg2_0 c fullShare (outF c base (doneV m c) (k0_pay19 (dsV m (peer 2 c))))
        ∗ ptE (F := F) cc0_scratch2 c ∗ ptE (F := F) cc0_scratch3 c ∗ ptE (F := F) cc0_scratch4 c ∗ ptE (F := F) cc0_scratch5 c ∗ ptE (F := F) cc0_scratch7 c ∗ ptE (F := F) cc0_scratch8 c ∗ ptE (F := F) cc0_scratch11 c) -∗ Q ⟨c, Scalar.remsi (Scalar.divsi (Dev.word c) 2#32) 2#32, (Scalar.remsi (Scalar.divsi (Dev.word c) 1#32) 2#32),
          Scalar.subi 1#32 (Scalar.remsi (Scalar.divsi (Dev.word c) 4#32) 2#32), Scalar.subi 1#32 (Scalar.remsi (Scalar.divsi (Dev.word c) 4#32) 2#32), Scalar.subi 1#32 ((Scalar.remsi (Scalar.divsi (Dev.word c) 1#32) 2#32)),
          Scalar.extui (Scalar.xori (Scalar.cmpi .eq (Scalar.remsi (Scalar.divsi (Dev.word c) 4#32) 2#32) (Scalar.remsi (Scalar.divsi (Dev.word c) 2#32) 2#32)) 1#1)⟩)
        -∗ wp frame (wpE (defs₀ (F := F)) 𝒱₀ (c : Thread nD τ) none) Set.univ (k0_part17_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA) Q) := by
  have hc4 : ¬ k0_cond4 c = 1#1 := fun e => (cond4_iff c).mp e h
  have hc5 : k0_cond5 c = 1#1 := (cond5_iff c).mpr h
  have hv := fun e => (away_bit c).mp e h
  unfold k0_part17_skel O₀
  iintro ⟨#HR, #Hl, HO, HB, Ht0, Ht1, Ht2, Ht3, Hp0, Hp1, Hp2, Hp3, Ha0, Ha1, Ha2, Ha3, Hb0, Hb1, Hb2, Hb3, Hk1, Hk2, Hk4, Hk5, Hk6, Hr0, Hr3, Hr6, Hx, Hrt, Ho, Hxc, Hmc, Hms, Hd⟩ Hk
  rw [wp_bind, k0_part5_eq_skeleton]
  iapply (part5_wp ) $$ [Ha0 Hb0]
  · isplitl [Ha0]; · iexact Ha0
    iexact Hb0
  iintro ⟨Ha0, Hb0⟩
  rw [wp_bind, k0_part6_eq_skeleton]
  iapply (part6_wp ) $$ [Ha1 Hb1 Ha2 Hb2]
  · isplitl [Ha1]; · iexact Ha1
    isplitl [Hb1]; · iexact Hb1
    isplitl [Ha2]; · iexact Ha2
    iexact Hb2
  iintro ⟨Ha1, Hb1, Ha2, Hb2⟩
  rw [wp_bind, k0_part7_eq_skeleton]
  iapply (part7_wp (m := m) (K := K) _ _ _ _ _ _ _ ((∑ k, owK c k) + owB c 3)) $$ [Ha3 Hb3 HO Ht0 Ht1 Ht2 Hp0 Hp1 Hp2]
  · isplitr; · iexact HR
    isplitl [Ha3]; · iexact Ha3
    isplitl [Hb3]; · iexact Hb3
    isplitl [HO]; · iexact HO
    isplitl [Ht0]; · iexact Ht0
    isplitl [Ht1]; · iexact Ht1
    isplitl [Ht2]; · iexact Ht2
    isplitl [Hp0]; · iexact Hp0
    isplitl [Hp1]; · iexact Hp1
    iexact Hp2
  iintro ⟨Ha3, Hb3, HO⟩
  rw [wp_bind, k0_part8_eq_skeleton]
  iapply (part8_home (m := m) (K := K) h _ _ _ _ _ _ _ _ rfl) $$ [HO Ht3 Hp3 HB Hk1 Hk2 Hr0 Hx Hrt Hxc Hmc Hms Ha0]
  · isplitr; · iexact HR
    isplitr; · iexact Hl
    isplitl [HO]; · iexact HO
    isplitl [Ht3]; · iexact Ht3
    isplitl [Hp3]; · iexact Hp3
    isplitl [HB]; · iexact HB
    isplitl [Hk1]; · iexact Hk1
    isplitl [Hk2]; · iexact Hk2
    isplitl [Hr0]; · iexact Hr0
    isplitl [Hx]; · iexact Hx
    isplitl [Hrt]; · iexact Hrt
    isplitl [Hxc]; · iexact Hxc
    isplitl [Hmc]; · iexact Hmc
    isplitl [Hms]; · iexact Hms
    iexact Ha0
  iintro ⟨HO, HB, Hk1, Hk2, Hr0, Hx, Hrt, Hxl, Hrr, Hm, Hb1p, Hb2p, Hb3p, Ha0⟩
  rw [wp_bind, k0_part9_eq_skeleton]
  iapply (part9_home ((above_oH3 c).mono (by decide)) _ _ _ _ hv) $$ [HO Ha1 Hb0 Hb1]
  · isplitl [HO]; · iexact HO
    isplitr; · iexact Hl
    isplitl [Ha1]; · iexact Ha1
    isplitl [Hb0]; · iexact Hb0
    iexact Hb1
  iintro ⟨HO, Ha1, Hb0, Hb1⟩
  rw [wp_bind, k0_part10_eq_skeleton]
  iapply (part10_wp _ _) $$ [Hxl Hm Ha0 Ha1]
  · isplitl [Hxl]; · iexact Hxl
    isplitl [Hm]; · iexact Hm
    isplitl [Ha0]; · iexact Ha0
    iexact Ha1
  iintro ⟨Hxl, Hm, Ha0, Ha1⟩
  rw [wp_bind, k0_part11_eq_skeleton]
  iapply (part11_wp ((above_oH3 c).mono (by decide)) _ _ _ _) $$ [Hb0 Hb1 Ha2 Ha3 HO]
  · isplitl [Hb0]; · iexact Hb0
    isplitl [Hb1]; · iexact Hb1
    isplitl [Ha2]; · iexact Ha2
    isplitl [Ha3]; · iexact Ha3
    isplitl [HO]; · iexact HO
    iexact Hl
  iintro ⟨Hb0, Hb1, Ha2, Ha3, HO⟩
  rw [wp_bind, k0_part12_eq_skeleton]
  iapply (part12_wp ((above_oH3 c).mono (by decide)) _ _ _ _) $$ [Ha3 Ha2 Hb2 HO]
  · isplitl [Ha3]; · iexact Ha3
    isplitl [Ha2]; · iexact Ha2
    isplitl [Hb2]; · iexact Hb2
    isplitl [HO]; · iexact HO
    iexact Hl
  iintro ⟨Ha3, Ha2, Hb2, HO⟩
  rw [wp_bind, k0_part13_eq_skeleton]
  iapply (part13_wp ((above_oH3 c).mono (by decide)) _ _) $$ [Hb2 Hb3 HO]
  · isplitl [Hb2]; · iexact Hb2
    isplitl [Hb3]; · iexact Hb3
    isplitl [HO]; · iexact HO
    iexact Hl
  iintro ⟨Hb2, Hb3, HO⟩
  rw [wp_bind, k0_part14_eq_skeleton]
  iapply (part14_wp ((above_oH3 c).mono (by decide)) _ _ _ _ _) $$ [Ha0 Ha1 HO]
  · isplitl [Ha0]; · iexact Ha0
    isplitl [Ha1]; · iexact Ha1
    isplitl [HO]; · iexact HO
    iexact Hl
  iintro ⟨Ha0, Ha1, HO⟩
  rw [wp_bind, k0_part15_eq_skeleton]
  iapply (part15_wp ((above_oH3 c).mono (by decide)) _ _) $$ [Hb0 Hb1 Ha2 HO]
  · isplitl [Hb0]; · iexact Hb0
    isplitl [Hb1]; · iexact Hb1
    isplitl [Ha2]; · iexact Ha2
    isplitl [HO]; · iexact HO
    iexact Hl
  iintro ⟨Hb0, Hb1, Ha2, HO⟩
  rw [wp_bind, k0_part16_eq_skeleton]
  iapply (part16_wp ((above_oH3 c).mono (by decide)) _ _ _ _) $$ [Ha3 Hb2 HO]
  · isplitl [Ha3]; · iexact Ha3
    isplitl [Hb2]; · iexact Hb2
    isplitl [HO]; · iexact HO
    iexact Hl
  iintro ⟨Ha3, Hb2, HO⟩
  simp only [Prog.lift, Prog.bind_op, Prog.bind_ret, Prog.pure_eq_ret]
  iapply (wp_wwait' c ((above_oH3 c).mono (by decide)) (by decide) (N := 131072) rfl) $$ [Hb3 HO]
  · isplitl [Hb3]; · iexact Hb3
    isplitl [HO]; · iexact HO
    iexact Hl
  iintro ⟨Hb3, HO⟩
  iapply (wp_wload (rg2_cut _ _ (by decide))) $$ Hb3
  iintro Hb3
  rw [dif_neg hc4, dif_pos hc5]
  rw [wp_bind, k0_part3_eq_skeleton]
  iapply (part3_wp (m := m) (K := K) h hc5 _ _ _ _ _ _ _ _ rfl) $$ [HO Hr3 Hk4 Hk5 Hd Hb1p Hb3p]
  · isplitr; · iexact HR
    isplitr; · iexact Hl
    isplitl [HO]; · iexact HO
    isplitl [Hr3]; · iexact Hr3
    isplitl [Hk4]; · iexact Hk4
    isplitl [Hk5]; · iexact Hk5
    isplitl [Hd]; · iexact Hd
    isplitl [Hb1p]; · iexact Hb1p
    iexact Hb3p
  iintro ⟨HO, Hr3, Hk4, Hk5, Hd, Hc⟩
  rw [wp_bind, k0_part4_eq_skeleton]
  iapply (part4_wp (m := m) (K := K) h hc5 _ _ _ _ _ _ _) $$ [HO Hk6 Hr6 Hk1 Hk4 Hk5 Hd Hb2p Ho]
  · isplitr; · iexact HR
    isplitr; · iexact Hl
    isplitl [HO]; · iexact HO
    isplitl [Hk6]; · iexact Hk6
    isplitl [Hr6]; · iexact Hr6
    isplitl [Hk1]; · iexact Hk1
    isplitl [Hk4]; · iexact Hk4
    isplitl [Hk5]; · iexact Hk5
    isplitl [Hd]; · iexact Hd
    isplitl [Hb2p]; · iexact Hb2p
    iexact Ho
  iintro ⟨HO, Hr6, Hk6, Hk1, Hk4, Hk5, Hs1, Hs4, Hs5, Hs6, Hz, Ho⟩
  simp only [Prog.bind_op, Prog.bind_ret, Prog.pure_eq_ret]
  iapply (wp_sent (m := m) (K := K) 2 (pays_home (by decide) h) (Above.zero _) rfl) $$ [HO Hk2]
  · isplitr; · iexact HR
    isplitl [HO]; · iexact HO
    isplitr; · iexact Hl
    iexact Hk2
  iintro ⟨HO, Hk2, Hms⟩
  simp only [sndPay]
  ihave Hxc := (pointsTo_share (PosShare.mem_left_op_right fullShare)).2 $$ [Hxl Hs1]
  · isplitl [Hxl]; · iexact Hxl
    iexact Hs1
  ihave Hd := (pointsTo_share (PosShare.mem_left_op_right fullShare.right)).2 $$ [Hs5 Hs6]
  · isplitl [Hs5]; · iexact Hs5
    iexact Hs6
  ihave Hd := (pointsTo_share (PosShare.mem_left_op_right fullShare)).2 $$ [Hs4 Hd]
  · isplitl [Hs4]; · iexact Hs4
    iexact Hd
  rw [wp_ret]
  imodintro
  iapply Hk
  isplitl [HO]; · iexact HO
  isplitl [HB]; · iexact HB
  isplitl [Hk1]; · iexact Hk1
  isplitl [Hk2]; · iexact Hk2
  isplitl [Hk4]; · iexact Hk4
  isplitl [Hk5]; · iexact Hk5
  isplitl [Hk6]; · iexact Hk6
  isplitl [Hr0]; · iexact Hr0
  isplitl [Hr3]; · iexact Hr3
  isplitl [Hr6]; · iexact Hr6
  isplitl [Ha0]; · iexact Ha0
  isplitl [Ha1]; · iexact Ha1
  isplitl [Ha2]; · iexact Ha2
  isplitl [Ha3]; · iexact Ha3
  isplitl [Hb0]; · iexact Hb0
  isplitl [Hb1]; · iexact Hb1
  isplitl [Hb2]; · iexact Hb2
  isplitl [Hb3]; · iexact Hb3
  isplitl [Hx]; · iexact Hx
  isplitl [Hrt]; · iexact Hrt
  isplitl [Ho]; · iexact Ho
  isplitl [Hrr]; · iexists _; iexact Hrr
  isplitl [Hxc]; · iexists _; iexact Hxc
  isplitl [Hm]; · iexists _; iexact Hm
  isplitl [Hms]; · iexists _; iexact Hms
  isplitl [Hc]; · iexists _; iexact Hc
  isplitl [Hd]; · iexists _; iexact Hd
  iexists _; iexact Hz

set_option maxHeartbeats 2000000 in
/-- The body up to its last conditional, away from home. -/
theorem part17_away (h : ¬ home c) {Xa0 Xa1 Xa2 Xa3} {Xb0 Xb1 Xb2 Xb3} {Q} :
    iprop(Recs m K ∗ levAts L lv ∗ ow c (O₀ c) ∗ barKit c ∗ dutyTok ER (bar (peer 0 c)) 0 (0 : Fin 4) ∗ dutyTok ER (bar (peer 1 c)) 0 (1 : Fin 4) ∗ dutyTok ER (bar (peer 2 c)) 0 (2 : Fin 4) ∗ dutyTok ER (bar (peer 3 c)) 0 (3 : Fin 4) ∗ barPay (F := F) 0 c ∗ barPay (F := F) 1 c ∗ barPay (F := F) 2 c ∗ barPay (F := F) 3 c ∗ a0 m c Xa0 ∗ a1 m c Xa1 ∗ a2 m c Xa2 ∗ a3 m c Xa3 ∗ b0 m c Xb0 ∗ b1 m c Xb1 ∗ b2 m c Xb2 ∗ b3 m c Xb3 ∗ sendKit 0 c ∗ sendKit 3 c ∗ recvKit 1 c ∗ recvKit 2 c ∗ pt cc0_stg1_0 c fullShare (rV m c) ∗ ptE (F := F) cc0_scratch6 c)
      ⊢ iprop(((ow c 0 ∗ atPos ER (bar c) 1 ∅ 0 ∗ atPos ER (snd 0 c) 1 ∅ 0 ∗ sentKit 3 c
        ∗ atPos ER (rcv 1 c) 1 ∅ 0 ∗ atPos ER (rcv 2 c) 1 ∅ 0 ∗ a0 m c (w1b m c 2 0) ∗ a1 m c (w1b m c 2 1) ∗ a2 m c (w1b m c 3 0) ∗ a3 m c (w1b m c 3 1) ∗ b0 m c (w2b m c 2 0) ∗ b1 m c (w2b m c 2 1) ∗ b2 m c (w2b m c 3 0) ∗ b3 m c (w2b m c 3 1)
        ∗ pt cc0_stg1_0 c fullShare (rV m c) ∗ ptE (F := F) cc0_scratch3 c ∗ ptE (F := F) cc0_scratch4 c) -∗ Q ⟨c, Scalar.remsi (Scalar.divsi (Dev.word c) 2#32) 2#32, (Scalar.remsi (Scalar.divsi (Dev.word c) 1#32) 2#32),
          Scalar.subi 1#32 (Scalar.remsi (Scalar.divsi (Dev.word c) 4#32) 2#32), Scalar.subi 1#32 (Scalar.remsi (Scalar.divsi (Dev.word c) 4#32) 2#32), Scalar.subi 1#32 ((Scalar.remsi (Scalar.divsi (Dev.word c) 1#32) 2#32)),
          Scalar.extui (Scalar.xori (Scalar.cmpi .eq (Scalar.remsi (Scalar.divsi (Dev.word c) 4#32) 2#32) (Scalar.remsi (Scalar.divsi (Dev.word c) 2#32) 2#32)) 1#1)⟩)
        -∗ wp frame (wpE (defs₀ (F := F)) 𝒱₀ (c : Thread nD τ) none) Set.univ (k0_part17_skel (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA) Q) := by
  have hc4 : k0_cond4 c = 1#1 := (cond4_iff c).mpr h
  have hc5 : ¬ k0_cond5 c = 1#1 := fun e => h ((cond5_iff c).mp e)
  have hv := (away_bit c).mpr h
  unfold k0_part17_skel O₀
  iintro ⟨#HR, #Hl, HO, HB, Ht0, Ht1, Ht2, Ht3, Hp0, Hp1, Hp2, Hp3, Ha0, Ha1, Ha2, Ha3, Hb0, Hb1, Hb2, Hb3, Hk0, Hk3, Hr1, Hr2, Hrt, Hcs⟩ Hk
  rw [wp_bind, k0_part5_eq_skeleton]
  iapply (part5_wp ) $$ [Ha0 Hb0]
  · isplitl [Ha0]; · iexact Ha0
    iexact Hb0
  iintro ⟨Ha0, Hb0⟩
  rw [wp_bind, k0_part6_eq_skeleton]
  iapply (part6_wp ) $$ [Ha1 Hb1 Ha2 Hb2]
  · isplitl [Ha1]; · iexact Ha1
    isplitl [Hb1]; · iexact Hb1
    isplitl [Ha2]; · iexact Ha2
    iexact Hb2
  iintro ⟨Ha1, Hb1, Ha2, Hb2⟩
  rw [wp_bind, k0_part7_eq_skeleton]
  iapply (part7_wp (m := m) (K := K) _ _ _ _ _ _ _ ((∑ k, owK c k) + owB c 3)) $$ [Ha3 Hb3 HO Ht0 Ht1 Ht2 Hp0 Hp1 Hp2]
  · isplitr; · iexact HR
    isplitl [Ha3]; · iexact Ha3
    isplitl [Hb3]; · iexact Hb3
    isplitl [HO]; · iexact HO
    isplitl [Ht0]; · iexact Ht0
    isplitl [Ht1]; · iexact Ht1
    isplitl [Ht2]; · iexact Ht2
    isplitl [Hp0]; · iexact Hp0
    isplitl [Hp1]; · iexact Hp1
    iexact Hp2
  iintro ⟨Ha3, Hb3, HO⟩
  rw [wp_bind, k0_part8_eq_skeleton]
  iapply (part8_away (m := m) (K := K) h _ _ _ _ _ _ _ _) $$ [HO Ht3 Hp3 HB Hk0 Hrt Ha0]
  · isplitr; · iexact HR
    isplitr; · iexact Hl
    isplitl [HO]; · iexact HO
    isplitl [Ht3]; · iexact Ht3
    isplitl [Hp3]; · iexact Hp3
    isplitl [HB]; · iexact HB
    isplitl [Hk0]; · iexact Hk0
    isplitl [Hrt]; · iexact Hrt
    iexact Ha0
  iintro ⟨HO, HB, Hk0, Hrt, Hbc, Ha0⟩
  rw [wp_bind, k0_part9_eq_skeleton]
  iapply (part9_away (m := m) (K := K) h _ _ _ _ hv) $$ [HO Hr1 Hr2 Ha1 Hb0 Hb1]
  · isplitr; · iexact HR
    isplitl [HO]; · iexact HO
    isplitr; · iexact Hl
    isplitl [Hr1]; · iexact Hr1
    isplitl [Hr2]; · iexact Hr2
    isplitl [Ha1]; · iexact Ha1
    isplitl [Hb0]; · iexact Hb0
    iexact Hb1
  iintro ⟨HO, Hr1, Hr2, Hxl, Hm, Ha1, Hb0, Hb1⟩
  rw [wp_bind, k0_part10_eq_skeleton]
  iapply (part10_wp _ _) $$ [Hxl Hm Ha0 Ha1]
  · isplitl [Hxl]; · iexact Hxl
    isplitl [Hm]; · iexact Hm
    isplitl [Ha0]; · iexact Ha0
    iexact Ha1
  iintro ⟨Hxl, Hm, Ha0, Ha1⟩
  rw [wp_bind, k0_part11_eq_skeleton]
  iapply (part11_wp ((above_oA2 c).mono (by decide)) _ _ _ _) $$ [Hb0 Hb1 Ha2 Ha3 HO]
  · isplitl [Hb0]; · iexact Hb0
    isplitl [Hb1]; · iexact Hb1
    isplitl [Ha2]; · iexact Ha2
    isplitl [Ha3]; · iexact Ha3
    isplitl [HO]; · iexact HO
    iexact Hl
  iintro ⟨Hb0, Hb1, Ha2, Ha3, HO⟩
  rw [wp_bind, k0_part12_eq_skeleton]
  iapply (part12_wp ((above_oA2 c).mono (by decide)) _ _ _ _) $$ [Ha3 Ha2 Hb2 HO]
  · isplitl [Ha3]; · iexact Ha3
    isplitl [Ha2]; · iexact Ha2
    isplitl [Hb2]; · iexact Hb2
    isplitl [HO]; · iexact HO
    iexact Hl
  iintro ⟨Ha3, Ha2, Hb2, HO⟩
  rw [wp_bind, k0_part13_eq_skeleton]
  iapply (part13_wp ((above_oA2 c).mono (by decide)) _ _) $$ [Hb2 Hb3 HO]
  · isplitl [Hb2]; · iexact Hb2
    isplitl [Hb3]; · iexact Hb3
    isplitl [HO]; · iexact HO
    iexact Hl
  iintro ⟨Hb2, Hb3, HO⟩
  rw [wp_bind, k0_part14_eq_skeleton]
  iapply (part14_wp ((above_oA2 c).mono (by decide)) _ _ _ _ _) $$ [Ha0 Ha1 HO]
  · isplitl [Ha0]; · iexact Ha0
    isplitl [Ha1]; · iexact Ha1
    isplitl [HO]; · iexact HO
    iexact Hl
  iintro ⟨Ha0, Ha1, HO⟩
  rw [wp_bind, k0_part15_eq_skeleton]
  iapply (part15_wp ((above_oA2 c).mono (by decide)) _ _) $$ [Hb0 Hb1 Ha2 HO]
  · isplitl [Hb0]; · iexact Hb0
    isplitl [Hb1]; · iexact Hb1
    isplitl [Ha2]; · iexact Ha2
    isplitl [HO]; · iexact HO
    iexact Hl
  iintro ⟨Hb0, Hb1, Ha2, HO⟩
  rw [wp_bind, k0_part16_eq_skeleton]
  iapply (part16_wp ((above_oA2 c).mono (by decide)) _ _ _ _) $$ [Ha3 Hb2 HO]
  · isplitl [Ha3]; · iexact Ha3
    isplitl [Hb2]; · iexact Hb2
    isplitl [HO]; · iexact HO
    iexact Hl
  iintro ⟨Ha3, Hb2, HO⟩
  simp only [Prog.lift, Prog.bind_op, Prog.bind_ret, Prog.pure_eq_ret]
  iapply (wp_wwait' c ((above_oA2 c).mono (by decide)) (by decide) (N := 131072) rfl) $$ [Hb3 HO]
  · isplitl [Hb3]; · iexact Hb3
    isplitl [HO]; · iexact HO
    iexact Hl
  iintro ⟨Hb3, HO⟩
  iapply (wp_wload (rg2_cut _ _ (by decide))) $$ Hb3
  iintro Hb3
  rw [dif_pos hc4, dif_neg hc5]
  simp only [Prog.bind_op, Prog.bind_ret, Prog.pure_eq_ret]
  icases Hcs with ⟨%f, Hcs⟩
  iapply (wp_ld _ (Memref.readAt_unit_zero (Elt F) cc0_scratch6 off00 _ _)) $$ Hcs
  iintro Hcs
  iapply (wp_st cc0_scratch6.2 cc0_scratch6.3 (c1V m c) (Memref.write_access_unit_zero_univ (Elt F) cc0_scratch6 off00 _ _ _)) $$ Hcs
  iintro Hcs
  iapply (wp_send3 (m := m) (K := K) (pays_away (by decide) h) (dev8_eq c hc4) 0 (zero_add _).symm) $$ [HO Hk3 Hcs Hbc]
  · isplitr; · iexact HR
    isplitl [HO]; · iexact HO
    isplitl [Hk3]; · iexact Hk3
    isplitl [Hcs]; · iexact Hcs
    iexact Hbc
  iintro ⟨HO, Hk3⟩
  rw [wp_ret]
  imodintro
  iapply Hk
  isplitl [HO]; · iexact HO
  isplitl [HB]; · iexact HB
  isplitl [Hk0]; · iexact Hk0
  isplitl [Hk3]; · iexact Hk3
  isplitl [Hr1]; · iexact Hr1
  isplitl [Hr2]; · iexact Hr2
  isplitl [Ha0]; · iexact Ha0
  isplitl [Ha1]; · iexact Ha1
  isplitl [Ha2]; · iexact Ha2
  isplitl [Ha3]; · iexact Ha3
  isplitl [Hb0]; · iexact Hb0
  isplitl [Hb1]; · iexact Hb1
  isplitl [Hb2]; · iexact Hb2
  isplitl [Hb3]; · iexact Hb3
  isplitl [Hrt]; · iexact Hrt
  isplitl [Hxl]; · iexists _; iexact Hxl
  iexists _; iexact Hm

set_option maxHeartbeats 2000000 in
/-- The body on a home device. -/
theorem body_home (h : home c) {Xa0 Xa1 Xa2 Xa3} {Xb0 Xb1 Xb2 Xb3} {base : Vec F S512x1024 .f32} {Q : PUnit → sProp 𝕄} :
    iprop(Recs m K ∗ levAts L lv ∗ ow c (O₀ c) ∗ barKit c ∗ dutyTok ER (bar (peer 0 c)) 0 (0 : Fin 4) ∗ dutyTok ER (bar (peer 1 c)) 0 (1 : Fin 4) ∗ dutyTok ER (bar (peer 2 c)) 0 (2 : Fin 4) ∗ dutyTok ER (bar (peer 3 c)) 0 (3 : Fin 4) ∗ barPay (F := F) 0 c ∗ barPay (F := F) 1 c ∗ barPay (F := F) 2 c ∗ barPay (F := F) 3 c ∗ a0 m c Xa0 ∗ a1 m c Xa1 ∗ a2 m c Xa2 ∗ a3 m c Xa3 ∗ b0 m c Xb0 ∗ b1 m c Xb1 ∗ b2 m c Xb2 ∗ b3 m c Xb3 ∗ sendKit 1 c ∗ sendKit 2 c ∗ sendKit 4 c ∗ sendKit 5 c ∗ sendKit 6 c ∗ recvKit 0 c ∗ recvKit 3 c ∗ recvKit 6 c
        ∗ pt cc0_stg0_0 c fullShare (xV m c) ∗ pt cc0_stg1_0 c fullShare (rV m c) ∗ pt cc0_stg2_0 c fullShare base
        ∗ ptE (F := F) cc0_scratch3 c ∗ ptE (F := F) cc0_scratch4 c ∗ ptE (F := F) cc0_scratch5 c ∗ ptE (F := F) cc0_scratch8 c)
      ⊢ iprop(((ow c 0 ∗ atPos ER (bar c) 1 ∅ 0 ∗ atPos ER (snd 1 c) 1 ∅ 0 ∗ atPos ER (snd 2 c) 1 ∅ 0 ∗ atPos ER (snd 4 c) 1 ∅ 0 ∗ atPos ER (snd 5 c) 1 ∅ 0 ∗ atPos ER (snd 6 c) 1 ∅ 0
        ∗ atPos ER (rcv 0 c) 1 ∅ 0 ∗ atPos ER (rcv 3 c) 1 ∅ 0 ∗ atPos ER (rcv 6 c) 1 ∅ 0 ∗ a0 m c (w1b m c 2 0) ∗ a1 m c (w1b m c 2 1) ∗ a2 m c (w1b m c 3 0) ∗ a3 m c (w1b m c 3 1) ∗ b0 m c (w2b m c 2 0) ∗ b1 m c (w2b m c 2 1) ∗ b2 m c (w2b m c 3 0) ∗ b3 m c (w2b m c 3 1)
        ∗ pt cc0_stg0_0 c fullShare (xV m c) ∗ pt cc0_stg1_0 c fullShare (rV m c) ∗ pt cc0_stg2_0 c fullShare (outF c base (doneV m c) (k0_pay19 (dsV m (peer 2 c))))
        ∗ ptE (F := F) cc0_scratch2 c ∗ ptE (F := F) cc0_scratch3 c ∗ ptE (F := F) cc0_scratch4 c ∗ ptE (F := F) cc0_scratch5 c ∗ ptE (F := F) cc0_scratch7 c ∗ ptE (F := F) cc0_scratch8 c ∗ ptE (F := F) cc0_scratch11 c) -∗ Q ⟨⟩)
        -∗ wp frame (wpE (defs₀ (F := F)) 𝒱₀ (c : Thread nD τ) none) Set.univ (cc0__body (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA) Q) := by
  rw [cc0__body_eq_skeleton]
  unfold cc0__body_skel
  have hc6 : ¬ k0_cond6 c = 1#1 := fun e => (cond6_iff c).mp e h
  iintro ⟨#HR, #Hl, HO, HB, Ht0, Ht1, Ht2, Ht3, Hp0, Hp1, Hp2, Hp3, Ha0, Ha1, Ha2, Ha3, Hb0, Hb1, Hb2, Hb3, Hk1, Hk2, Hk4, Hk5, Hk6, Hr0, Hr3, Hr6, Hx, Hrt, Ho, Hxc, Hmc, Hms, Hd⟩ Hk
  rw [wp_bind, k0_part17_eq_skeleton]
  iapply (part17_home (m := m) (K := K) h) $$ [HO HB Ht0 Ht1 Ht2 Ht3 Hp0 Hp1 Hp2 Hp3 Ha0 Ha1 Ha2 Ha3 Hb0 Hb1 Hb2 Hb3 Hk1 Hk2 Hk4 Hk5 Hk6 Hr0 Hr3 Hr6 Hx Hrt Ho Hxc Hmc Hms Hd]
  · isplitr; · iexact HR
    isplitr; · iexact Hl
    isplitl [HO]; · iexact HO
    isplitl [HB]; · iexact HB
    isplitl [Ht0]; · iexact Ht0
    isplitl [Ht1]; · iexact Ht1
    isplitl [Ht2]; · iexact Ht2
    isplitl [Ht3]; · iexact Ht3
    isplitl [Hp0]; · iexact Hp0
    isplitl [Hp1]; · iexact Hp1
    isplitl [Hp2]; · iexact Hp2
    isplitl [Hp3]; · iexact Hp3
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hb2]; · iexact Hb2
    isplitl [Hb3]; · iexact Hb3
    isplitl [Hk1]; · iexact Hk1
    isplitl [Hk2]; · iexact Hk2
    isplitl [Hk4]; · iexact Hk4
    isplitl [Hk5]; · iexact Hk5
    isplitl [Hk6]; · iexact Hk6
    isplitl [Hr0]; · iexact Hr0
    isplitl [Hr3]; · iexact Hr3
    isplitl [Hr6]; · iexact Hr6
    isplitl [Hx]; · iexact Hx
    isplitl [Hrt]; · iexact Hrt
    isplitl [Ho]; · iexact Ho
    isplitl [Hxc]; · iexact Hxc
    isplitl [Hmc]; · iexact Hmc
    isplitl [Hms]; · iexact Hms
    iexact Hd
  iintro ⟨HO, HB, Hk1, Hk2, Hk4, Hk5, Hk6, Hr0, Hr3, Hr6, Ha0, Ha1, Ha2, Ha3, Hb0, Hb1, Hb2, Hb3, Hx, Hrt, Ho, Hrr, Hxc, Hm, Hms, Hc, Hd, Hz⟩
  simp only [dif_neg hc6, Prog.bind_op, Prog.bind_ret, Prog.pure_eq_ret]
  rw [wp_ret]
  imodintro
  iapply Hk
  isplitl [HO]; · iexact HO
  isplitl [HB]; · iexact HB
  isplitl [Hk1]; · iexact Hk1
  isplitl [Hk2]; · iexact Hk2
  isplitl [Hk4]; · iexact Hk4
  isplitl [Hk5]; · iexact Hk5
  isplitl [Hk6]; · iexact Hk6
  isplitl [Hr0]; · iexact Hr0
  isplitl [Hr3]; · iexact Hr3
  isplitl [Hr6]; · iexact Hr6
  isplitl [Ha0]; · iexact Ha0
  isplitl [Ha1]; · iexact Ha1
  isplitl [Ha2]; · iexact Ha2
  isplitl [Ha3]; · iexact Ha3
  isplitl [Hb0]; · iexact Hb0
  isplitl [Hb1]; · iexact Hb1
  isplitl [Hb2]; · iexact Hb2
  isplitl [Hb3]; · iexact Hb3
  isplitl [Hx]; · iexact Hx
  isplitl [Hrt]; · iexact Hrt
  isplitl [Ho]; · iexact Ho
  isplitl [Hrr]; · iexact Hrr
  isplitl [Hxc]; · iexact Hxc
  isplitl [Hm]; · iexact Hm
  isplitl [Hms]; · iexact Hms
  isplitl [Hc]; · iexact Hc
  isplitl [Hd]; · iexact Hd
  iexact Hz

set_option maxHeartbeats 2000000 in
/-- The body away from home. -/
theorem body_away (h : ¬ home c) {Xa0 Xa1 Xa2 Xa3} {Xb0 Xb1 Xb2 Xb3} {base : Vec F S512x1024 .f32} {Q : PUnit → sProp 𝕄} :
    iprop(Recs m K ∗ levAts L lv ∗ ow c (O₀ c) ∗ barKit c ∗ dutyTok ER (bar (peer 0 c)) 0 (0 : Fin 4) ∗ dutyTok ER (bar (peer 1 c)) 0 (1 : Fin 4) ∗ dutyTok ER (bar (peer 2 c)) 0 (2 : Fin 4) ∗ dutyTok ER (bar (peer 3 c)) 0 (3 : Fin 4) ∗ barPay (F := F) 0 c ∗ barPay (F := F) 1 c ∗ barPay (F := F) 2 c ∗ barPay (F := F) 3 c ∗ a0 m c Xa0 ∗ a1 m c Xa1 ∗ a2 m c Xa2 ∗ a3 m c Xa3 ∗ b0 m c Xb0 ∗ b1 m c Xb1 ∗ b2 m c Xb2 ∗ b3 m c Xb3 ∗ sendKit 0 c ∗ sendKit 3 c ∗ recvKit 1 c ∗ recvKit 2 c ∗ pt cc0_stg1_0 c fullShare (rV m c) ∗ ptE (F := F) cc0_scratch6 c ∗ recvKit 4 c ∗ recvKit 5 c ∗ pt cc0_stg2_0 c fullShare base)
      ⊢ iprop(((ow c 0 ∗ atPos ER (bar c) 1 ∅ 0 ∗ atPos ER (snd 0 c) 1 ∅ 0 ∗ atPos ER (snd 3 c) 1 ∅ 0
        ∗ atPos ER (rcv 1 c) 1 ∅ 0 ∗ atPos ER (rcv 2 c) 1 ∅ 0 ∗ atPos ER (rcv 4 c) 1 ∅ 0 ∗ atPos ER (rcv 5 c) 1 ∅ 0 ∗ a0 m c (w1b m c 2 0) ∗ a1 m c (w1b m c 2 1) ∗ a2 m c (w1b m c 3 0) ∗ a3 m c (w1b m c 3 1) ∗ b0 m c (w2b m c 2 0) ∗ b1 m c (w2b m c 2 1) ∗ b2 m c (w2b m c 3 0) ∗ b3 m c (w2b m c 3 1)
        ∗ pt cc0_stg1_0 c fullShare (rV m c) ∗ pt cc0_stg2_0 c fullShare (outF c base (k0_pay1 (dsV m (peer 1 c))) (k0_pay2 (dsV m (peer 3 c))))
        ∗ ptE (F := F) cc0_scratch3 c ∗ ptE (F := F) cc0_scratch4 c ∗ ptE (F := F) cc0_scratch6 c ∗ ptE (F := F) cc0_scratch9 c ∗ ptE (F := F) cc0_scratch10 c) -∗ Q ⟨⟩)
        -∗ wp frame (wpE (defs₀ (F := F)) 𝒱₀ (c : Thread nD τ) none) Set.univ (cc0__body (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA) Q) := by
  rw [cc0__body_eq_skeleton]
  unfold cc0__body_skel
  have hc6 : k0_cond6 c = 1#1 := (cond6_iff c).mpr h
  iintro ⟨#HR, #Hl, HO, HB, Ht0, Ht1, Ht2, Ht3, Hp0, Hp1, Hp2, Hp3, Ha0, Ha1, Ha2, Ha3, Hb0, Hb1, Hb2, Hb3, Hk0, Hk3, Hr1, Hr2, Hrt, Hcs, Hr4, Hr5, Ho⟩ Hk
  rw [wp_bind, k0_part17_eq_skeleton]
  iapply (part17_away (m := m) (K := K) h) $$ [HO HB Ht0 Ht1 Ht2 Ht3 Hp0 Hp1 Hp2 Hp3 Ha0 Ha1 Ha2 Ha3 Hb0 Hb1 Hb2 Hb3 Hk0 Hk3 Hr1 Hr2 Hrt Hcs]
  · isplitr; · iexact HR
    isplitr; · iexact Hl
    isplitl [HO]; · iexact HO
    isplitl [HB]; · iexact HB
    isplitl [Ht0]; · iexact Ht0
    isplitl [Ht1]; · iexact Ht1
    isplitl [Ht2]; · iexact Ht2
    isplitl [Ht3]; · iexact Ht3
    isplitl [Hp0]; · iexact Hp0
    isplitl [Hp1]; · iexact Hp1
    isplitl [Hp2]; · iexact Hp2
    isplitl [Hp3]; · iexact Hp3
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hb2]; · iexact Hb2
    isplitl [Hb3]; · iexact Hb3
    isplitl [Hk0]; · iexact Hk0
    isplitl [Hk3]; · iexact Hk3
    isplitl [Hr1]; · iexact Hr1
    isplitl [Hr2]; · iexact Hr2
    isplitl [Hrt]; · iexact Hrt
    iexact Hcs
  iintro ⟨HO, HB, Hk0, Hk3, Hr1, Hr2, Ha0, Ha1, Ha2, Ha3, Hb0, Hb1, Hb2, Hb3, Hrt, Hxl, Hm⟩
  simp only [dif_pos hc6, Prog.lift, Prog.bind_op, Prog.bind_ret, Prog.pure_eq_ret]
  iapply (wp_sent (m := m) (K := K) 3 (pays_away (by decide) h) (Above.zero _) rfl) $$ [HO Hk3]
  · isplitr; · iexact HR
    isplitl [HO]; · iexact HO
    isplitr; · iexact Hl
    iexact Hk3
  iintro ⟨HO, Hk3, Hcs⟩
  iapply (wp_recv (m := m) (K := K) 4 (gets_away (by decide) h) 6 (by decide) (Above.zero _) rfl) $$ [HO Hr4]
  · isplitr; · iexact HR
    isplitl [HO]; · iexact HO
    isplitr; · iexact Hl
    iexact Hr4
  iintro ⟨HO, Hr4, Hdx⟩
  simp only [rcvPay, sndPay]
  iapply (wp_ld _ (Memref.readAt_unit_zero (Elt F) cc0_scratch9 off00 _ _)) $$ Hdx
  iintro Hdx
  iapply (wp_ld (M := oM) (r := (Rect.unit (s := S512x1024) (k0_off4 c) S256x1024.size (k0_off4_inb c hc6)).toLoadRect) _ rfl) $$ Ho
  iintro Ho
  iapply (wp_st cc0_stg2_0.2 cc0_stg2_0.3 ((oM.access (ownR c)).write (Elt F) base (k0_pay1 (dsV m (peer 1 c))) Finset.univ) (write_own (k0_off4_eq c) _ _ _)) $$ Ho
  iintro Ho
  iapply (wp_recv (m := m) (K := K) 5 (gets_away (by decide) h) 6 (by decide) (Above.zero _) rfl) $$ [HO Hr5]
  · isplitr; · iexact HR
    isplitl [HO]; · iexact HO
    isplitr; · iexact Hl
    iexact Hr5
  iintro ⟨HO, Hr5, Hdg⟩
  simp only [rcvPay]
  iapply (wp_ld _ (Memref.readAt_unit_zero (Elt F) cc0_scratch10 off00 _ _)) $$ Hdg
  iintro Hdg
  iapply (wp_ld (M := oM) (r := (Rect.unit (s := S512x1024) (k0_off5 c) S256x1024.size (k0_off5_inb c hc6)).toLoadRect) _ rfl) $$ Ho
  iintro Ho
  iapply (wp_st cc0_stg2_0.2 cc0_stg2_0.3 (outF c base (k0_pay1 (dsV m (peer 1 c))) (k0_pay2 (dsV m (peer 3 c)))) (write_oth (k0_off5_eq c) _ _ _)) $$ Ho
  iintro Ho
  rw [wp_ret]
  imodintro
  iapply Hk
  isplitl [HO]; · iexact HO
  isplitl [HB]; · iexact HB
  isplitl [Hk0]; · iexact Hk0
  isplitl [Hk3]; · iexact Hk3
  isplitl [Hr1]; · iexact Hr1
  isplitl [Hr2]; · iexact Hr2
  isplitl [Hr4]; · iexact Hr4
  isplitl [Hr5]; · iexact Hr5
  isplitl [Ha0]; · iexact Ha0
  isplitl [Ha1]; · iexact Ha1
  isplitl [Ha2]; · iexact Ha2
  isplitl [Ha3]; · iexact Ha3
  isplitl [Hb0]; · iexact Hb0
  isplitl [Hb1]; · iexact Hb1
  isplitl [Hb2]; · iexact Hb2
  isplitl [Hb3]; · iexact Hb3
  isplitl [Hrt]; · iexact Hrt
  isplitl [Ho]; · iexact Ho
  isplitl [Hxl]; · iexact Hxl
  isplitl [Hm]; · iexact Hm
  isplitl [Hcs]; · iexists _; iexact Hcs
  isplitl [Hdx]; · iexists _; iexact Hdx
  iexists _; iexact Hdg

end Cert.KernelIdealRun

end
-- ==== Proof.Ideal.Windows.lean ====
/- The eight windows taken from, and given back to, the two landing buffers and the two weight arrays. -/
module

public import proofs.«01_k».proof.Proof.Ideal.Parts

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Four
variable {dM dA sz : Fin 3 → ℕ} {c : Dev nD} {M : Memref sig .tc .vmem ⟨3, dM⟩ .f32} {A : Memref sig .tc .hbm ⟨3, dA⟩ .f32}
  {S0 S1 S2 S3 : Finset M.view.ty.Idx}
  (hU : S0 ∪ (S1 ∪ (S2 ∪ S3)) = Finset.univ) (h0 : Disjoint S0 (S1 ∪ (S2 ∪ S3))) (h1 : Disjoint S1 (S2 ∪ S3)) (h2 : Disjoint S2 S3)
  (sm : Fin 4 → DmaSem sig) {o0 o1 o2 o3 : Fin 3 → ℕ} (i0 : ∀ a, o0 a + sz a ≤ dM a) (i1 : ∀ a, o1 a + sz a ≤ dM a) (i2 : ∀ a, o2 a + sz a ≤ dM a) (i3 : ∀ a, o3 a + sz a ≤ dM a)
  (V : A.view.ty.Contents (Elt F))
include hU h0 h1 h2

/-- A landing buffer and a weight array cut into four windows at rest. -/
theorem enter4 (f : M.view.ty.Contents (Elt F)) :
    iprop((M.view.loc (c : Thread nD τ) ↦{fullShare} f) ∗ (A.view.loc (c : Thread nD τ) ↦{fullShare} V)
        ∗ semVal ((c : Thread nD τ), SemLoc.dma (sm 0)) 0 ∗ semVal ((c : Thread nD τ), SemLoc.dma (sm 1)) 0 ∗ semVal ((c : Thread nD τ), SemLoc.dma (sm 2)) 0 ∗ semVal ((c : Thread nD τ), SemLoc.dma (sm 3)) 0)
      ⊢ (iprop(wheld c (sm 0) M S0 o0 i0 (wq 0) A V (rdw M o0 i0 f) ∗ wheld c (sm 1) M S1 o1 i1 (wq 1) A V (rdw M o1 i1 f) ∗ wheld c (sm 2) M S2 o2 i2 (wq 2) A V (rdw M o2 i2 f) ∗ wheld c (sm 3) M S3 o3 i3 (wq 3) A V (rdw M o3 i3 f)) : sProp 𝕄) := by
  unfold wheld wbuf
  iintro ⟨Hf, HA, Hs0, Hs1, Hs2, Hs3⟩
  ihave Hf := (Entails.of_eq (congrArg (fun S => (M.view.loc (c : Thread nD τ) ↦[S]{fullShare} f : sProp 𝕄)) hU.symm)) $$ Hf
  ihave Hf := (pointsTo_union h0).1 $$ Hf
  icases Hf with ⟨Hf0, Hf⟩
  ihave Hf := (pointsTo_union h1).1 $$ Hf
  icases Hf with ⟨Hf1, Hf⟩
  ihave Hf := (pointsTo_union h2).1 $$ Hf
  icases Hf with ⟨Hf2, Hf3⟩
  ihave HA := (pointsTo_share (PosShare.mem_left_op_right fullShare)).1 $$ HA
  icases HA with ⟨HA, HA'⟩
  ihave HA := (pointsTo_share (PosShare.mem_left_op_right fullShare.left)).1 $$ HA
  icases HA with ⟨HA0, HA1⟩
  ihave HA' := (pointsTo_share (PosShare.mem_left_op_right fullShare.right)).1 $$ HA'
  icases HA' with ⟨HA2, HA3⟩
  isplitl [Hs0 Hf0 HA0]
  · isplitl [Hs0]; · iexact Hs0
    isplitl [Hf0]
    · iexists f
      isplitr; · ipureintro; rfl
      iexact Hf0
    iexact HA0
  isplitl [Hs1 Hf1 HA1]
  · isplitl [Hs1]; · iexact Hs1
    isplitl [Hf1]
    · iexists f
      isplitr; · ipureintro; rfl
      iexact Hf1
    iexact HA1
  isplitl [Hs2 Hf2 HA2]
  · isplitl [Hs2]; · iexact Hs2
    isplitl [Hf2]
    · iexists f
      isplitr; · ipureintro; rfl
      iexact Hf2
    iexact HA2
  isplitl [Hs3]; · iexact Hs3
  isplitl [Hf3]
  · iexists f
    isplitr; · ipureintro; rfl
    iexact Hf3
  iexact HA3

/-- Four windows at rest put back together. -/
theorem leave4 {X0 X1 X2 X3 : FVec F ⟨3, sz⟩ .f32} :
    (iprop(wheld c (sm 0) M S0 o0 i0 (wq 0) A V X0 ∗ wheld c (sm 1) M S1 o1 i1 (wq 1) A V X1 ∗ wheld c (sm 2) M S2 o2 i2 (wq 2) A V X2 ∗ wheld c (sm 3) M S3 o3 i3 (wq 3) A V X3) : sProp 𝕄)
      ⊢ iprop((∃ f : M.view.ty.Contents (Elt F), M.view.loc (c : Thread nD τ) ↦{fullShare} f) ∗ (A.view.loc (c : Thread nD τ) ↦{fullShare} V)
        ∗ semVal ((c : Thread nD τ), SemLoc.dma (sm 0)) 0 ∗ semVal ((c : Thread nD τ), SemLoc.dma (sm 1)) 0 ∗ semVal ((c : Thread nD τ), SemLoc.dma (sm 2)) 0 ∗ semVal ((c : Thread nD τ), SemLoc.dma (sm 3)) 0) := by
  unfold wheld wbuf
  iintro ⟨⟨Hs0, ⟨%f0, -, Hf0⟩, HA0⟩, ⟨Hs1, ⟨%f1, -, Hf1⟩, HA1⟩, ⟨Hs2, ⟨%f2, -, Hf2⟩, HA2⟩, ⟨Hs3, ⟨%f3, -, Hf3⟩, HA3⟩⟩
  ihave Hf := (pointsTo_join (ℓ := M.view.loc (c : Thread nD τ)) h2) $$ [Hf2 Hf3]
  · isplitl [Hf2] <;> iassumption
  ihave Hf := (pointsTo_join (ℓ := M.view.loc (c : Thread nD τ)) h1) $$ [Hf1 Hf]
  · isplitl [Hf1] <;> iassumption
  ihave Hf := (pointsTo_join (ℓ := M.view.loc (c : Thread nD τ)) h0) $$ [Hf0 Hf]
  · isplitl [Hf0] <;> iassumption
  ihave HA := (pointsTo_share (PosShare.mem_left_op_right fullShare.left)).2 $$ [HA0 HA1]
  · isplitl [HA0]; · iexact HA0
    iexact HA1
  ihave HA' := (pointsTo_share (PosShare.mem_left_op_right fullShare.right)).2 $$ [HA2 HA3]
  · isplitl [HA2]; · iexact HA2
    iexact HA3
  ihave HA := (pointsTo_share (PosShare.mem_left_op_right fullShare)).2 $$ [HA HA']
  · isplitl [HA]; · iexact HA
    iexact HA'
  isplitl [Hf]
  · ihave Hf := (Entails.of_eq (congrArg (fun S => (M.view.loc (c : Thread nD τ) ↦[S]{fullShare} _ : sProp 𝕄)) hU)) $$ Hf
    iexists _; iexact Hf
  isplitl [HA]; · iexact HA
  isplitl [Hs0]; · iexact Hs0
  isplitl [Hs1]; · iexact Hs1
  isplitl [Hs2]; · iexact Hs2
  iexact Hs3

end Four

/-! ## The regions of landing buffer 1 -/

theorem rg1_mem (o : Fin 3 → ℕ) (i : w1vM.view.ty.Idx) : i ∈ rg1 o ↔ (i 0).val = o 0 ∧ (i 1).val / 512 = o 1 / 512 := by
  unfold rg1; rw [Finset.mem_filter]; exact ⟨fun h => h.2, fun h => ⟨Finset.mem_univ _, h⟩⟩
theorem rg1_disj (o o' : Fin 3 → ℕ) (h : o 0 ≠ o' 0 ∨ o 1 / 512 ≠ o' 1 / 512) : Disjoint (rg1 o) (rg1 o') := by
  rw [Finset.disjoint_left]
  intro i hi hi'
  rw [rg1_mem] at hi hi'
  rcases h with h | h
  · exact h (hi.1.symm.trans hi'.1)
  · exact h (hi.2.symm.trans hi'.2)
theorem rg1_cover : rg1 ![0, 0, 0] ∪ (rg1 ![0, 512, 0] ∪ (rg1 ![1, 0, 0] ∪ rg1 ![1, 512, 0])) = Finset.univ := by
  refine Finset.eq_univ_iff_forall.mpr fun i => ?_
  have b0 : (i 0).val < 2 := (i 0).2
  have b1 : (i 1).val < 1024 := (i 1).2
  rw [Finset.mem_union, Finset.mem_union, Finset.mem_union, rg1_mem, rg1_mem, rg1_mem, rg1_mem]
  show ((i 0).val = 0 ∧ (i 1).val / 512 = 0 / 512) ∨ ((i 0).val = 0 ∧ (i 1).val / 512 = 512 / 512) ∨ ((i 0).val = 1 ∧ (i 1).val / 512 = 0 / 512) ∨ ((i 0).val = 1 ∧ (i 1).val / 512 = 512 / 512)
  omega
theorem rg1_d0 : Disjoint (rg1 ![0, 0, 0]) (rg1 ![0, 512, 0] ∪ (rg1 ![1, 0, 0] ∪ rg1 ![1, 512, 0])) := by
  rw [Finset.disjoint_union_right, Finset.disjoint_union_right]
  exact ⟨rg1_disj _ _ (by decide), rg1_disj _ _ (by decide), rg1_disj _ _ (by decide)⟩
theorem rg1_d1 : Disjoint (rg1 ![0, 512, 0]) (rg1 ![1, 0, 0] ∪ rg1 ![1, 512, 0]) := by
  rw [Finset.disjoint_union_right]
  exact ⟨rg1_disj _ _ (by decide), rg1_disj _ _ (by decide)⟩
theorem rg1_d2 : Disjoint (rg1 ![1, 0, 0]) (rg1 ![1, 512, 0]) := rg1_disj _ _ (by decide)

/-! ## The regions of landing buffer 2 -/

theorem rg2_mem (o : Fin 3 → ℕ) (i : w2vM.view.ty.Idx) : i ∈ rg2 o ↔ (i 0).val = o 0 ∧ (i 1).val / 1024 = o 1 / 1024 := by
  unfold rg2; rw [Finset.mem_filter]; exact ⟨fun h => h.2, fun h => ⟨Finset.mem_univ _, h⟩⟩
theorem rg2_disj (o o' : Fin 3 → ℕ) (h : o 0 ≠ o' 0 ∨ o 1 / 1024 ≠ o' 1 / 1024) : Disjoint (rg2 o) (rg2 o') := by
  rw [Finset.disjoint_left]
  intro i hi hi'
  rw [rg2_mem] at hi hi'
  rcases h with h | h
  · exact h (hi.1.symm.trans hi'.1)
  · exact h (hi.2.symm.trans hi'.2)
theorem rg2_cover : rg2 ![0, 0, 0] ∪ (rg2 ![0, 1024, 0] ∪ (rg2 ![1, 0, 0] ∪ rg2 ![1, 1024, 0])) = Finset.univ := by
  refine Finset.eq_univ_iff_forall.mpr fun i => ?_
  have b0 : (i 0).val < 2 := (i 0).2
  have b1 : (i 1).val < 2048 := (i 1).2
  rw [Finset.mem_union, Finset.mem_union, Finset.mem_union, rg2_mem, rg2_mem, rg2_mem, rg2_mem]
  show ((i 0).val = 0 ∧ (i 1).val / 1024 = 0 / 1024) ∨ ((i 0).val = 0 ∧ (i 1).val / 1024 = 1024 / 1024) ∨ ((i 0).val = 1 ∧ (i 1).val / 1024 = 0 / 1024) ∨ ((i 0).val = 1 ∧ (i 1).val / 1024 = 1024 / 1024)
  omega
theorem rg2_d0 : Disjoint (rg2 ![0, 0, 0]) (rg2 ![0, 1024, 0] ∪ (rg2 ![1, 0, 0] ∪ rg2 ![1, 1024, 0])) := by
  rw [Finset.disjoint_union_right, Finset.disjoint_union_right]
  exact ⟨rg2_disj _ _ (by decide), rg2_disj _ _ (by decide), rg2_disj _ _ (by decide)⟩
theorem rg2_d1 : Disjoint (rg2 ![0, 1024, 0]) (rg2 ![1, 0, 0] ∪ rg2 ![1, 1024, 0]) := by
  rw [Finset.disjoint_union_right]
  exact ⟨rg2_disj _ _ (by decide), rg2_disj _ _ (by decide)⟩
theorem rg2_d2 : Disjoint (rg2 ![1, 0, 0]) (rg2 ![1, 1024, 0]) := rg2_disj _ _ (by decide)

variable (m : (ℓ : Loc nD τ sig) → Buf (Elt F) ℓ) (c : Dev nD)

/-- Landing buffer 1 and its weight array as four windows at rest. -/
theorem enter_a :
    iprop(ptE (F := F) cc0_scratch0 c ∗ pt main_arg2 c fullShare (m ((c : Thread nD τ).loc main_arg2)) ∗ semVal ((c : Thread nD τ), SemLoc.dma (wS 0)) 0 ∗ semVal ((c : Thread nD τ), SemLoc.dma (wS 1)) 0 ∗ semVal ((c : Thread nD τ), SemLoc.dma (wS 4)) 0 ∗ semVal ((c : Thread nD τ), SemLoc.dma (wS 5)) 0)
      ⊢ iprop(∃ X0 X1 X2 X3, a0 m c X0 ∗ a1 m c X1 ∗ a2 m c X2 ∗ a3 m c X3) := by
  iintro ⟨⟨%f, Hf⟩, H⟩
  iexists _, _, _, _
  iapply (enter4 (c := c) (M := w1vM) (A := w1M) rg1_cover rg1_d0 rg1_d1 rg1_d2 (fun i => ![wS 0, wS 1, wS 4, wS 5] i) inb_S2x1024x2048_S1x512x2048_0_0_0 inb_S2x1024x2048_S1x512x2048_0_512_0 inb_S2x1024x2048_S1x512x2048_1_0_0 inb_S2x1024x2048_S1x512x2048_1_512_0 (m ((c : Thread nD τ).loc main_arg2)) f)
  isplitl [Hf]; · iexact Hf
  iexact H
/-- The four windows put back. -/
theorem leave_a {X0 X1 X2 X3} :
    iprop(a0 m c X0 ∗ a1 m c X1 ∗ a2 m c X2 ∗ a3 m c X3)
      ⊢ iprop(ptE (F := F) cc0_scratch0 c ∗ pt main_arg2 c fullShare (m ((c : Thread nD τ).loc main_arg2)) ∗ semVal ((c : Thread nD τ), SemLoc.dma (wS 0)) 0 ∗ semVal ((c : Thread nD τ), SemLoc.dma (wS 1)) 0 ∗ semVal ((c : Thread nD τ), SemLoc.dma (wS 4)) 0 ∗ semVal ((c : Thread nD τ), SemLoc.dma (wS 5)) 0) :=
  leave4 (c := c) (M := w1vM) (A := w1M) rg1_cover rg1_d0 rg1_d1 rg1_d2 (fun i => ![wS 0, wS 1, wS 4, wS 5] i) inb_S2x1024x2048_S1x512x2048_0_0_0 inb_S2x1024x2048_S1x512x2048_0_512_0 inb_S2x1024x2048_S1x512x2048_1_0_0 inb_S2x1024x2048_S1x512x2048_1_512_0 (m ((c : Thread nD τ).loc main_arg2))

/-- Landing buffer 2 and its weight array as four windows at rest. -/
theorem enter_b :
    iprop(ptE (F := F) cc0_scratch1 c ∗ pt main_arg3 c fullShare (m ((c : Thread nD τ).loc main_arg3)) ∗ semVal ((c : Thread nD τ), SemLoc.dma (wS 2)) 0 ∗ semVal ((c : Thread nD τ), SemLoc.dma (wS 3)) 0 ∗ semVal ((c : Thread nD τ), SemLoc.dma (wS 6)) 0 ∗ semVal ((c : Thread nD τ), SemLoc.dma (wS 7)) 0)
      ⊢ iprop(∃ X0 X1 X2 X3, b0 m c X0 ∗ b1 m c X1 ∗ b2 m c X2 ∗ b3 m c X3) := by
  iintro ⟨⟨%f, Hf⟩, H⟩
  iexists _, _, _, _
  iapply (enter4 (c := c) (M := w2vM) (A := w2M) rg2_cover rg2_d0 rg2_d1 rg2_d2 (fun i => ![wS 2, wS 3, wS 6, wS 7] i) inb_S2x2048x1024_S1x1024x1024_0_0_0 inb_S2x2048x1024_S1x1024x1024_0_1024_0 inb_S2x2048x1024_S1x1024x1024_1_0_0 inb_S2x2048x1024_S1x1024x1024_1_1024_0 (m ((c : Thread nD τ).loc main_arg3)) f)
  isplitl [Hf]; · iexact Hf
  iexact H
/-- The four windows put back. -/
theorem leave_b {X0 X1 X2 X3} :
    iprop(b0 m c X0 ∗ b1 m c X1 ∗ b2 m c X2 ∗ b3 m c X3)
      ⊢ iprop(ptE (F := F) cc0_scratch1 c ∗ pt main_arg3 c fullShare (m ((c : Thread nD τ).loc main_arg3)) ∗ semVal ((c : Thread nD τ), SemLoc.dma (wS 2)) 0 ∗ semVal ((c : Thread nD τ), SemLoc.dma (wS 3)) 0 ∗ semVal ((c : Thread nD τ), SemLoc.dma (wS 6)) 0 ∗ semVal ((c : Thread nD τ), SemLoc.dma (wS 7)) 0) :=
  leave4 (c := c) (M := w2vM) (A := w2M) rg2_cover rg2_d0 rg2_d1 rg2_d2 (fun i => ![wS 2, wS 3, wS 6, wS 7] i) inb_S2x2048x1024_S1x1024x1024_0_0_0 inb_S2x2048x1024_S1x1024x1024_0_1024_0 inb_S2x2048x1024_S1x1024x1024_1_0_0 inb_S2x2048x1024_S1x1024x1024_1_1024_0 (m ((c : Thread nD τ).loc main_arg3))

end Cert.KernelIdealRun

end
-- ==== Proof.Ideal.Whole.lean ====
/- The body of the kernel on any device, from all of its buffers and semaphores to all of them. -/
module

public import proofs.«01_k».proof.Proof.Ideal.Body
public import proofs.«01_k».proof.Proof.Ideal.Windows

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem mem_own (c : Dev nD) (i : S512x1024.Idx) (h : (i 0).val / 256 = c.val % 2) : i ∈ (oM.access (ownR c)).setOn Finset.univ := by
  have b0 : (i 0).val < 512 := (i 0).2
  have b1 : (i 1).val < 1024 := (i 1).2
  refine Finset.mem_map.mpr ⟨fun a => ⟨(![(i 0).val - 256 * (c.val % 2), (i 1).val] : Fin 2 → ℕ) a, ?_⟩, Finset.mem_univ _, funext fun a => Fin.ext ?_⟩
  · revert a; rw [Fin.forall_fin_two]
    exact ⟨show (i 0).val - 256 * (c.val % 2) < 256 by omega, b1⟩
  · revert a; show ∀ a : Fin 2, _; rw [Fin.forall_fin_two]
    exact ⟨show 256 * (c.val % 2) + 1 * ((i 0).val - 256 * (c.val % 2)) = (i 0).val by omega, show 0 + 1 * (i 1).val = (i 1).val by omega⟩
omit [FloatOps F] in
theorem mem_oth (c : Dev nD) (i : S512x1024.Idx) (h : (i 0).val / 256 ≠ c.val % 2) : i ∈ (oM.access (othR c)).setOn Finset.univ := by
  have b0 : (i 0).val < 512 := (i 0).2
  have b1 : (i 1).val < 1024 := (i 1).2
  refine Finset.mem_map.mpr ⟨fun a => ⟨(![(i 0).val - (256 - 256 * (c.val % 2)), (i 1).val] : Fin 2 → ℕ) a, ?_⟩, Finset.mem_univ _, funext fun a => Fin.ext ?_⟩
  · revert a; rw [Fin.forall_fin_two]
    exact ⟨show (i 0).val - (256 - 256 * (c.val % 2)) < 256 by omega, b1⟩
  · revert a; show ∀ a : Fin 2, _; rw [Fin.forall_fin_two]
    exact ⟨show 256 - 256 * (c.val % 2) + 1 * ((i 0).val - (256 - 256 * (c.val % 2))) = (i 0).val by omega, show 0 + 1 * (i 1).val = (i 1).val by omega⟩

/-- The two chunks cover the block: what it held before does not show. -/
theorem outF_base (c : Dev nD) (f g : Vec F S512x1024 .f32) (a b : FVec F S256x1024 .f32) : outF c f a b = outF c g a b := by
  unfold outF
  funext i
  refine View.write_congr (fun _ _ _ => rfl) fun h => View.write_congr (fun _ _ _ => rfl) fun h' => ?_
  by_cases e : (i 0).val / 256 = c.val % 2
  · exact absurd (mem_own c i e) h'
  · exact absurd (mem_oth c i e) h

/-- What device `c` holds of the protocol when the body starts. -/
def kits (c : Dev nD) : sProp 𝕄 :=
  iprop(barKit c ∗ dutyTok ER (bar (peer 0 c)) 0 (0 : Fin 4) ∗ dutyTok ER (bar (peer 1 c)) 0 (1 : Fin 4) ∗ dutyTok ER (bar (peer 2 c)) 0 (2 : Fin 4) ∗ dutyTok ER (bar (peer 3 c)) 0 (3 : Fin 4) ∗ sendKit 0 c ∗ sendKit 1 c ∗ sendKit 2 c ∗ sendKit 3 c ∗ sendKit 4 c ∗ sendKit 5 c ∗ sendKit 6 c ∗ recvKit 0 c ∗ recvKit 1 c ∗ recvKit 2 c ∗ recvKit 3 c ∗ recvKit 4 c ∗ recvKit 5 c ∗ recvKit 6 c)
/-- The weight windows' semaphores at zero. -/
def wsems (c : Dev nD) : sProp 𝕄 :=
  iprop(semVal ((c : Thread nD τ), SemLoc.dma (wS 0)) 0 ∗ semVal ((c : Thread nD τ), SemLoc.dma (wS 1)) 0 ∗ semVal ((c : Thread nD τ), SemLoc.dma (wS 2)) 0 ∗ semVal ((c : Thread nD τ), SemLoc.dma (wS 3)) 0 ∗ semVal ((c : Thread nD τ), SemLoc.dma (wS 4)) 0 ∗ semVal ((c : Thread nD τ), SemLoc.dma (wS 5)) 0 ∗ semVal ((c : Thread nD τ), SemLoc.dma (wS 6)) 0 ∗ semVal ((c : Thread nD τ), SemLoc.dma (wS 7)) 0)
/-- The protocol's semaphores at zero. -/
def psems (c : Dev nD) : sProp 𝕄 :=
  iprop(semVal (bar c) 0 ∗ semVal (snd 0 c) 0 ∗ semVal (snd 1 c) 0 ∗ semVal (snd 2 c) 0 ∗ semVal (snd 3 c) 0 ∗ semVal (snd 4 c) 0 ∗ semVal (snd 5 c) 0 ∗ semVal (snd 6 c) 0 ∗ semVal (rcv 0 c) 0 ∗ semVal (rcv 1 c) 0 ∗ semVal (rcv 2 c) 0 ∗ semVal (rcv 3 c) 0 ∗ semVal (rcv 4 c) 0 ∗ semVal (rcv 5 c) 0 ∗ semVal (rcv 6 c) 0)
/-- The twelve scratch buffers, at some contents. -/
def bufs (c : Dev nD) : sProp 𝕄 := iprop(ptE (F := F) cc0_scratch0 c ∗ ptE (F := F) cc0_scratch1 c ∗ ptE (F := F) cc0_scratch2 c ∗ ptE (F := F) cc0_scratch3 c ∗ ptE (F := F) cc0_scratch4 c ∗ ptE (F := F) cc0_scratch5 c ∗ ptE (F := F) cc0_scratch6 c ∗ ptE (F := F) cc0_scratch7 c ∗ ptE (F := F) cc0_scratch8 c ∗ ptE (F := F) cc0_scratch9 c ∗ ptE (F := F) cc0_scratch10 c ∗ ptE (F := F) cc0_scratch11 c)
/-- The two weight arrays as launched. -/
def weights (m : (ℓ : Loc nD τ sig) → Buf (Elt F) ℓ) (c : Dev nD) : sProp 𝕄 :=
  iprop(pt main_arg2 c fullShare (m ((c : Thread nD τ).loc main_arg2)) ∗ pt main_arg3 c fullShare (m ((c : Thread nD τ).loc main_arg3)))

variable {m : (ℓ : Loc nD τ sig) → Buf (Elt F) ℓ} {K : Dev nD × Fin 15 → ℕ} {c : Dev nD}

theorem un_home_s {k : Fin 7} (hk : k = 0 ∨ k = 3) {c : Dev nD} (h : home c) : ¬ pays k c := by revert k c; decide
theorem un_away_s {k : Fin 7} (hk : k ≠ 0 ∧ k ≠ 3) {c : Dev nD} (h : ¬ home c) : ¬ pays k c := by revert k c; decide
theorem un_home_r {k : Fin 7} (hk : k ≠ 0 ∧ k ≠ 3 ∧ k ≠ 6) {c : Dev nD} (h : home c) : ¬ gets k c := by revert k c; decide
theorem un_away_r {k : Fin 7} (hk : k = 0 ∨ k = 3 ∨ k = 6) {c : Dev nD} (h : ¬ home c) : ¬ gets k c := by revert k c; decide

/-- The whole body, on a home device. -/
theorem sound_home (h : home c) {base : Vec F S512x1024 .f32} {Q : PUnit → sProp 𝕄} :
    iprop(Recs m K ∗ levAts L lv ∗ ow c (O₀ c) ∗ kits c ∗ wsems c ∗ bufs (F := F) c ∗ weights m c
        ∗ pt cc0_stg0_0 c fullShare (xV m c) ∗ pt cc0_stg1_0 c fullShare (rV m c) ∗ pt cc0_stg2_0 c fullShare base)
      ⊢ iprop(((ow c 0 ∗ psems c ∗ wsems c ∗ bufs (F := F) c ∗ weights m c
        ∗ pt cc0_stg0_0 c fullShare (xV m c) ∗ pt cc0_stg1_0 c fullShare (rV m c) ∗ pt cc0_stg2_0 c fullShare (outV m c)) -∗ Q ⟨⟩)
        -∗ wp frame (wpE (defs₀ (F := F)) 𝒱₀ (c : Thread nD τ) none) Set.univ (cc0__body (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA) Q) := by
  unfold kits wsems bufs weights psems
  iintro ⟨#HR, #Hl, HO, ⟨HB, Ht0, Ht1, Ht2, Ht3, Hk0, Hk1, Hk2, Hk3, Hk4, Hk5, Hk6, Hr0, Hr1, Hr2, Hr3, Hr4, Hr5, Hr6⟩, ⟨Hw0, Hw1, Hw2, Hw3, Hw4, Hw5, Hw6, Hw7⟩, ⟨Hs0, Hs1, Hs2, Hs3, Hs4, Hs5, Hs6, Hs7, Hs8, Hs9, Hs10, Hs11⟩, ⟨HW1, HW2⟩, Hx, Hrt, Ho⟩ Hk
  ihave Ha := (enter_a m c) $$ [Hs0 HW1 Hw0 Hw1 Hw4 Hw5]
  · isplitl [Hs0]; · iexact Hs0
    isplitl [HW1]; · iexact HW1
    isplitl [Hw0]; · iexact Hw0
    isplitl [Hw1]; · iexact Hw1
    isplitl [Hw4]; · iexact Hw4
    iexact Hw5
  icases Ha with ⟨%Xa0, %Xa1, %Xa2, %Xa3, Ha0, Ha1, Ha2, Ha3⟩
  ihave Hb := (enter_b m c) $$ [Hs1 HW2 Hw2 Hw3 Hw6 Hw7]
  · isplitl [Hs1]; · iexact Hs1
    isplitl [HW2]; · iexact HW2
    isplitl [Hw2]; · iexact Hw2
    isplitl [Hw3]; · iexact Hw3
    isplitl [Hw6]; · iexact Hw6
    iexact Hw7
  icases Hb with ⟨%Xb0, %Xb1, %Xb2, %Xb3, Hb0, Hb1, Hb2, Hb3⟩
  ihave Hp0 := (show iprop(ptE (F := F) cc0_scratch2 c ∗ ptE (F := F) cc0_scratch7 c) ⊢ barPay (F := F) 0 c from Entails.of_eq (by simp only [barPay, if_pos h])) $$ [Hs2 Hs7]
  · isplitl [Hs2]; · iexact Hs2
    iexact Hs7
  ihave Hp1 := (show iprop(emp) ⊢ barPay (F := F) 1 c from Entails.of_eq (by simp only [barPay, if_pos h])) $$ []
  · iempintro
  ihave Hp2 := (show iprop(ptE (F := F) cc0_scratch11 c) ⊢ barPay (F := F) 2 c from Entails.of_eq (by simp only [barPay, if_pos h])) $$ [Hs11]
  · iexact Hs11
  ihave Hp3 := (show iprop(emp) ⊢ barPay (F := F) 3 c from Entails.of_eq (by simp only [barPay, if_pos h])) $$ []
  · iempintro
  iapply wp_fupd
  iapply (body_home (m := m) (K := K) h) $$ [HO HB Ht0 Ht1 Ht2 Ht3 Hp0 Hp1 Hp2 Hp3 Ha0 Ha1 Ha2 Ha3 Hb0 Hb1 Hb2 Hb3 Hk1 Hk2 Hk4 Hk5 Hk6 Hr0 Hr3 Hr6 Hx Hrt Ho Hs3 Hs4 Hs5 Hs8]
  · isplitr; · iexact HR
    isplitr; · iexact Hl
    isplitl [HO]; · iexact HO
    isplitl [HB]; · iexact HB
    isplitl [Ht0]; · iexact Ht0
    isplitl [Ht1]; · iexact Ht1
    isplitl [Ht2]; · iexact Ht2
    isplitl [Ht3]; · iexact Ht3
    isplitl [Hp0]; · iexact Hp0
    isplitl [Hp1]; · iexact Hp1
    isplitl [Hp2]; · iexact Hp2
    isplitl [Hp3]; · iexact Hp3
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hb2]; · iexact Hb2
    isplitl [Hb3]; · iexact Hb3
    isplitl [Hk1]; · iexact Hk1
    isplitl [Hk2]; · iexact Hk2
    isplitl [Hk4]; · iexact Hk4
    isplitl [Hk5]; · iexact Hk5
    isplitl [Hk6]; · iexact Hk6
    isplitl [Hr0]; · iexact Hr0
    isplitl [Hr3]; · iexact Hr3
    isplitl [Hr6]; · iexact Hr6
    isplitl [Hx]; · iexact Hx
    isplitl [Hrt]; · iexact Hrt
    isplitl [Ho]; · iexact Ho
    isplitl [Hs3]; · iexact Hs3
    isplitl [Hs4]; · iexact Hs4
    isplitl [Hs5]; · iexact Hs5
    iexact Hs8
  iintro ⟨HO, HB, Hk1, Hk2, Hk4, Hk5, Hk6, Hr0, Hr3, Hr6, Ha0, Ha1, Ha2, Ha3, Hb0, Hb1, Hb2, Hb3, Hx, Hrt, Ho, Hs2, Hs3, Hs4, Hs5, Hs7, Hs8, Hs11⟩
  imod (close_bar (m := m) (K := K) (c := c)) $$ [HB] with HB
  · isplitr; · iexact HR
    iexact HB
  imod (close_unsent (m := m) (K := K) (c := c) 0 (un_home_s (by decide) h)) $$ [Hk0] with Hk0
  · isplitr; · iexact HR
    iexact Hk0
  imod (close_snd (m := m) (K := K) (c := c) 1) $$ [Hk1] with Hk1
  · isplitr; · iexact HR
    iexact Hk1
  imod (close_snd (m := m) (K := K) (c := c) 2) $$ [Hk2] with Hk2
  · isplitr; · iexact HR
    iexact Hk2
  imod (close_unsent (m := m) (K := K) (c := c) 3 (un_home_s (by decide) h)) $$ [Hk3] with Hk3
  · isplitr; · iexact HR
    iexact Hk3
  imod (close_snd (m := m) (K := K) (c := c) 4) $$ [Hk4] with Hk4
  · isplitr; · iexact HR
    iexact Hk4
  imod (close_snd (m := m) (K := K) (c := c) 5) $$ [Hk5] with Hk5
  · isplitr; · iexact HR
    iexact Hk5
  imod (close_snd (m := m) (K := K) (c := c) 6) $$ [Hk6] with Hk6
  · isplitr; · iexact HR
    iexact Hk6
  imod (close_rcv (m := m) (K := K) (c := c) 0) $$ [Hr0] with Hr0
  · isplitr; · iexact HR
    iexact Hr0
  imod (close_unrecv (m := m) (K := K) (c := c) 1 (un_home_r (by decide) h)) $$ [Hr1] with Hr1
  · isplitr; · iexact HR
    iexact Hr1
  imod (close_unrecv (m := m) (K := K) (c := c) 2 (un_home_r (by decide) h)) $$ [Hr2] with Hr2
  · isplitr; · iexact HR
    iexact Hr2
  imod (close_rcv (m := m) (K := K) (c := c) 3) $$ [Hr3] with Hr3
  · isplitr; · iexact HR
    iexact Hr3
  imod (close_unrecv (m := m) (K := K) (c := c) 4 (un_home_r (by decide) h)) $$ [Hr4] with Hr4
  · isplitr; · iexact HR
    iexact Hr4
  imod (close_unrecv (m := m) (K := K) (c := c) 5 (un_home_r (by decide) h)) $$ [Hr5] with Hr5
  · isplitr; · iexact HR
    iexact Hr5
  imod (close_rcv (m := m) (K := K) (c := c) 6) $$ [Hr6] with Hr6
  · isplitr; · iexact HR
    iexact Hr6
  ihave Ha := (leave_a m c) $$ [Ha0 Ha1 Ha2 Ha3]
  · isplitl [Ha0]; · iexact Ha0
    isplitl [Ha1]; · iexact Ha1
    isplitl [Ha2]; · iexact Ha2
    iexact Ha3
  ihave Hb := (leave_b m c) $$ [Hb0 Hb1 Hb2 Hb3]
  · isplitl [Hb0]; · iexact Hb0
    isplitl [Hb1]; · iexact Hb1
    isplitl [Hb2]; · iexact Hb2
    iexact Hb3
  icases Ha with ⟨Hs0, HW1, Hw0, Hw1, Hw4, Hw5⟩
  icases Hb with ⟨Hs1, HW2, Hw2, Hw3, Hw6, Hw7⟩
  imodintro
  iapply Hk
  isplitl [HO]; · iexact HO
  isplitl [HB Hk0 Hk1 Hk2 Hk3 Hk4 Hk5 Hk6 Hr0 Hr1 Hr2 Hr3 Hr4 Hr5 Hr6]
  · isplitl [HB]; · iexact HB
    isplitl [Hk0]; · iexact Hk0
    isplitl [Hk1]; · iexact Hk1
    isplitl [Hk2]; · iexact Hk2
    isplitl [Hk3]; · iexact Hk3
    isplitl [Hk4]; · iexact Hk4
    isplitl [Hk5]; · iexact Hk5
    isplitl [Hk6]; · iexact Hk6
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  isplitl [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  isplitl [Hs0 Hs1 Hs2 Hs3 Hs4 Hs5 Hs6 Hs7 Hs8 Hs9 Hs10 Hs11]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hs11
  isplitl [HW1 HW2]
  · isplitl [HW1]; · iexact HW1
    iexact HW2
  isplitl [Hx]; · iexact Hx
  isplitl [Hrt]; · iexact Hrt
  rw [show outV m c = outF c base (doneV m c) (k0_pay19 (dsV m (peer 2 c))) from (if_pos h).trans (outF_base c _ _ _ _)]
  iexact Ho

/-- The whole body, away from home. -/
theorem sound_away (h : ¬ home c) {base : Vec F S512x1024 .f32} {Q : PUnit → sProp 𝕄} :
    iprop(Recs m K ∗ levAts L lv ∗ ow c (O₀ c) ∗ kits c ∗ wsems c ∗ bufs (F := F) c ∗ weights m c
        ∗ pt cc0_stg0_0 c fullShare (xV m c) ∗ pt cc0_stg1_0 c fullShare (rV m c) ∗ pt cc0_stg2_0 c fullShare base)
      ⊢ iprop(((ow c 0 ∗ psems c ∗ wsems c ∗ bufs (F := F) c ∗ weights m c
        ∗ pt cc0_stg0_0 c fullShare (xV m c) ∗ pt cc0_stg1_0 c fullShare (rV m c) ∗ pt cc0_stg2_0 c fullShare (outV m c)) -∗ Q ⟨⟩)
        -∗ wp frame (wpE (defs₀ (F := F)) 𝒱₀ (c : Thread nD τ) none) Set.univ (cc0__body (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA) Q) := by
  unfold kits wsems bufs weights psems
  iintro ⟨#HR, #Hl, HO, ⟨HB, Ht0, Ht1, Ht2, Ht3, Hk0, Hk1, Hk2, Hk3, Hk4, Hk5, Hk6, Hr0, Hr1, Hr2, Hr3, Hr4, Hr5, Hr6⟩, ⟨Hw0, Hw1, Hw2, Hw3, Hw4, Hw5, Hw6, Hw7⟩, ⟨Hs0, Hs1, Hs2, Hs3, Hs4, Hs5, Hs6, Hs7, Hs8, Hs9, Hs10, Hs11⟩, ⟨HW1, HW2⟩, Hx, Hrt, Ho⟩ Hk
  ihave Ha := (enter_a m c) $$ [Hs0 HW1 Hw0 Hw1 Hw4 Hw5]
  · isplitl [Hs0]; · iexact Hs0
    isplitl [HW1]; · iexact HW1
    isplitl [Hw0]; · iexact Hw0
    isplitl [Hw1]; · iexact Hw1
    isplitl [Hw4]; · iexact Hw4
    iexact Hw5
  icases Ha with ⟨%Xa0, %Xa1, %Xa2, %Xa3, Ha0, Ha1, Ha2, Ha3⟩
  ihave Hb := (enter_b m c) $$ [Hs1 HW2 Hw2 Hw3 Hw6 Hw7]
  · isplitl [Hs1]; · iexact Hs1
    isplitl [HW2]; · iexact HW2
    isplitl [Hw2]; · iexact Hw2
    isplitl [Hw3]; · iexact Hw3
    isplitl [Hw6]; · iexact Hw6
    iexact Hw7
  icases Hb with ⟨%Xb0, %Xb1, %Xb2, %Xb3, Hb0, Hb1, Hb2, Hb3⟩
  ihave Hp0 := (show iprop(ptE (F := F) cc0_scratch3 c ∗ ptE (F := F) cc0_scratch4 c) ⊢ barPay (F := F) 0 c from Entails.of_eq (by simp only [barPay, if_neg h])) $$ [Hs3 Hs4]
  · isplitl [Hs3]; · iexact Hs3
    iexact Hs4
  ihave Hp1 := (show iprop(ptE (F := F) cc0_scratch9 c) ⊢ barPay (F := F) 1 c from Entails.of_eq (by simp only [barPay, if_neg h])) $$ [Hs9]
  · iexact Hs9
  ihave Hp2 := (show iprop(emp) ⊢ barPay (F := F) 2 c from Entails.of_eq (by simp only [barPay, if_neg h])) $$ []
  · iempintro
  ihave Hp3 := (show iprop(ptE (F := F) cc0_scratch10 c) ⊢ barPay (F := F) 3 c from Entails.of_eq (by simp only [barPay, if_neg h])) $$ [Hs10]
  · iexact Hs10
  iapply wp_fupd
  iapply (body_away (m := m) (K := K) h) $$ [HO HB Ht0 Ht1 Ht2 Ht3 Hp0 Hp1 Hp2 Hp3 Ha0 Ha1 Ha2 Ha3 Hb0 Hb1 Hb2 Hb3 Hk0 Hk3 Hr1 Hr2 Hrt Hs6 Hr4 Hr5 Ho]
  · isplitr; · iexact HR
    isplitr; · iexact Hl
    isplitl [HO]; · iexact HO
    isplitl [HB]; · iexact HB
    isplitl [Ht0]; · iexact Ht0
    isplitl [Ht1]; · iexact Ht1
    isplitl [Ht2]; · iexact Ht2
    isplitl [Ht3]; · iexact Ht3
    isplitl [Hp0]; · iexact Hp0
    isplitl [Hp1]; · iexact Hp1
    isplitl [Hp2]; · iexact Hp2
    isplitl [Hp3]; · iexact Hp3
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hb2]; · iexact Hb2
    isplitl [Hb3]; · iexact Hb3
    isplitl [Hk0]; · iexact Hk0
    isplitl [Hk3]; · iexact Hk3
    isplitl [Hr1]; · iexact Hr1
    isplitl [Hr2]; · iexact Hr2
    isplitl [Hrt]; · iexact Hrt
    isplitl [Hs6]; · iexact Hs6
    isplitl [Hr4]; · iexact Hr4
    isplitl [Hr5]; · iexact Hr5
    iexact Ho
  iintro ⟨HO, HB, Hk0, Hk3, Hr1, Hr2, Hr4, Hr5, Ha0, Ha1, Ha2, Ha3, Hb0, Hb1, Hb2, Hb3, Hrt, Ho, Hs3, Hs4, Hs6, Hs9, Hs10⟩
  imod (close_bar (m := m) (K := K) (c := c)) $$ [HB] with HB
  · isplitr; · iexact HR
    iexact HB
  imod (close_snd (m := m) (K := K) (c := c) 0) $$ [Hk0] with Hk0
  · isplitr; · iexact HR
    iexact Hk0
  imod (close_unsent (m := m) (K := K) (c := c) 1 (un_away_s (by decide) h)) $$ [Hk1] with Hk1
  · isplitr; · iexact HR
    iexact Hk1
  imod (close_unsent (m := m) (K := K) (c := c) 2 (un_away_s (by decide) h)) $$ [Hk2] with Hk2
  · isplitr; · iexact HR
    iexact Hk2
  imod (close_snd (m := m) (K := K) (c := c) 3) $$ [Hk3] with Hk3
  · isplitr; · iexact HR
    iexact Hk3
  imod (close_unsent (m := m) (K := K) (c := c) 4 (un_away_s (by decide) h)) $$ [Hk4] with Hk4
  · isplitr; · iexact HR
    iexact Hk4
  imod (close_unsent (m := m) (K := K) (c := c) 5 (un_away_s (by decide) h)) $$ [Hk5] with Hk5
  · isplitr; · iexact HR
    iexact Hk5
  imod (close_unsent (m := m) (K := K) (c := c) 6 (un_away_s (by decide) h)) $$ [Hk6] with Hk6
  · isplitr; · iexact HR
    iexact Hk6
  imod (close_unrecv (m := m) (K := K) (c := c) 0 (un_away_r (by decide) h)) $$ [Hr0] with Hr0
  · isplitr; · iexact HR
    iexact Hr0
  imod (close_rcv (m := m) (K := K) (c := c) 1) $$ [Hr1] with Hr1
  · isplitr; · iexact HR
    iexact Hr1
  imod (close_rcv (m := m) (K := K) (c := c) 2) $$ [Hr2] with Hr2
  · isplitr; · iexact HR
    iexact Hr2
  imod (close_unrecv (m := m) (K := K) (c := c) 3 (un_away_r (by decide) h)) $$ [Hr3] with Hr3
  · isplitr; · iexact HR
    iexact Hr3
  imod (close_rcv (m := m) (K := K) (c := c) 4) $$ [Hr4] with Hr4
  · isplitr; · iexact HR
    iexact Hr4
  imod (close_rcv (m := m) (K := K) (c := c) 5) $$ [Hr5] with Hr5
  · isplitr; · iexact HR
    iexact Hr5
  imod (close_unrecv (m := m) (K := K) (c := c) 6 (un_away_r (by decide) h)) $$ [Hr6] with Hr6
  · isplitr; · iexact HR
    iexact Hr6
  ihave Ha := (leave_a m c) $$ [Ha0 Ha1 Ha2 Ha3]
  · isplitl [Ha0]; · iexact Ha0
    isplitl [Ha1]; · iexact Ha1
    isplitl [Ha2]; · iexact Ha2
    iexact Ha3
  ihave Hb := (leave_b m c) $$ [Hb0 Hb1 Hb2 Hb3]
  · isplitl [Hb0]; · iexact Hb0
    isplitl [Hb1]; · iexact Hb1
    isplitl [Hb2]; · iexact Hb2
    iexact Hb3
  icases Ha with ⟨Hs0, HW1, Hw0, Hw1, Hw4, Hw5⟩
  icases Hb with ⟨Hs1, HW2, Hw2, Hw3, Hw6, Hw7⟩
  imodintro
  iapply Hk
  isplitl [HO]; · iexact HO
  isplitl [HB Hk0 Hk1 Hk2 Hk3 Hk4 Hk5 Hk6 Hr0 Hr1 Hr2 Hr3 Hr4 Hr5 Hr6]
  · isplitl [HB]; · iexact HB
    isplitl [Hk0]; · iexact Hk0
    isplitl [Hk1]; · iexact Hk1
    isplitl [Hk2]; · iexact Hk2
    isplitl [Hk3]; · iexact Hk3
    isplitl [Hk4]; · iexact Hk4
    isplitl [Hk5]; · iexact Hk5
    isplitl [Hk6]; · iexact Hk6
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  isplitl [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  isplitl [Hs0 Hs1 Hs2 Hs3 Hs4 Hs5 Hs6 Hs7 Hs8 Hs9 Hs10 Hs11]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hs11
  isplitl [HW1 HW2]
  · isplitl [HW1]; · iexact HW1
    iexact HW2
  isplitl [Hx]; · iexact Hx
  isplitl [Hrt]; · iexact Hrt
  rw [show outV m c = outF c base (k0_pay1 (dsV m (peer 1 c))) (k0_pay2 (dsV m (peer 3 c))) from (if_neg h).trans (outF_base c _ _ _ _)]
  iexact Ho

/-- The whole body, on any device. -/
theorem sound_all {base : Vec F S512x1024 .f32} {Q : PUnit → sProp 𝕄} :
    iprop(Recs m K ∗ levAts L lv ∗ ow c (O₀ c) ∗ kits c ∗ wsems c ∗ bufs (F := F) c ∗ weights m c
        ∗ pt cc0_stg0_0 c fullShare (xV m c) ∗ pt cc0_stg1_0 c fullShare (rV m c) ∗ pt cc0_stg2_0 c fullShare base)
      ⊢ iprop(((ow c 0 ∗ psems c ∗ wsems c ∗ bufs (F := F) c ∗ weights m c
        ∗ pt cc0_stg0_0 c fullShare (xV m c) ∗ pt cc0_stg1_0 c fullShare (rV m c) ∗ pt cc0_stg2_0 c fullShare (outV m c)) -∗ Q ⟨⟩)
        -∗ wp frame (wpE (defs₀ (F := F)) 𝒱₀ (c : Thread nD τ) none) Set.univ (cc0__body (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA) Q) := by
  by_cases h : home c
  · exact sound_home h
  · exact sound_away h

end Cert.KernelIdealRun

end
-- ==== Proof.Ideal.Launch.lean ====
/- The launch: from the memory and the counters as launched, through the eight devices' bodies, to the final memory. -/
module

public import proofs.«01_k».proof.Proof.Ideal.Whole
public import Idealize.ShloMosaic.Lib.Pipeline.Launch
public import Idealize.ShloMosaic.Lib.Pipeline.ValueKit
public import Idealize.ShloMosaic.Adequacy
public import Idealize.ShloMosaic.Lib.Pipeline.CollectiveSegs
public import Idealize.ShloMosaic.Init

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The shared semaphores listed -/

section Lists
omit [FloatOps F]

theorem sum_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sum_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- A sum over a device's fifteen shared semaphores, one by one. -/
theorem sum_cells (Ψ : GSem nD τ sig → sProp 𝕄) (c : Dev nD) : (bigSep Finset.univ fun k : Fin 15 => Ψ (kcell (c, k)))
    = iprop(Ψ (bar c) ∗ Ψ (snd 0 c) ∗ Ψ (snd 1 c) ∗ Ψ (snd 2 c) ∗ Ψ (snd 3 c) ∗ Ψ (snd 4 c) ∗ Ψ (snd 5 c) ∗ Ψ (snd 6 c) ∗ Ψ (rcv 0 c) ∗ Ψ (rcv 1 c) ∗ Ψ (rcv 2 c) ∗ Ψ (rcv 3 c) ∗ Ψ (rcv 4 c) ∗ Ψ (rcv 5 c) ∗ Ψ (rcv 6 c)) := by
  rw [bigSep_univ_eq_bigSepL (List.finRange 15) (by decide) (by decide)]; rfl

/-- The kernel's own semaphores: the send and receive semaphores and the weight windows'. -/
abbrev osem : Fin 22 → SemLoc sig := fun k => .dma ⟨k.val + 3, by have := k.2; show _ < 25; omega⟩

theorem ownSemFacts : Pipeline.OwnSemFacts cfg0.spec osem := by decide

theorem own_eq (c : Dev nD) : (Pipeline.ownSems0 (Ix := Unit) (Name := ℕ) (U := UU) (Lvl := ℕ) (Val := Elt F) (τ := τ) osem c : sProp 𝕄)
    = iprop(semVal (snd 0 c) 0 ∗ semVal (snd 1 c) 0 ∗ semVal (snd 2 c) 0 ∗ semVal (snd 3 c) 0 ∗ semVal (snd 4 c) 0 ∗ semVal (snd 5 c) 0 ∗ semVal (snd 6 c) 0 ∗ semVal (rcv 0 c) 0 ∗ semVal (rcv 1 c) 0 ∗ semVal (rcv 2 c) 0 ∗ semVal (rcv 3 c) 0 ∗ semVal (rcv 4 c) 0 ∗ semVal (rcv 5 c) 0 ∗ semVal (rcv 6 c) 0 ∗ semVal ((c : Thread nD τ), SemLoc.dma (wS 0)) 0 ∗ semVal ((c : Thread nD τ), SemLoc.dma (wS 1)) 0 ∗ semVal ((c : Thread nD τ), SemLoc.dma (wS 2)) 0 ∗ semVal ((c : Thread nD τ), SemLoc.dma (wS 3)) 0 ∗ semVal ((c : Thread nD τ), SemLoc.dma (wS 4)) 0 ∗ semVal ((c : Thread nD τ), SemLoc.dma (wS 5)) 0 ∗ semVal ((c : Thread nD τ), SemLoc.dma (wS 6)) 0 ∗ semVal ((c : Thread nD τ), SemLoc.dma (wS 7)) 0) := by
  rw [Pipeline.ownSems0_eq_of_list c osem (List.finRange 22) (by decide) (by decide)]; rfl
theorem unscoped_eq (c : Dev nD) : (unscopedSems0 c : sProp 𝕄) = semVal (bar c) 0 := by
  unfold unscopedSems0; rw [bigSep_eq_bigSepL_of_eq [SemLoc.reg barS] (by decide) (by decide)]; rfl

/-- All of a device's semaphores at zero are the protocol's and the weight windows'. -/
theorem sems_in (c : Dev nD) :
    iprop(Pipeline.ownSems0 (Ix := Unit) (Name := ℕ) (U := UU) (Lvl := ℕ) (Val := Elt F) (τ := τ) osem c ∗ unscopedSems0 c)
      ⊢ iprop((psems c : sProp 𝕄) ∗ wsems c) := by
  rw [own_eq, unscoped_eq]; unfold psems wsems
  iintro ⟨⟨S0, S1, S2, S3, S4, S5, S6, R0, R1, R2, R3, R4, R5, R6, W0, W1, W2, W3, W4, W5, W6, W7⟩, HB⟩
  isplitl [HB S0 S1 S2 S3 S4 S5 S6 R0 R1 R2 R3 R4 R5 R6]
  · isplitl [HB]; · iexact HB
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [R0]; · iexact R0
    isplitl [R1]; · iexact R1
    isplitl [R2]; · iexact R2
    isplitl [R3]; · iexact R3
    isplitl [R4]; · iexact R4
    isplitl [R5]; · iexact R5
    iexact R6
  isplitl [W0]; · iexact W0
  isplitl [W1]; · iexact W1
  isplitl [W2]; · iexact W2
  isplitl [W3]; · iexact W3
  isplitl [W4]; · iexact W4
  isplitl [W5]; · iexact W5
  isplitl [W6]; · iexact W6
  iexact W7
theorem sems_out (c : Dev nD) : iprop((psems c : sProp 𝕄) ∗ wsems c)
      ⊢ iprop(unscopedSems0 c ∗ Pipeline.ownSems0 (Ix := Unit) (Name := ℕ) (U := UU) (Lvl := ℕ) (Val := Elt F) (τ := τ) osem c) := by
  rw [own_eq, unscoped_eq]; unfold psems wsems
  iintro ⟨⟨HB, S0, S1, S2, S3, S4, S5, S6, R0, R1, R2, R3, R4, R5, R6⟩, W0, W1, W2, W3, W4, W5, W6, W7⟩
  isplitl [HB]; · iexact HB
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [W0]; · iexact W0
  isplitl [W1]; · iexact W1
  isplitl [W2]; · iexact W2
  isplitl [W3]; · iexact W3
  isplitl [W4]; · iexact W4
  isplitl [W5]; · iexact W5
  isplitl [W6]; · iexact W6
  iexact W7

theorem psems_eq (c : Dev nD) : (psems c : sProp 𝕄) = bigSep Finset.univ fun k : Fin 15 => semVal (kcell (c, k)) 0 :=
  (sum_cells (fun g => semVal g 0) c).symm

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Lists

/-! ## What each device is dealt -/

section Deal

theorem swap_sums {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), ← bigSep_univ_prod (fun x : β × α => Φ x.2 x.1),
    bigSep_univ_equiv (Equiv.prodComm β α) (fun x : α × β => Φ x.1 x.2)]
  rfl

theorem kcell_inj : Function.Injective (kcell : Dev nD × Fin 15 → GSem nD τ sig) := by
  rintro ⟨c, k⟩ ⟨c', k'⟩ h
  have h1 : c = c' := congrArg (fun g : GSem nD τ sig => g.1.1) h
  have h2 : k = k' := csem_inj (congrArg Prod.snd h)
  rw [h1, h2]
/-- The cells of the protocol. -/
def pcells : Finset (GSem nD τ sig) := Finset.univ.map ⟨kcell, kcell_inj⟩

abbrev tokOf (x : (Dev nD × Fin 15) × Fin 4) : GSem nD τ sig × ℕ × Fin 4 := (kcell x.1, 0, x.2)
theorem tokOf_inj : Function.Injective (tokOf : (Dev nD × Fin 15) × Fin 4 → GSem nD τ sig × ℕ × Fin 4) := fun x y h =>
  Prod.ext (kcell_inj (congrArg Prod.fst h)) (congrArg (fun z : GSem nD τ sig × ℕ × Fin 4 => z.2.2) h)
/-- The tokens of the protocol: four per cell, of which a send or receive cell uses the first. -/
def ptoks : Finset (GSem nD τ sig × ℕ × Fin 4) := Finset.univ.map ⟨tokOf, tokOf_inj⟩

/-- The launch element. -/
def u₀ : UU := (initOf (Pipeline.cells cfgs cellOf_inj) (Pipeline.launchToks cfgs cellOf_inj), initOf pcells ptoks, 1)

/-- The tokens of device `c`'s own cells. -/
def minted (c : Dev nD) : sProp 𝕄 :=
  iprop((bigSep Finset.univ fun d : Fin 4 => dutyTok ER (bar c) 0 d) ∗ (bigSep Finset.univ fun k : Fin 7 => dutyTok ER (snd k c) 0 (0 : Fin 4))
    ∗ bigSep Finset.univ fun k : Fin 7 => dutyTok ER (rcv k c) 0 (0 : Fin 4))
/-- The tokens device `c` pays with. -/
def payable (c : Dev nD) : sProp 𝕄 :=
  iprop((bigSep Finset.univ fun d : Fin 4 => dutyTok ER (bar (peer d c)) 0 d) ∗ (bigSep Finset.univ fun k : Fin 7 => dutyTok ER (snd k c) 0 (0 : Fin 4))
    ∗ bigSep Finset.univ fun k : Fin 7 => dutyTok ER (rcv k (peer (link k) c)) 0 (0 : Fin 4))

theorem four_one (g : GSem nD τ sig) : (bigSep Finset.univ fun d : Fin 4 => (dutyTok ER g 0 d : sProp 𝕄)) ⊢ dutyTok ER g 0 (0 : Fin 4) :=
  bigSep_elim (Finset.mem_univ _)

theorem minted_intro (c : Dev nD) :
    (bigSep Finset.univ fun k : Fin 15 => bigSep Finset.univ fun d : Fin 4 => (dutyTok ER (kcell (c, k)) 0 d : sProp 𝕄)) ⊢ minted c := by
  rw [sum_cells (fun g => bigSep Finset.univ fun d : Fin 4 => (dutyTok ER g 0 d : sProp 𝕄)) c]
  unfold minted
  rw [sum_seven, sum_seven]
  iintro ⟨B, S0, S1, S2, S3, S4, S5, S6, R0, R1, R2, R3, R4, R5, R6⟩
  isplitl [B]; · iexact B
  isplitl [S0 S1 S2 S3 S4 S5 S6]
  · isplitl [S0]; · iapply (four_one (F := F) (snd 0 c)); iexact S0
    isplitl [S1]; · iapply (four_one (F := F) (snd 1 c)); iexact S1
    isplitl [S2]; · iapply (four_one (F := F) (snd 2 c)); iexact S2
    isplitl [S3]; · iapply (four_one (F := F) (snd 3 c)); iexact S3
    isplitl [S4]; · iapply (four_one (F := F) (snd 4 c)); iexact S4
    isplitl [S5]; · iapply (four_one (F := F) (snd 5 c)); iexact S5
    iapply (four_one (F := F) (snd 6 c)); iexact S6
  isplitl [R0]; · iapply (four_one (F := F) (rcv 0 c)); iexact R0
  isplitl [R1]; · iapply (four_one (F := F) (rcv 1 c)); iexact R1
  isplitl [R2]; · iapply (four_one (F := F) (rcv 2 c)); iexact R2
  isplitl [R3]; · iapply (four_one (F := F) (rcv 3 c)); iexact R3
  isplitl [R4]; · iapply (four_one (F := F) (rcv 4 c)); iexact R4
  isplitl [R5]; · iapply (four_one (F := F) (rcv 5 c)); iexact R5
  iapply (four_one (F := F) (rcv 6 c)); iexact R6

/-- The tokens dealt: a cell's token goes to the device that pays its duty. -/
theorem deal : (bigSep Finset.univ fun c : Dev nD => (minted c : sProp 𝕄)) ⊢ bigSep Finset.univ fun c : Dev nD => payable c := by
  unfold minted payable
  rw [bigSep_sep', bigSep_sep', bigSep_sep', bigSep_sep']
  have hb : (bigSep Finset.univ fun c : Dev nD => bigSep Finset.univ fun d : Fin 4 => (dutyTok ER (bar c) 0 d : sProp 𝕄))
      = bigSep Finset.univ fun c : Dev nD => bigSep Finset.univ fun d : Fin 4 => dutyTok ER (bar (peer d c)) 0 d := by
    rw [swap_sums, swap_sums fun (c : Dev nD) (d : Fin 4) => (dutyTok ER (bar (peer d c)) 0 d : sProp 𝕄)]
    exact bigSep_congr fun d _ => bigSep_univ_equiv (peerEquiv d) fun c : Dev nD => (dutyTok ER (bar c) 0 d : sProp 𝕄)
  have hr : (bigSep Finset.univ fun c : Dev nD => bigSep Finset.univ fun k : Fin 7 => (dutyTok ER (rcv k c) 0 (0 : Fin 4) : sProp 𝕄))
      = bigSep Finset.univ fun c : Dev nD => bigSep Finset.univ fun k : Fin 7 => dutyTok ER (rcv k (peer (link k) c)) 0 (0 : Fin 4) := by
    rw [swap_sums, swap_sums fun (c : Dev nD) (k : Fin 7) => (dutyTok ER (rcv k (peer (link k) c)) 0 (0 : Fin 4) : sProp 𝕄)]
    exact bigSep_congr fun k _ => bigSep_univ_equiv (peerEquiv (link k)) fun c : Dev nD => (dutyTok ER (rcv k c) 0 (0 : Fin 4) : sProp 𝕄)
  rw [hb, hr]

/-- Device `c`'s positions in its own cells. -/
def posns (c : Dev nD) : sProp 𝕄 := bigSep Finset.univ fun k : Fin 15 => atPos ER (kcell (c, k)) 0 ∅ 0

/-- What the launch element gives device `c`. -/
def G (c : Dev nD) : sProp 𝕄 :=
  iprop((bigSep Finset.univ fun k : Fin 15 => roundState ER (Rd m) (kcell (c, k)) 0)
    ∗ (posns c ∗ bigSep Finset.univ fun k : Fin 15 => reached ER (kcell (c, k)) 0) ∗ minted c)
/-- What the devices make of it together. -/
def G' (c : Dev nD) : sProp 𝕄 := iprop((∃ K, Recs m K) ∗ posns c ∗ payable c ∗ wsems c)

theorem fund : BI.own (ER (initOf pcells ptoks)) ⊢ (|==> bigSep Finset.univ (G m) : sProp 𝕄) := by
  have hX (Φ : GSem nD τ sig → sProp 𝕄) : bigSep pcells Φ = bigSep Finset.univ fun c : Dev nD => bigSep Finset.univ fun k : Fin 15 => Φ (kcell (c, k)) := by
    unfold pcells; rw [bigSep_map, bigSep_univ_prod]; rfl
  have hT : bigSep ptoks (fun x => (dutyTok ER x.1 x.2.1 x.2.2 : sProp 𝕄)) ⊢ bigSep Finset.univ fun c : Dev nD => minted c := by
    unfold ptoks; rw [bigSep_map, bigSep_univ_prod, bigSep_univ_prod]
    exact bigSep_mono fun c _ => minted_intro c
  iintro HX
  imod (Rounds.fund ER (Rd m) pcells ptoks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G posns; simp only [bigSep_sep']
  isplitl [Hst']; · iexact Hst'
  isplitl [Hat' Hr']
  · isplitl [Hat'] <;> iassumption
  iexact Htok'

/-- One device's cells become invariants. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 15 => iprop(∃ κ : ℕ, cellInv ER (Rd m) κ (kcell (c, k))))
          ∗ (bigSep Finset.univ fun k : Fin 15 => reached ER (kcell (c, k)) 0) ∗ minted c ∗ posns c ∗ wsems c) := by
  unfold G
  iintro ⟨Hos, Hus, Hst, ⟨Hat, Hr⟩, Htok⟩
  ihave Hv := (sems_in (F := F) c) $$ [Hos Hus]
  · isplitl [Hos] <;> iassumption
  rw [psems_eq]
  icases Hv with ⟨Hv, Hw⟩
  imod (show iprop((bigSep Finset.univ fun k : Fin 15 => semVal (kcell (c, k)) 0) ∗ bigSep Finset.univ fun k : Fin 15 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat]; · iexact Hat
  iexact Hw

theorem recs_ex (K : Dev nD × Fin 15 → ℕ) : (Recs m K : sProp 𝕄) ⊢ iprop(∃ K, Recs m K) := by
  iintro H; iexists K; iexact H
theorem gather_parts : iprop((bigSep Finset.univ fun _ : Dev nD => iprop(∃ K, Recs m K)) ∗ (bigSep Finset.univ fun c : Dev nD => posns c)
    ∗ (bigSep Finset.univ fun c : Dev nD => payable c) ∗ bigSep Finset.univ fun c : Dev nD => wsems c) ⊢ (bigSep Finset.univ (G' m) : sProp 𝕄) := by
  unfold G'; rw [bigSep_sep', bigSep_sep', bigSep_sep']

/-- All devices' invariants are known to every device, and the tokens are dealt. -/
theorem share :
    (bigSep Finset.univ fun c : Dev nD => iprop((bigSep Finset.univ fun k : Fin 15 => iprop(∃ κ : ℕ, cellInv ER (Rd m) κ (kcell (c, k))))
          ∗ (bigSep Finset.univ fun k : Fin 15 => reached ER (kcell (c, k)) 0) ∗ minted c ∗ posns c ∗ wsems c) : sProp 𝕄)
      ⊢ bigSep Finset.univ (G' m) := by
  rw [bigSep_sep', bigSep_sep', bigSep_sep', bigSep_sep', ← bigSep_univ_prod (fun ck : Dev nD × Fin 15 => iprop(∃ κ : ℕ, cellInv ER (Rd m) κ (kcell ck))),
    ← bigSep_univ_prod (fun ck : Dev nD × Fin 15 => (reached ER (kcell ck) 0 : sProp 𝕄))]
  iintro ⟨HI, HR, Htok, Hp, Hw⟩
  ihave HK := (BI.bigSep_exists_pi Finset.univ (fun (ck : Dev nD × Fin 15) (κ : ℕ) => (cellInv ER (Rd m) κ (kcell ck) : sProp 𝕄))) $$ HI
  icases HK with ⟨%K, HI⟩
  ihave Htk := (deal (F := F)) $$ Htok
  ihave Hrec := (show iprop((bigSep Finset.univ fun ck : Dev nD × Fin 15 => cellInv ER (Rd m) (K ck) (kcell ck))
    ∗ bigSep Finset.univ fun ck : Dev nD × Fin 15 => reached ER (kcell ck) 0) ⊢ Recs m K from by unfold Recs; exact BI.Entails.refl _) $$ [HI HR]
  · isplitl [HI] <;> iassumption
  ihave Hall := (BI.bigSep_of_persistent (Finset.univ : Finset (Dev nD)) (Recs m K)) $$ Hrec
  ihave Hall' := (show (bigSep Finset.univ fun _ : Dev nD => Recs m K) ⊢ bigSep Finset.univ fun _ : Dev nD => iprop(∃ K, Recs m K) from
    bigSep_mono fun c _ => recs_ex m K) $$ Hall
  iapply (gather_parts m)
  isplitl [Hall']; · iexact Hall'
  isplitl [Hp]; · iexact Hp
  isplitl [Htk]; · iexact Htk
  iexact Hw

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (share m))

/-! ### The credit dealt at launch -/

theorem cell_iff (s : SemLoc sig) {a b : Dev nD} : ((a : Thread nD τ), s) = ((b : Thread nD τ), s) ↔ a = b :=
  ⟨fun h => Fin.ext (congrArg (fun g : GSem nD τ sig => g.1.1.val) h), fun h => h ▸ rfl⟩

theorem tally_if (s : SemLoc sig) (a b : Dev nD) (n : ℕ) :
    (tallyAt ((a : Thread nD τ), s) () n : CellTallies nD τ sig Unit) ((b : Thread nD τ), s) () = if a = b then n else 0 := by
  rw [tallyAt_apply]
  by_cases h : a = b
  · subst h; rw [if_pos ⟨rfl, rfl⟩, if_pos rfl]
  · rw [if_neg (fun ⟨h1, _⟩ => h ((cell_iff s).mp h1.symm)), if_neg h]
theorem tally_ne (s s' : SemLoc sig) (hs : s ≠ s') (a b : Dev nD) (n : ℕ) :
    (tallyAt ((a : Thread nD τ), s) () n : CellTallies nD τ sig Unit) ((b : Thread nD τ), s') () = 0 := by
  rw [tallyAt_ne_cell (fun h => hs (congrArg Prod.snd h).symm), Finsupp.zero_apply]

theorem rS_inj {k k' : Fin 7} (h : k ≠ k') : (SemLoc.dma (rS k) : SemLoc sig) ≠ .dma (rS k') := by revert k k'; decide
theorem rS_bar (k : Fin 7) : (SemLoc.dma (rS k) : SemLoc sig) ≠ .reg barS := by revert k; decide

theorem owed_bar (d c : Dev nD) : O₀ d (bar c) () = ∑ e : Fin 4, if peer e d = c then 1 else 0 := by
  have hK (k : Fin 7) : owK d k (bar c) () = 0 := tally_ne _ _ (rS_bar k) _ _ _
  have hB (e : Fin 4) : owB d e (bar c) () = if peer e d = c then 1 else 0 := tally_if _ _ _ _
  unfold O₀
  rw [Fin.sum_univ_seven, Fin.sum_univ_four]
  simp only [Pi.add_apply, Finsupp.add_apply, hK, hB]
  omega
theorem owed_rcv (k : Fin 7) (d c : Dev nD) : O₀ d (rcv k c) () = if peer (link k) d = c then (if pays k d then amt k else 0) else 0 := by
  have hK (k' : Fin 7) : owK d k' (rcv k c) () = if k' = k then (if peer (link k) d = c then (if pays k d then amt k else 0) else 0) else 0 := by
    by_cases h : k' = k
    · subst h; rw [if_pos rfl]; exact tally_if _ _ _ _
    · rw [if_neg h]; exact tally_ne _ _ (rS_inj h) _ _ _
  have hB (e : Fin 4) : owB d e (rcv k c) () = 0 := tally_ne _ _ (rS_bar k).symm _ _ _
  have hs : (∑ k', owK d k') (rcv k c) () = ∑ k', owK d k' (rcv k c) () := by
    rw [Fin.sum_univ_seven, Fin.sum_univ_seven]; simp only [Pi.add_apply, Finsupp.add_apply]
  unfold O₀
  simp only [Pi.add_apply, Finsupp.add_apply, hB, add_zero]
  rw [hs, Finset.sum_congr rfl fun k' _ => hK k', Finset.sum_ite_eq' Finset.univ k, if_pos (Finset.mem_univ _)]

theorem launch_bar (c : Dev nD) :
    tallyOn (bar c) (launchCredit (Pipeline.owing O₀) 0 (bar c)) = (tallyAt (bar c) () 4 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_rcv (k : Fin 7) (c : Dev nD) :
    tallyOn (rcv k c) (launchCredit (Pipeline.owing O₀) 0 (rcv k c)) = (tallyAt (rcv k c) () (if gets k c then amt k else 0) : CellTallies nD τ sig Unit) := by
  unfold tallyAt; refine congrArg _ (Finsupp.ext fun u => ?_); cases u
  rw [Pipeline.launchCredit_owing, Finsupp.single_eq_same, Finset.sum_congr rfl fun d _ => owed_rcv k d c]
  revert k c; decide

theorem creds (c : Dev nD) : (Pipeline.launchCred O₀ c : sProp 𝕄)
    ⊢ iprop(cred (tallyAt (bar c) () 4) ∗ cred (tallyAt (rcv 0 c) () (if gets 0 c then amt 0 else 0)) ∗ cred (tallyAt (rcv 1 c) () (if gets 1 c then amt 1 else 0)) ∗ cred (tallyAt (rcv 2 c) () (if gets 2 c then amt 2 else 0)) ∗ cred (tallyAt (rcv 3 c) () (if gets 3 c then amt 3 else 0)) ∗ cred (tallyAt (rcv 4 c) () (if gets 4 c then amt 4 else 0)) ∗ cred (tallyAt (rcv 5 c) () (if gets 5 c then amt 5 else 0)) ∗ cred (tallyAt (rcv 6 c) () (if gets 6 c then amt 6 else 0))) := by
  unfold Pipeline.launchCred
  rw [bigSep_univ_at _ (SemLoc.reg barS), launch_bar]
  refine sep_mono_right ?_
  have hsub : (Finset.univ : Finset (Fin 7)).image (fun k => (SemLoc.dma (rS k) : SemLoc sig)) ⊆ Finset.univ.erase (SemLoc.reg barS) := fun x hx => by
    obtain ⟨k, -, rfl⟩ := Finset.mem_image.mp hx
    exact Finset.mem_erase.mpr ⟨rS_bar k, Finset.mem_univ _⟩
  refine (bigSep_subset hsub).trans ?_
  rw [bigSep_image_of_injOn (f := fun k : Fin 7 => (SemLoc.dma (rS k) : SemLoc sig)) (fun k _ k' _ h => by by_contra hn; exact rS_inj hn h)]
  rw [sum_seven]
  simp only [launch_rcv]
  exact BI.Entails.refl _

end Deal

/-! ## The proof data of the call -/

/-- What device `c`'s body starts from. -/
def start (c : Dev nD) : sProp 𝕄 := iprop((∃ K, Recs m K) ∗ levAts L lv ∗ kits c ∗ wsems c ∗ weights m c)
def Φ₀ (c : Dev nD) : sProp 𝕄 := iprop(start m c ∗ bufs (F := F) c)
/-- What it ends with. -/
def Φ₁ (c : Dev nD) : sProp 𝕄 := iprop(psems c ∗ wsems c ∗ bufs (F := F) c ∗ weights m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => rV m c
    | ⟨2, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m c ∗ (dats m ρ 0 c).owesAt () t0_0.succ ∗ stg c cc0_stg0_0 (xV m c) ∗ stg c cc0_stg1_0 (rV m c) ∗ stg c cc0_stg2_0 (outV m c))

set_option maxRecDepth 4000 in
/-- The body runs on every device as the launch requires. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0__body (F := F) xM (Memref.isWhole_whole _) rM (Memref.isWhole_whole _) w1M (Memref.isWhole_whole _) w2M (Memref.isWhole_whole _) oM (Memref.isWhole_whole _) w1vM (Memref.isWhole_whole _) w2vM (Memref.isWhole_whole _) rrM (Memref.isWhole_whole _) xcM (Memref.isWhole_whole _) mcM (Memref.isWhole_whole _) msM (Memref.isWhole_whole _) csM (Memref.isWhole_whole _) crM (Memref.isWhole_whole _) dsM (Memref.isWhole_whole _) dxM (Memref.isWhole_whole _) dgM (Memref.isWhole_whole _) dzM (Memref.isWhole_whole _) sendA recvA wA) (fun _ => bodyPost m ρ c)
  unfold bodyPre Φ₀ start
  iintro ⟨⟨⟨⟨%K, #HR⟩, #Hl, Hkits, Hws, HW⟩, Hbufs⟩, Ho, ⟨%d0, %g0, %hg0, Hx⟩, ⟨%d1, %g1, %hg1, Hr⟩, ⟨%d2, %g2, %hg2, Hout⟩⟩
  have hx : g0 = xV m c := by rw [hg0]; unfold Dat.before; rw [if_pos (fetch_0 t0_0)]; rfl
  have hr : g1 = rV m c := by rw [hg1]; unfold Dat.before; rw [if_pos (fetch_1 t0_0)]; rfl
  subst hx hr
  unfold Dat.owesAt Pipeline.owesWithin
  icases Ho with ⟨%W, %hW, HO⟩
  rw [show (dats m ρ 0 c).owed t0_0.castSucc = O₀ c from rfl]
  iapply (sound_all (m := m) (K := K) (c := c) (base := g2) (Q := fun _ => bodyPost m ρ c)) $$ [Hkits Hws HW Hbufs HO Hx Hr Hout]
  · isplitr; · iexact HR
    isplitr; · iexact Hl
    isplitl [HO]; · unfold ow; iexists W; iexact HO
    isplitl [Hkits]; · iexact Hkits
    isplitl [Hws]; · iexact Hws
    isplitl [Hbufs]; · iexact Hbufs
    isplitl [HW]; · iexact HW
    isplitl [Hx]; · iexact Hx
    isplitl [Hr]; · iexact Hr
    iexact Hout
  · iintro ⟨HO, Hps, Hws, Hbufs, HW, Hx, Hr, Hout⟩
    unfold bodyPost Φ₁ Dat.owesAt Pipeline.owesWithin ow
    rw [show (dats m ρ 0 c).owed t0_0.succ = 0 from rfl]
    icases HO with ⟨%W', HO⟩
    isplitl [Hps Hws Hbufs HW]
    · isplitl [Hps]; · iexact Hps
      isplitl [Hws]; · iexact Hws
      isplitl [Hbufs]; · iexact Hbufs
      iexact HW
    isplitl [HO]
    · iexists W'
      isplitr; · ipureintro; exact fun _ _ => Or.inl trivial
      iexact HO
    isplitl [Hx]
    · iexists _; isplitr; · (ipureintro; rfl)
      iexact Hx
    isplitl [Hr]
    · iexists _; isplitr; · (ipureintro; rfl)
      iexact Hr
    iexists _; isplitr; · (ipureintro; rfl)
    iexact Hout

/-! ## The launch's side conditions -/

theorem share_eq (c : Dev nD) (w : Fin cfg0.W) : (dats m ρ 0 c).share w = fullShare := by unfold Dat.share; split <;> rfl

/-- The positions, the tokens and the credit of a device are its parts in the protocol. -/
theorem kits_intro (c : Dev nD) : iprop(posns c ∗ payable c ∗ (Pipeline.launchCred O₀ c : sProp 𝕄)) ⊢ kits c := by
  unfold posns payable kits
  rw [sum_cells (fun g => (atPos ER g 0 ∅ 0 : sProp 𝕄)) c, sum_four, sum_seven, sum_seven]
  iintro ⟨⟨PB, PS0, PS1, PS2, PS3, PS4, PS5, PS6, PR0, PR1, PR2, PR3, PR4, PR5, PR6⟩, ⟨⟨B0, B1, B2, B3⟩, ⟨DS0, DS1, DS2, DS3, DS4, DS5, DS6⟩, DR0, DR1, DR2, DR3, DR4, DR5, DR6⟩, Hcr⟩
  ihave Hc := (creds (F := F) c) $$ Hcr
  icases Hc with ⟨CB, C0, C1, C2, C3, C4, C5, C6⟩
  isplitl [PB CB]
  · unfold barKit; isplitl [PB] <;> iassumption
  isplitl [B0]; · iexact B0
  isplitl [B1]; · iexact B1
  isplitl [B2]; · iexact B2
  isplitl [B3]; · iexact B3
  isplitl [PS0 DS0 DR0]
  · unfold sendKit; isplitl [PS0]; · iexact PS0
    isplitl [DS0] <;> iassumption
  isplitl [PS1 DS1 DR1]
  · unfold sendKit; isplitl [PS1]; · iexact PS1
    isplitl [DS1] <;> iassumption
  isplitl [PS2 DS2 DR2]
  · unfold sendKit; isplitl [PS2]; · iexact PS2
    isplitl [DS2] <;> iassumption
  isplitl [PS3 DS3 DR3]
  · unfold sendKit; isplitl [PS3]; · iexact PS3
    isplitl [DS3] <;> iassumption
  isplitl [PS4 DS4 DR4]
  · unfold sendKit; isplitl [PS4]; · iexact PS4
    isplitl [DS4] <;> iassumption
  isplitl [PS5 DS5 DR5]
  · unfold sendKit; isplitl [PS5]; · iexact PS5
    isplitl [DS5] <;> iassumption
  isplitl [PS6 DS6 DR6]
  · unfold sendKit; isplitl [PS6]; · iexact PS6
    isplitl [DS6] <;> iassumption
  isplitl [PR0 C0]
  · unfold recvKit; isplitl [PR0] <;> iassumption
  isplitl [PR1 C1]
  · unfold recvKit; isplitl [PR1] <;> iassumption
  isplitl [PR2 C2]
  · unfold recvKit; isplitl [PR2] <;> iassumption
  isplitl [PR3 C3]
  · unfold recvKit; isplitl [PR3] <;> iassumption
  isplitl [PR4 C4]
  · unfold recvKit; isplitl [PR4] <;> iassumption
  isplitl [PR5 C5]
  · unfold recvKit; isplitl [PR5] <;> iassumption
  unfold recvKit; isplitl [PR6] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start weights
  iintro ⟨HW, Hlev, Hcr, -, HR, Hp, Ht, Hws⟩
  ihave Hk := (kits_intro (F := F) c) $$ [Hp Ht Hcr]
  · isplitl [Hp]; · iexact Hp
    isplitl [Ht] <;> iassumption
  imodintro
  isplitl
  · isplitl [HR]; · iexact HR
    isplitl [Hlev]; · iexact Hlev
    isplitl [Hk]; · iexact Hk
    isplitl [Hws]; · iexact Hws
    iexact HW
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

theorem leave (c : Dev nD) :
    (dats m ρ 0 c).Φ (Fin.last cfg0.N) ⊢ iprop((unscopedSems0 c ∗ weights m c) ∗ Pipeline.ownSems0 osem c ∗ Pipeline.scopedRest cfg0.spec c) := by
  rw [show (dats m ρ 0 c).Φ (Fin.last cfg0.N) = Φ₁ m c from rfl, scopedRest0_eq]
  unfold Φ₁ bufs
  iintro ⟨Hp, Hw, Hb, HW⟩
  ihave Hs := (sems_out (F := F) c) $$ [Hp Hw]
  · isplitl [Hp] <;> iassumption
  icases Hs with ⟨Hu, Ho⟩
  isplitl [Hu HW]
  · isplitl [Hu] <;> iassumption
  isplitl [Ho]; · iexact Ho
  iexact Hb

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> decide) _ (by
      rcases t with ⟨_ | _, ht⟩
      · exact above_O₀ c
      · exact Above.zero 0)

/-! ## The run -/

/-- What holds of a final state: the result arrays at the values of the body, every argument as launched. -/
def Final (s : MemSt nD τ sig (Elt F)) : Prop := ∀ c : Dev nD,
  s.mem ((c : Thread nD τ).loc main_v1) = outV m c ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

/-- The result array after the call. -/
theorem out_array (c : Dev nD) : (dats m ρ 0 c).arrAt (2 : Fin 3) cfg0.N = outV m c :=
  (dats m ρ 0 c).arrAt_eq_of_after_last (2 : Fin 3) t0_0 (by decide +kernel) _ fun j => rfl

/-- What is read of a device's memory at the end: its barrier semaphore and the two weight arrays. -/
theorem read_end (c : Dev nD) (s' : Phys nD τ sig (Elt F)) :
    iprop((unscopedSems0 c ∗ weights m c) ∗ emp ∗ SI s') ⊢ (|={Set.univ}=> (⌜(∀ sm : SemLoc sig, sm.isScoped .tc = false → s'.mem.sem ((c.tc : Thread nD τ), sm) = 0)
      ∧ s'.mem.mem ((c : Thread nD τ).loc main_arg2) = m ((c : Thread nD τ).loc main_arg2)
      ∧ s'.mem.mem ((c : Thread nD τ).loc main_arg3) = m ((c : Thread nD τ).loc main_arg3)⌝ ∗ SI s') : sProp 𝕄) := by
  unfold weights
  iintro ⟨⟨Hu, H2, H3⟩, -, HSI⟩
  icombine HSI H2 gives %h2
  icombine HSI H3 gives %h3
  imod (Pipeline.unscopedSems0_read (X := unscopedSems0 c) (c := c) fupd_intro s') $$ [Hu HSI] with ⟨%h1, HSI⟩
  · isplitl [Hu] <;> iassumption
  imodintro
  isplitr [HSI]
  rotate_left
  · iexact HSI
  ipureintro
  exact ⟨h1, Buf.eq_of_forall_mem_univ h2, Buf.eq_of_forall_mem_univ h3⟩

set_option maxRecDepth 8000 in
/-- For any float values, from any memory with zero counters, every weakly fair execution on the eight devices
    terminates, and in every final state each device's result array holds its value, the arguments are as launched and
    every semaphore counter is zero. -/
theorem run_main : θ_run defs (onTc (τ := τ) (main (F := F))) (s₀ m ρ) (fun r => Final m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H' := (show BI.own (EQ (F := F) (initOf pcells ptoks, 1)) ⊢ iprop(BI.own (ER (F := F) (initOf pcells ptoks)) ∗ BI.own (((Emb.inr : Emb Counters (UB × Counters)).trans EQ) 1)) from
        own_pair_emb (EQ (F := F)) _ _) $$ HX
      icases H' with ⟨HX, -⟩
      imod (fund m) $$ HX with HG
      imodintro
      isplitl [HP] <;> iassumption)
    (hglob := glob m)
    (hA := fun _ _ => rfl) (hpf := fun _ k => k.elim0)
    (X := start m) (Y := fun c => iprop(unscopedSems0 c ∗ weights m c)) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => read_end m c s')
    (hQ := fun _ h hs => ⟨fun c => ⟨((h c).1 (2 : Fin 3)).trans (out_array m ρ c),
      ((h c).1 (0 : Fin 3)).trans ((dats m ρ 0 c).arrAt_in (0 : Fin 3) rfl _),
      ((h c).1 (1 : Fin 3)).trans ((dats m ρ 0 c).arrAt_in (1 : Fin 3) rfl _), (h c).2.2.2.1, (h c).2.2.2.2⟩,
      sem_eq_zero hs fun c => (h c).2.2.1⟩)

end Cert.KernelIdealRun

end
-- ==== Proof.Frames.lean ====
module

public import proofs.«01_k».proof.Defs
public import proofs.«01_k».proof.Proof.Gen.ReferenceIdeal
public import proofs.«01_k».proof.Proof.Gen.ReferenceIdeal.Run
public import proofs.«01_k».proof.Proof.Ideal.Launch
public import proofs.«01_k».proof.Proof.Bits.Launch

@[expose] public section

noncomputable section

/-! The frames: each of the three programs runs to its end, leaves its arguments as they were and every
    semaphore counter at zero. The kernel's two readings follow from the run of the whole launch; the reference
    is a straight line of host operations and owns no semaphore at all. -/

namespace Cert.Frames

open Idealize.ShloMosaic Idealize.SL.Sem

/-- The kernel over words: it ends, with its arguments unchanged and all counters at zero. -/
theorem kernel : Cert.quiescent_Kernel (hKernel := Cert.Kernel.Gen.facts) := fun m g _ =>
  (θ_run Cert.Kernel.defs _ _).mono (fun _ h => ⟨fun c => (h.1 c).2, h.2⟩) (Cert.KernelRun.run_main m g)

/-- The kernel over extended reals: the same. -/
theorem kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdealRun.run_main m g)

/-- The reference: it ends, with its arguments unchanged; it has no semaphore, so every counter is at zero. -/
theorem referenceIdeal : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run m g)

end Cert.Frames

end
-- ==== Proof.Value.Sums.lean ====
/- Sums over the extended reals: blocks of a sum put together, a finite weight taken out of one, and the two terms of a
   sum that a pair of experts leaves. -/
module

public import Idealize.ShloMosaic.Lib.Pointwise

@[expose] public section

noncomputable section

namespace Cert.Value

open scoped BigOperators

/-- One expert applied to one token, at column `d`: a product, the positive part, a second product. -/
def expert (x : Fin 1024 → EReal) (a : Fin 1024 → Fin 2048 → EReal) (b : Fin 2048 → Fin 1024 → EReal) (d : Fin 1024) :
    EReal :=
  ∑ f, max (∑ k, x k * a k f) 0 * b f d

/-- A sum of 1024 terms is the sum of its halves. -/
theorem halves_1024 (g : Fin 1024 → EReal) :
    (∑ k : Fin 512, g ⟨k.val, by omega⟩) + (∑ k : Fin 512, g ⟨512 + k.val, by omega⟩) = ∑ k, g k :=
  (Fin.sum_univ_add (a := 512) (b := 512) g).symm

/-- A sum of 2048 terms is the sum of its halves. -/
theorem halves_2048 (g : Fin 2048 → EReal) :
    (∑ k : Fin 1024, g ⟨k.val, by omega⟩) + (∑ k : Fin 1024, g ⟨1024 + k.val, by omega⟩) = ∑ k, g k :=
  (Fin.sum_univ_add (a := 1024) (b := 1024) g).symm

/-- A nonnegative finite factor of every term is a factor of the sum. -/
theorem sum_mul_weight {n : Nat} (f : Fin n → EReal) {w : EReal} (h0 : 0 ≤ w) (ht : w ≠ ⊤) :
    ∑ k, f k * w = (∑ k, f k) * w := by
  induction n with
  | zero => simp
  | succ n ih =>
      rw [Fin.sum_univ_succ, Fin.sum_univ_succ, ih, EReal.right_distrib_of_nonneg_of_ne_top h0 ht]

/-- An expert whose activations are weighted gives the weighted expert. -/
theorem expert_weighted (x : Fin 1024 → EReal) (a : Fin 1024 → Fin 2048 → EReal) (b : Fin 2048 → Fin 1024 → EReal)
    (d : Fin 1024) {w : EReal} (h0 : 0 ≤ w) (ht : w ≠ ⊤) :
    ∑ f, max (∑ k, x k * a k f) 0 * w * b f d = expert x a b d * w := by
  rw [expert, ← sum_mul_weight _ h0 ht]
  exact Finset.sum_congr rfl fun f _ => mul_right_comm _ _ _

/-- Of a sum over the experts with one weight for `p`, another for `q` and none for the rest, the two remain. -/
theorem sum_pair {n : Nat} (y : Fin n → EReal) {p q : Fin n} (hpq : q ≠ p) (u v : EReal) :
    ∑ j, y j * ((if p = j then u else 0) + (if q = j then v else 0)) = y p * u + y q * v := by
  have h : ∀ j, y j * ((if p = j then u else 0) + (if q = j then v else 0))
      = (if p = j then y j * u else 0) + (if q = j then y j * v else 0) := by
    intro j
    by_cases h1 : p = j
    · subst h1; simp [hpq]
    · by_cases h2 : q = j
      · subst h2; simp [h1]
      · simp [h1, h2]
  rw [Finset.sum_congr rfl fun j _ => h j, Finset.sum_add_distrib]
  simp

end Cert.Value

end
-- ==== Proof.Value.Experts.lean ====
/- The four experts of one device, element by element: what the kernel's blocked products add up to over the extended
   reals. -/
module

public import proofs.«01_k».proof.Proof.Ideal.Vals
public import proofs.«01_k».proof.Proof.Value.Sums

@[expose] public section

noncomputable section

namespace Cert.Value

open Cert.KernelIdeal Cert.KernelIdeal.Gen
open Idealize.ShloMosaic
open Cert.KernelIdealRun
open scoped BigOperators

section

variable (xi : Vec Ideal S256x1024 .bf16) (mi : Vec Ideal S256x4 .f32)
  (w1 : Fin 4 → Fin 2 → Vec Ideal S1x512x2048 .f32) (w2 : Fin 4 → Fin 2 → Vec Ideal S1x1024x1024 .f32)

/-- The hidden activations of expert `e`, weighted, as the kernel adds them: two blocks of the first product. -/
def hidE (e : Fin 4) (t : Fin 256) (f : Fin 2048) : EReal :=
  max ((∑ k : Fin 512, xi (ix2 t ⟨k.val, by omega⟩) * w1 e 0 (ix3 0 k f))
    + ∑ k : Fin 512, xi (ix2 t ⟨512 + k.val, by omega⟩) * w1 e 1 (ix3 0 k f)) 0 * mi (ix2 t e)

/-- What the second product adds for activations `h`: two blocks of it. -/
def stepE (h : Fin 2048 → EReal) (e : Fin 4) (d : Fin 1024) : EReal :=
  (∑ f : Fin 1024, h ⟨f.val, by omega⟩ * w2 e 0 (ix3 0 f d))
    + ∑ f : Fin 1024, h ⟨1024 + f.val, by omega⟩ * w2 e 1 (ix3 0 f d)

/-- The hidden activations of the first expert, at one element. -/
theorem hid0_apply (t : Fin 256) (f : Fin 2048) :
    k0_pay29 (F := Ideal) (k0_pay22 (w1 0 0)) (k0_pay23 (w1 0 1)) xi mi (ix2 t f) = hidE xi mi w1 0 t f := by
  pointwise [k0_pay29, k0_pay22, k0_pay23, k0_pay26, k0_pay27]
  rfl

/-- Those of the second expert. -/
theorem hid1_apply (t : Fin 256) (f : Fin 2048) : hid1 xi mi w1 (ix2 t f) = hidE xi mi w1 1 t f := by
  pointwise [hid1, k0_pay32, k0_pay31, k0_pay26, k0_pay27]
  rfl

/-- Those of the third. -/
theorem hid2_apply (t : Fin 256) (f : Fin 2048) :
    k0_pay36 (F := Ideal) mi (k0_pay26 xi) (k0_pay27 xi) (w1 2 0) (w1 2 1) (ix2 t f) = hidE xi mi w1 2 t f := by
  pointwise [k0_pay36, k0_pay26, k0_pay27]
  rfl

/-- Those of the fourth. -/
theorem hid3_apply (t : Fin 256) (f : Fin 2048) : hid3 xi mi w1 (ix2 t f) = hidE xi mi w1 3 t f := by
  pointwise [hid3, k0_pay39, k0_pay38, k0_pay26, k0_pay27]
  rfl

/-- The running sum after the first expert, at one element. -/
theorem acc0_apply (t : Fin 256) (d : Fin 1024) :
    acc0 xi mi w1 w2 (ix2 t d) = stepE w2 (hidE xi mi w1 0 t) 0 d := by
  have e := hid0_apply xi mi w1 t
  unfold acc0
  generalize k0_pay29 (F := Ideal) (k0_pay22 (w1 0 0)) (k0_pay23 (w1 0 1)) xi mi = h at e ⊢
  pointwise [k0_pay30, k0_pay24, k0_pay25, k0_pay28]
  simp only [e, stepE]

/-- The running sum after the second. -/
theorem acc1_apply (t : Fin 256) (d : Fin 1024) :
    acc1 xi mi w1 w2 (ix2 t d) = acc0 xi mi w1 w2 (ix2 t d) + stepE w2 (hidE xi mi w1 1 t) 1 d := by
  have e := hid1_apply xi mi w1 t
  unfold acc1
  generalize acc0 xi mi w1 w2 = a
  generalize hid1 xi mi w1 = h at e ⊢
  pointwise [k0_pay35, k0_pay33, k0_pay34]
  simp only [e, stepE, add_assoc]

/-- The running sum after the third. -/
theorem acc2_apply (t : Fin 256) (d : Fin 1024) :
    acc2 xi mi w1 w2 (ix2 t d) = acc1 xi mi w1 w2 (ix2 t d) + stepE w2 (hidE xi mi w1 2 t) 2 d := by
  have e := hid2_apply xi mi w1 t
  unfold acc2
  generalize acc1 xi mi w1 w2 = a
  generalize k0_pay36 (F := Ideal) mi (k0_pay26 xi) (k0_pay27 xi) (w1 2 0) (w1 2 1) = h at e ⊢
  pointwise [k0_pay37]
  simp only [e, stepE, add_assoc]

/-- The sum of the four experts, at one element. -/
theorem sumF_apply (t : Fin 256) (d : Fin 1024) :
    sumF xi mi w1 w2 (ix2 t d) = acc2 xi mi w1 w2 (ix2 t d) + stepE w2 (hidE xi mi w1 3 t) 3 d := by
  have e := hid3_apply xi mi w1 t
  unfold sumF
  generalize acc2 xi mi w1 w2 = a
  generalize hid3 xi mi w1 = h at e ⊢
  pointwise [k0_pay41, k0_pay40]
  simp only [e, stepE, add_assoc]

/-- Narrowing changes no extended real: the chunk sent home is the wide one. -/
theorem sumB_apply (t : Fin 256) (d : Fin 1024) : sumB xi mi w1 w2 (ix2 t d) = sumF xi mi w1 w2 (ix2 t d) := by
  unfold sumB sumF
  pointwise [k0_pay42, k0_pay41]

end

/-- A device's four experts on one of its tokens: the sum of the experts, each times the token's gate for it. -/
theorem experts_apply {xi : Vec Ideal S256x1024 .bf16} {mi : Vec Ideal S256x4 .f32}
    {w1 : Fin 4 → Fin 2 → Vec Ideal S1x512x2048 .f32} {w2 : Fin 4 → Fin 2 → Vec Ideal S1x1024x1024 .f32}
    {t : Fin 256} {x : Fin 1024 → EReal} {g : Fin 4 → EReal}
    {a : Fin 4 → Fin 1024 → Fin 2048 → EReal} {b : Fin 4 → Fin 2048 → Fin 1024 → EReal}
    (hx : ∀ k, xi (ix2 t k) = x k) (hg : ∀ e, mi (ix2 t e) = g e)
    (ha : ∀ e k f, w1 e 0 (ix3 0 k f) = a e ⟨k.val, by omega⟩ f ∧ w1 e 1 (ix3 0 k f) = a e ⟨512 + k.val, by omega⟩ f)
    (hb : ∀ e f d, w2 e 0 (ix3 0 f d) = b e ⟨f.val, by omega⟩ d ∧ w2 e 1 (ix3 0 f d) = b e ⟨1024 + f.val, by omega⟩ d)
    (h0 : ∀ e, 0 ≤ g e) (ht : ∀ e, g e ≠ ⊤) (d : Fin 1024) :
    sumF xi mi w1 w2 (ix2 t d) = ∑ e, expert x (a e) (b e) d * g e := by
  have hid : ∀ e f, hidE xi mi w1 e t f = max (∑ k, x k * a e k f) 0 * g e := by
    intro e f
    rw [← halves_1024 (fun k => x k * a e k f)]
    simp only [hidE, hx, hg, (ha e _ f).1, (ha e _ f).2]
  have step : ∀ e, stepE w2 (hidE xi mi w1 e t) e d = expert x (a e) (b e) d * g e := by
    intro e
    rw [← expert_weighted _ _ _ _ (h0 e) (ht e), ← halves_2048 (fun f => max (∑ k, x k * a e k f) 0 * g e * b e f d)]
    simp only [stepE, hid, (hb e _ d).1, (hb e _ d).2]
  rw [sumF_apply, acc2_apply, acc1_apply, acc0_apply, step, step, step, step]
  simp [Fin.sum_univ_succ, add_assoc]

end Cert.Value

end
-- ==== Proof.Value.Route.lean ====
/- Which two experts a token goes to, and with what weights, over the extended reals: the greatest gate, then the
   greatest of the rest, ties to the one that comes first in the order the gates are read in. -/
module

public import Idealize.ShloMosaic.Lib.Pointwise

@[expose] public section

noncomputable section

namespace Cert.Value

open Idealize.ShloMosaic

/-- `p` is the first of the greatest gates, `q` the first of the greatest among the others. -/
structure Best (g : Fin 8 → EReal) (p q : Fin 8) : Prop where
  ne : q ≠ p
  top : ∀ j, g j ≤ g p ∧ (g j = g p → p ≤ j)
  next : ∀ j, j ≠ p → g j ≤ g q ∧ (g j = g q → q ≤ j)

/-- A nonempty set of positions has a first greatest gate. -/
theorem exists_first (g : Fin 8 → EReal) (s : Finset (Fin 8)) (hs : s.Nonempty) :
    ∃ p ∈ s, ∀ j ∈ s, g j ≤ g p ∧ (g j = g p → p ≤ j) := by
  obtain ⟨a, ha, hmax⟩ := s.exists_max_image g hs
  obtain ⟨p, hp, hmin⟩ := (s.filter fun j => g j = g a).exists_min_image id ⟨a, by simp [ha]⟩
  rw [Finset.mem_filter] at hp
  refine ⟨p, hp.1, fun j hj => ⟨hp.2 ▸ hmax j hj, fun e => hmin j ?_⟩⟩
  exact Finset.mem_filter.mpr ⟨hj, e.trans hp.2⟩

/-- Every row of gates has its best two. -/
theorem exists_best (g : Fin 8 → EReal) : ∃ p q, Best g p q := by
  obtain ⟨p, -, hp⟩ := exists_first g Finset.univ ⟨0, Finset.mem_univ _⟩
  have hne : (Finset.univ.erase p).Nonempty := by
    rw [← Finset.card_pos, Finset.card_erase_of_mem (Finset.mem_univ p)]
    decide
  obtain ⟨q, hq, hq'⟩ := exists_first g (Finset.univ.erase p) hne
  exact ⟨p, q, (Finset.mem_erase.mp hq).1, fun j => hp j (Finset.mem_univ j),
    fun j hj => hq' j (Finset.mem_erase.mpr ⟨hj, Finset.mem_univ j⟩)⟩

/-- The running maximum from minus infinity is a value that is reached and not exceeded. -/
theorem fold_max_eq {n : Nat} (g : Fin n → EReal) (p : Fin n) (h : ∀ j, g j ≤ g p) :
    Finset.univ.fold max ⊥ g = g p := by
  apply le_antisymm
  · exact (Finset.fold_max_le (b := ⊥) (f := g) (s := Finset.univ) (g p)).mpr ⟨bot_le, fun j _ => h j⟩
  · exact (Finset.le_fold_max (b := ⊥) (f := g) (s := Finset.univ) (g p)).mpr (Or.inr ⟨p, Finset.mem_univ p, le_rfl⟩)

/-- The constant the running maximum starts from. -/
theorem start_eq : Ideal.ofBits FTy.f32 0xFF800000#32 = ⊥ := by simp [Ideal.ofBits, Ideal.ieee]

/-- The least position marked, as the minimum of the marked positions' words. -/
theorem fold_first_bool : ∀ (P : Fin 8 → Bool) (p : Fin 8), P p = true → (∀ j, P j = true → p ≤ j) →
    Finset.univ.fold IntOp.minsi 2147483647#32 (fun x => if P x = true then BitVec.ofNat 32 x.val else 8#32)
      = BitVec.ofNat 32 p.val := by
  decide +kernel

open Classical in
/-- The first position with a property, as the minimum of the words of the positions that have it. -/
theorem fold_first (P : Fin 8 → Prop) (p : Fin 8) (hp : P p) (hmin : ∀ j, P j → p ≤ j) :
    Finset.univ.fold IntOp.minsi 2147483647#32 (fun x => if P x then BitVec.ofNat 32 x.val else 8#32)
      = BitVec.ofNat 32 p.val := by
  have := fold_first_bool (fun x => decide (P x)) p (by simpa using hp) (fun j hj => hmin j (by simpa using hj))
  simpa using this

/-- The weight of the best expert. -/
def wgt0 (g : Fin 8 → EReal) (p q : Fin 8) : EReal := Ideal.div 1 (1 + Ideal.exp (g q - g p))
/-- The weight of the second best. -/
def wgt1 (g : Fin 8 → EReal) (p q : Fin 8) : EReal := Ideal.div (Ideal.exp (g q - g p)) (1 + Ideal.exp (g q - g p))

/-- Over one plus a positive real number, a nonnegative one gives a nonnegative real number. -/
theorem div_real {a e : ℝ} (ha : 0 ≤ a) (he : 0 ≤ e) :
    0 ≤ Ideal.div (a : EReal) (1 + (e : EReal)) ∧ Ideal.div (a : EReal) (1 + (e : EReal)) ≠ ⊤ := by
  have h1 : (1 : EReal) + (e : EReal) = ((1 + e : ℝ) : EReal) := by push_cast; rfl
  have h2 : ((1 + e : ℝ) : EReal) ≠ 0 := by
    have : (1 + e : ℝ) ≠ 0 := by positivity
    exact_mod_cast this
  have h3 : Ideal.div (a : EReal) ((1 + e : ℝ) : EReal) = ((a * (1 + e)⁻¹ : ℝ) : EReal) := by
    rw [Ideal.div, if_neg h2, ← EReal.coe_inv, ← EReal.coe_mul]
  rw [h1, h3]
  refine ⟨?_, EReal.coe_ne_top _⟩
  have : 0 ≤ a * (1 + e)⁻¹ := by positivity
  exact_mod_cast this

/-- With finite gates the exponential of their difference is a nonnegative real number. -/
theorem exp_real {g : Fin 8 → EReal} (hf : ∀ j, ∃ r : ℝ, g j = r) (p q : Fin 8) :
    ∃ e : ℝ, 0 ≤ e ∧ Ideal.exp (g q - g p) = e := by
  obtain ⟨a, ha⟩ := hf p
  obtain ⟨b, hb⟩ := hf q
  refine ⟨Real.exp (b - a), (Real.exp_pos _).le, ?_⟩
  rw [ha, hb, ← EReal.coe_sub]
  rfl

/-- With finite gates the first weight is nonnegative and not infinite. -/
theorem wgt0_real {g : Fin 8 → EReal} (hf : ∀ j, ∃ r : ℝ, g j = r) (p q : Fin 8) : 0 ≤ wgt0 g p q ∧ wgt0 g p q ≠ ⊤ := by
  obtain ⟨e, he, h⟩ := exp_real hf p q
  rw [wgt0, h]
  exact div_real (a := 1) zero_le_one he

/-- The second weight of finite gates is nonnegative and not infinite. -/
theorem wgt1_real {g : Fin 8 → EReal} (hf : ∀ j, ∃ r : ℝ, g j = r) (p q : Fin 8) : 0 ≤ wgt1 g p q ∧ wgt1 g p q ≠ ⊤ := by
  obtain ⟨e, he, h⟩ := exp_real hf p q
  rw [wgt1, h]
  exact div_real he he

/-- The gate of expert `j`: the best expert's weight, the second's, or nothing. -/
def gate (g : Fin 8 → EReal) (p q j : Fin 8) : EReal := (if p = j then wgt0 g p q else 0) + (if q = j then wgt1 g p q else 0)

/-- With finite gates every expert's gate is nonnegative and finite. -/
theorem gate_real {g : Fin 8 → EReal} (hf : ∀ j, ∃ r : ℝ, g j = r) (p q j : Fin 8) :
    0 ≤ gate g p q j ∧ gate g p q j ≠ ⊤ := by
  have h0 := wgt0_real hf p q
  have h1 := wgt1_real hf p q
  unfold gate
  split <;> split
  · exact ⟨add_nonneg h0.1 h1.1, EReal.add_ne_top h0.2 h1.2⟩
  · simpa using h0
  · simpa using h1
  · simp

end Cert.Value

end
-- ==== Proof.Value.Gates.lean ====
/- The kernel's routing, read row by row over the extended reals: the best two gates of a token, their weights, and the
   weights spread over the experts. -/
module

public import proofs.«01_k».proof.Proof.Ideal.Vals
public import proofs.«01_k».proof.Proof.Value.Route

@[expose] public section

noncomputable section

namespace Cert.Value

open Cert.KernelIdeal Cert.KernelIdeal.Gen
open Idealize.ShloMosaic
open Cert.KernelIdealRun

/-- The eight gates of token `t`: the own half's experts, then the other half's. -/
def row (a b : FVec Ideal S512x4 .f32) (t : Fin 512) (j : Fin 8) : EReal :=
  if h : j.val < 4 then a (ix2 t ⟨j.val, h⟩) else b (ix2 t ⟨j.val - 4, by omega⟩)

variable {a b : FVec Ideal S512x4 .f32} {t : Fin 512} {p q : Fin 8}

/-- The eight gates of a row: the own four, then the received four. -/
theorem gates_apply (j : Fin 8) : k0_pay6 a b (ix2 t j) = row a b t j := by
  pointwise [k0_pay6]
  rfl

/-- The first maximum is the greatest gate. -/
theorem max1_apply (h : Best (row a b t) p q) : k0_pay7 a b (ix2 t 0) = row a b t p := by
  have e := gates_apply (a := a) (b := b) (t := t)
  unfold k0_pay7
  generalize k0_pay6 a b = g at e ⊢
  pointwise []
  simp only [e, start_eq]
  exact fold_max_eq _ p fun j => (h.top j).1

/-- The first position is that of the greatest gate, first at its value. -/
theorem pos1_apply (h : Best (row a b t) p q) : k0_pay8 a b (ix2 t 0) = BitVec.ofNat 32 p.val := by
  have e := gates_apply (a := a) (b := b) (t := t)
  have e7 := max1_apply h
  unfold k0_pay8
  generalize k0_pay6 a b = g at e ⊢
  generalize k0_pay7 a b = m at e7 ⊢
  pointwise []
  simp only [e, e7]
  convert fold_first (fun j => row a b t j = row a b t p) p rfl fun j hj => (h.top j).2 hj

/-- The gates with the greatest taken out. -/
theorem masked_apply (h : Best (row a b t) p q) (j : Fin 8) :
    k0_pay9 a b (ix2 t j) = if j = p then ⊥ else row a b t j := by
  have e := gates_apply (a := a) (b := b) (t := t)
  have e8 := pos1_apply h
  unfold k0_pay9
  generalize k0_pay6 a b = g at e ⊢
  generalize k0_pay8 a b = m at e8 ⊢
  pointwise []
  rw [e, e8, start_eq]
  revert j
  have key : ∀ (j p : Fin 8), IntOp.cmpi CmpIPredicate.eq (BitVec.ofNat 32 j.val) (BitVec.ofNat 32 p.val) = if j = p then 1#1 else 0#1 := by
    decide
  intro j
  rw [key]
  by_cases hj : j = p
  · simp [hj, Scalar.select]
  · simp [hj, Scalar.select]

/-- Masking the best gate leaves the second as the greatest. -/
theorem masked_le (h : Best (row a b t) p q) (j : Fin 8) :
    (if j = p then ⊥ else row a b t j) ≤ if q = p then ⊥ else row a b t q := by
  rw [if_neg h.ne]
  split
  · exact bot_le
  · exact (h.next j ‹_›).1

/-- The second maximum is the greatest of the other gates. -/
theorem max2_apply (h : Best (row a b t) p q) : k0_pay10 a b (ix2 t 0) = row a b t q := by
  have e := masked_apply h
  unfold k0_pay10
  generalize k0_pay9 a b = g at e ⊢
  pointwise []
  simp only [e, start_eq]
  rw [fold_max_eq _ q (masked_le h), if_neg h.ne]

/-- The second position is that of the greatest of the others. -/
theorem pos2_apply (h : Best (row a b t) p q) (hq : row a b t q ≠ ⊥) :
    k0_pay11 a b (ix2 t 0) = BitVec.ofNat 32 q.val := by
  have e := masked_apply h
  have e10 := max2_apply h
  unfold k0_pay11
  generalize k0_pay9 a b = g at e ⊢
  generalize k0_pay10 a b = m at e10 ⊢
  pointwise []
  simp only [e, e10]
  convert fold_first (fun j => (if j = p then ⊥ else row a b t j) = row a b t q) q (if_neg h.ne) fun j hj => ?_
  by_cases hjp : j = p
  · rw [if_pos hjp] at hj; exact absurd hj.symm hq
  · rw [if_neg hjp] at hj; exact (h.next j hjp).2 hj

/-- The weight of the first choice. -/
theorem wgt0_apply (h : Best (row a b t) p q) : k0_pay13 a b (ix2 t 0) = wgt0 (row a b t) p q := by
  have e := max1_apply h
  have e' := max2_apply h
  unfold k0_pay13 k0_pay12
  generalize k0_pay7 a b = g at e ⊢
  generalize k0_pay10 a b = g' at e' ⊢
  pointwise []
  rw [e, e']
  rfl

/-- The weight of the second choice. -/
theorem wgt1_apply (h : Best (row a b t) p q) : k0_pay14 a b (ix2 t 0) = wgt1 (row a b t) p q := by
  have e := max1_apply h
  have e' := max2_apply h
  unfold k0_pay14 k0_pay12
  generalize k0_pay7 a b = g at e ⊢
  generalize k0_pay10 a b = g' at e' ⊢
  pointwise []
  rw [e, e']
  rfl

/-- A choice by whether two positions' words agree is a choice by the positions. -/
theorem select_lo (p : Fin 8) (j : Fin 4) (x : EReal) :
    Scalar.select (IntOp.cmpi CmpIPredicate.eq (BitVec.ofNat 32 p.val) (BitVec.ofNat 32 j.val)) x 0
      = if p = ⟨j.val, by omega⟩ then x else 0 := by
  have key : ∀ (p : Fin 8) (j : Fin 4), IntOp.cmpi CmpIPredicate.eq (BitVec.ofNat 32 p.val) (BitVec.ofNat 32 j.val)
      = if p = ⟨j.val, by omega⟩ then 1#1 else 0#1 := by decide
  rw [key]
  by_cases h : p = ⟨j.val, by omega⟩ <;> simp [h, Scalar.select]

/-- A position is compared with the received four shifted by four. -/
theorem select_hi (p : Fin 8) (j : Fin 4) (x : EReal) :
    Scalar.select (IntOp.cmpi CmpIPredicate.eq (BitVec.ofNat 32 p.val) (IntOp.addi (BitVec.ofNat 32 j.val) 4#32)) x 0
      = if p = ⟨4 + j.val, by omega⟩ then x else 0 := by
  have key : ∀ (p : Fin 8) (j : Fin 4),
      IntOp.cmpi CmpIPredicate.eq (BitVec.ofNat 32 p.val) (IntOp.addi (BitVec.ofNat 32 j.val) 4#32)
        = if p = ⟨4 + j.val, by omega⟩ then 1#1 else 0#1 := by decide
  rw [key]
  by_cases h : p = ⟨4 + j.val, by omega⟩ <;> simp [h, Scalar.select]

/-- The weights of a row for the device's own experts. -/
theorem own_apply (h : Best (row a b t) p q) (hq : row a b t q ≠ ⊥) (j : Fin 4) :
    k0_pay15 a b (ix2 t j) = gate (row a b t) p q ⟨j.val, by omega⟩ := by
  have e1 := pos1_apply h
  have e2 := pos2_apply h hq
  have e3 := wgt0_apply h
  have e4 := wgt1_apply h
  unfold k0_pay15
  generalize k0_pay8 a b = p' at e1 ⊢
  generalize k0_pay11 a b = q' at e2 ⊢
  generalize k0_pay13 a b = u at e3 ⊢
  generalize k0_pay14 a b = v at e4 ⊢
  pointwise []
  rw [e1, e2, e3, e4, select_lo, select_lo]
  rfl

/-- The row of the block that row `t` of a chunk is: from the start, or from the middle. -/
def ChunkRow (z : BitVec 32) (t : Fin 256) (r : Fin 512) : Prop :=
  (z = 0#32 ∧ r = ⟨t.val, by omega⟩) ∨ (z = 1#32 ∧ r = ⟨256 + t.val, by omega⟩)

variable {z : BitVec 32} {s : Fin 256}

/-- The gates a device keeps for its own experts. -/
theorem mcF_apply (hz : ChunkRow z s t) (h : Best (row a b t) p q) (hq : row a b t q ≠ ⊥) (j : Fin 4) :
    mcF z a b (ix2 s j) = gate (row a b t) p q ⟨j.val, by omega⟩ := by
  have e := own_apply h hq j
  unfold mcF
  generalize k0_pay15 a b = g at e ⊢
  pointwise [k0_pay20]
  rcases hz with ⟨rfl, rfl⟩ | ⟨rfl, rfl⟩
  · rw [← e]; rfl
  · rw [← e]; rfl

/-- The gates it sends to the device with the other experts. -/
theorem msF_apply (hz : ChunkRow z s t) (h : Best (row a b t) p q) (hq : row a b t q ≠ ⊥) (j : Fin 4) :
    msF z a b (ix2 s j) = gate (row a b t) p q ⟨4 + j.val, by omega⟩ := by
  have e1 := pos1_apply h
  have e2 := pos2_apply h hq
  have e3 := wgt0_apply h
  have e4 := wgt1_apply h
  unfold msF
  generalize k0_pay8 a b = p' at e1 ⊢
  generalize k0_pay11 a b = q' at e2 ⊢
  generalize k0_pay13 a b = u at e3 ⊢
  generalize k0_pay14 a b = v at e4 ⊢
  pointwise [k0_pay21, k0_pay16]
  rw [gate, ← select_hi, ← select_hi, ← e1, ← e2, ← e3, ← e4]
  rcases hz with ⟨rfl, rfl⟩ | ⟨rfl, rfl⟩
  · rfl
  · rfl

end Cert.Value

end
-- ==== Proof.Value.Reads.lean ====
/- What the kernel's buffers hold, element by element, of the launch's memory; and where an element of a device's block
   lies in the whole array. -/
module

public import proofs.«01_k».proof.Proof.Ideal.Whole
public import proofs.«01_k».proof.Defs
public import Idealize.ShloMosaic.Lib.Pointwise

@[expose] public section

noncomputable section

namespace Cert.Value

open Cert.KernelIdeal Cert.KernelIdeal.Gen
open Idealize.ShloMosaic
open Idealize.ShloMosaic.TcCoe
open Cert.KernelIdealRun

/-! ## A device's blocks -/

/-- The token of the whole array that row `r` of device `c`'s block is. -/
def tokenAt (c : Dev nD) (r : Fin 512) : Fin 1024 := ⟨512 * (c.val / 2 % 2) + r.val, by omega⟩

/-- The expert that device `c`'s expert `e` is. -/
def expertAt (c : Dev nD) (e : Fin 4) : Fin 8 := ⟨4 * (c.val / 2 % 2) + e.val, by omega⟩

/-- A device's coordinate along the mesh axis the arrays are cut by. -/
theorem coord_y : ∀ c : Dev nD, Layout.meshLin [2, 2, 2] c.val [1] = c.val / 2 % 2 := by decide

variable (c : Dev nD)

/-- An element of a device's block of tokens, in the whole array. -/
theorem block_rows (X : (⟨2, ![1024, 1024]⟩ : Shape).Idx → EReal) (r : Fin 512) (k : Fin 1024) :
    (Layout.blockN ⟨2, ![512, 1024]⟩ ⟨2, ![1024, 1024]⟩ (Layout.meshBlock [2, 2, 2] ![[1], []] c) X) (ix2 r k)
      = X (ix2 (tokenAt c r) k) := by
  refine congrArg X (funext fun a => Fin.ext ?_)
  revert a; show ∀ a : Fin 2, _; rw [Fin.forall_fin_two]
  constructor
  · show Layout.meshLin [2, 2, 2] c.val [1] * 512 + r.val = 512 * (c.val / 2 % 2) + r.val
    rw [coord_y]; omega
  · show 0 * 1024 + k.val = k.val; omega

/-- An element of a device's router columns, in the whole router. -/
theorem block_cols (X : (⟨2, ![1024, 8]⟩ : Shape).Idx → EReal) (k : Fin 1024) (e : Fin 4) :
    (Layout.blockN ⟨2, ![1024, 4]⟩ ⟨2, ![1024, 8]⟩ (Layout.meshBlock [2, 2, 2] ![[], [1]] c) X) (ix2 k e)
      = X (ix2 k (expertAt c e)) := by
  refine congrArg X (funext fun a => Fin.ext ?_)
  revert a; show ∀ a : Fin 2, _; rw [Fin.forall_fin_two]
  constructor
  · show 0 * 1024 + k.val = k.val; omega
  · show Layout.meshLin [2, 2, 2] c.val [1] * 4 + e.val = 4 * (c.val / 2 % 2) + e.val
    rw [coord_y]; omega

/-- An element of a device's first weights, in the whole array. -/
theorem block_w1 (X : (⟨3, ![8, 1024, 2048]⟩ : Shape).Idx → EReal) (e : Fin 4) (k : Fin 1024) (f : Fin 2048) :
    (Layout.blockN ⟨3, ![4, 1024, 2048]⟩ ⟨3, ![8, 1024, 2048]⟩ (Layout.meshBlock [2, 2, 2] ![[1], [], []] c) X) (ix3 e k f)
      = X (ix3 (expertAt c e) k f) := by
  refine congrArg X (funext fun a => Fin.ext ?_)
  revert a; show ∀ a : Fin 3, _; rw [Fin.forall_fin_succ, Fin.forall_fin_two]
  refine ⟨?_, ?_, ?_⟩
  · show Layout.meshLin [2, 2, 2] c.val [1] * 4 + e.val = 4 * (c.val / 2 % 2) + e.val
    rw [coord_y]; omega
  · show 0 * 1024 + k.val = k.val; omega
  · show 0 * 2048 + f.val = f.val; omega

/-- An element of a device's second weights, in the whole array. -/
theorem block_w2 (X : (⟨3, ![8, 2048, 1024]⟩ : Shape).Idx → EReal) (e : Fin 4) (f : Fin 2048) (d : Fin 1024) :
    (Layout.blockN ⟨3, ![4, 2048, 1024]⟩ ⟨3, ![8, 2048, 1024]⟩ (Layout.meshBlock [2, 2, 2] ![[1], [], []] c) X) (ix3 e f d)
      = X (ix3 (expertAt c e) f d) := by
  refine congrArg X (funext fun a => Fin.ext ?_)
  revert a; show ∀ a : Fin 3, _; rw [Fin.forall_fin_succ, Fin.forall_fin_two]
  refine ⟨?_, ?_, ?_⟩
  · show Layout.meshLin [2, 2, 2] c.val [1] * 4 + e.val = 4 * (c.val / 2 % 2) + e.val
    rw [coord_y]; omega
  · show 0 * 2048 + f.val = f.val; omega
  · show 0 * 1024 + d.val = d.val; omega

/-! ## The kernel's reads -/

variable (m : (ℓ : Loc nD τ sig) → Buf (Elt Ideal) ℓ)

/-- The staged tokens are the argument's. -/
theorem xV_apply (r : Fin 512) (k : Fin 1024) : xV m c (ix2 r k) = m ((c : Thread nD τ).loc main_arg0) (ix2 r k) := by
  refine congrArg (m ((c : Thread nD τ).loc main_arg0)) (funext fun a => Fin.ext ?_)
  revert a; show ∀ a : Fin 2, _; rw [Fin.forall_fin_two]
  constructor
  · show 0 * 512 + 1 * r.val = r.val; omega
  · show 0 * 1024 + 1 * k.val = k.val; omega

/-- The staged router is the argument's. -/
theorem rV_apply (k : Fin 1024) (e : Fin 4) : rV m c (ix2 k e) = m ((c : Thread nD τ).loc main_arg1) (ix2 k e) := by
  refine congrArg (m ((c : Thread nD τ).loc main_arg1)) (funext fun a => Fin.ext ?_)
  revert a; show ∀ a : Fin 2, _; rw [Fin.forall_fin_two]
  constructor
  · show 0 * 1024 + 1 * k.val = k.val; omega
  · show 0 * 4 + 1 * e.val = e.val; omega

/-- Half `h` of an expert's first weights, as loaded. -/
theorem w1b_apply (e : Fin 4) (h : Fin 2) (k : Fin 512) (f : Fin 2048) :
    w1b m c e h (ix3 0 k f) = m ((c : Thread nD τ).loc main_arg2) (ix3 e ⟨512 * h.val + k.val, by omega⟩ f) := by
  refine congrArg (m ((c : Thread nD τ).loc main_arg2)) (funext fun a => Fin.ext ?_)
  revert a; show ∀ a : Fin 3, _; rw [Fin.forall_fin_succ, Fin.forall_fin_two]
  refine ⟨?_, ?_, ?_⟩
  · show e.val + 1 * 0 = e.val; omega
  · show 512 * h.val + 1 * k.val = 512 * h.val + k.val; omega
  · show 0 + 1 * f.val = f.val; omega

/-- Half `h` of an expert's second weights, as loaded. -/
theorem w2b_apply (e : Fin 4) (h : Fin 2) (f : Fin 1024) (d : Fin 1024) :
    w2b m c e h (ix3 0 f d) = m ((c : Thread nD τ).loc main_arg3) (ix3 e ⟨1024 * h.val + f.val, by omega⟩ d) := by
  refine congrArg (m ((c : Thread nD τ).loc main_arg3)) (funext fun a => Fin.ext ?_)
  revert a; show ∀ a : Fin 3, _; rw [Fin.forall_fin_succ, Fin.forall_fin_two]
  refine ⟨?_, ?_, ?_⟩
  · show e.val + 1 * 0 = e.val; omega
  · show 1024 * h.val + 1 * f.val = 1024 * h.val + f.val; omega
  · show 0 + 1 * d.val = d.val; omega

/-- Row `s` of the chunk device `c` computes, and of the other chunk, as rows of its block. -/
def ownRow (s : Fin 256) : Fin 512 := ⟨256 * (c.val % 2) + s.val, by omega⟩
/-- The row of the block that row `s` of the other chunk is. -/
def othRow (s : Fin 256) : Fin 512 := ⟨256 - 256 * (c.val % 2) + s.val, by omega⟩

/-- The view of the device's own chunk, at an index. -/
theorem ownR_idx (s : Fin 256) (k : Fin 1024) : (oM.access (ownR c)).emb (ix2 s k) = ix2 (ownRow c s) k := by
  refine funext fun a => Fin.ext ?_
  revert a; show ∀ a : Fin 2, _; rw [Fin.forall_fin_two]
  constructor
  · show 256 * (c.val % 2) + 1 * s.val = 256 * (c.val % 2) + s.val; omega
  · show 0 + 1 * k.val = k.val; omega

/-- The view of the other chunk, at an index. -/
theorem othR_idx (s : Fin 256) (k : Fin 1024) : (oM.access (othR c)).emb (ix2 s k) = ix2 (othRow c s) k := by
  refine funext fun a => Fin.ext ?_
  revert a; show ∀ a : Fin 2, _; rw [Fin.forall_fin_two]
  constructor
  · show 256 - 256 * (c.val % 2) + 1 * s.val = 256 - 256 * (c.val % 2) + s.val; omega
  · show 0 + 1 * k.val = k.val; omega

/-- The chunk a device works on holds its own rows of the tokens. -/
theorem xcV_apply (s : Fin 256) (k : Fin 1024) :
    xcV m c (ix2 s k) = m ((c : Thread nD τ).loc main_arg0) (ix2 (ownRow c s) k) := by
  rw [← xV_apply c m]
  unfold xcV
  generalize xV m c = x
  pointwise [k0_pay3]
  exact congrArg x (ownR_idx c s k)

/-- The result block read in the chunk the device computes, -/
theorem outF_own (base : Vec Ideal S512x1024 .f32) (a b : FVec Ideal S256x1024 .f32) (s : Fin 256) (d : Fin 1024) :
    outF c base a b (ix2 (ownRow c s) d) = a (ix2 s d) := by
  have h : (ix2 (ownRow c s) d : S512x1024.Idx) ∉ (oM.access (othR c)).setOn Finset.univ := by
    intro h
    obtain ⟨i, -, hi⟩ := Finset.mem_map.mp h
    have h0 : (i 0).val < 256 := (i 0).2
    have := congrArg (fun j : S512x1024.Idx => (j 0).val) hi
    change 256 - 256 * (c.val % 2) + 1 * (i 0).val = 256 * (c.val % 2) + s.val at this
    omega
  unfold outF
  rw [View.write_of_not_mem _ _ _ h, ← ownR_idx]
  exact View.write_emb_of_mem _ _ (Finset.mem_univ _)

/-- and in the other. -/
theorem outF_oth (base : Vec Ideal S512x1024 .f32) (a b : FVec Ideal S256x1024 .f32) (s : Fin 256) (d : Fin 1024) :
    outF c base a b (ix2 (othRow c s) d) = b (ix2 s d) := by
  unfold outF
  rw [← othR_idx]
  exact View.write_emb_of_mem _ _ (Finset.mem_univ _)

end Cert.Value

end
-- ==== Proof.Value.Order.lean ====
/- The order the reference sorts a token's experts in, and the first two experts of that order. -/
module

public import proofs.«01_k».proof.ReferenceIdeal
public import proofs.«01_k».proof.Proof.Value.Route
public import Idealize.ShloMosaic.Lib.SortPrefix

@[expose] public section

noncomputable section

namespace Cert.Value

open Cert.ReferenceIdeal
open Idealize.ShloMosaic

/-- The expert in position `j` of the order a token's half reads its gates in (`y`: the second half, whose own experts
    are the last four); also the position of expert `j`. -/
def pos (y : Bool) (j : Fin 8) : Fin 8 := bif y then j + 4 else j

/-- Swapping the halves twice changes nothing. -/
theorem pos_pos : ∀ (y : Bool) (j : Fin 8), pos y (pos y j) = j := by decide

/-- Swapping the halves is injective. -/
theorem pos_inj (y : Bool) : Function.Injective (pos y) := fun a b h => by rw [← pos_pos y a, h, pos_pos]

/-- The key of an expert that is not of the token's half. -/
def away (y : Bool) (j : Fin 8) : BitVec 32 := if (decide (j.val < 4)) = !y then 0#32 else 1#32

/-- The two integer keys order the experts as their positions. -/
theorem keys_order : ∀ (y : Bool) (k k' : Fin 8),
    IntOp.ori (IntOp.cmpi .slt (away y k) (away y k'))
        (IntOp.andi (IntOp.cmpi .eq (away y k) (away y k')) (IntOp.cmpi .slt (BitVec.ofNat 32 k.val) (BitVec.ofNat 32 k'.val)))
      = if pos y k < pos y k' then 1#1 else 0#1 := by
  decide +kernel

/-- Expert `k` sorts before expert `k'`: by the first key, and where that is equal by position. -/
def before (y : Bool) (n : Fin 8 → EReal) (k k' : Fin 8) : Bool :=
  comparator_f32_i32_i32_d1 (F := Ideal) (n k, away y k, BitVec.ofNat 32 k.val) (n k', away y k', BitVec.ofNat 32 k'.val)
    == 1#1

/-- The order of the sort: by the negated gate, then own half first, then by number. -/
theorem before_iff (y : Bool) (n : Fin 8 → EReal) (k k' : Fin 8) :
    before y n k k' = true ↔ n k < n k' ∨ (n k = n k' ∧ pos y k < pos y k') := by
  have canon : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := by
    intro x
    have z : Ideal.ofBits .f32 0x00000000#32 = 0 := by simp [Ideal.ofBits, Ideal.ieee]
    rw [z]
    by_cases h : x = 0
    · simp [Ideal.cmp, Scalar.select, h]
    · simp [Ideal.cmp, Scalar.select, h]
  have e : comparator_f32_i32_i32_d1 (F := Ideal) (n k, away y k, BitVec.ofNat 32 k.val)
      (n k', away y k', BitVec.ofNat 32 k'.val)
      = IntOp.ori (Ideal.cmp .olt (n k) (n k')) (IntOp.andi (Ideal.cmp .oeq (n k) (n k')) (if pos y k < pos y k' then 1#1 else 0#1)) := by
    rw [← keys_order]
    conv_rhs => rw [← canon (n k), ← canon (n k')]
    rfl
  rw [before, e]
  by_cases h1 : n k < n k' <;> by_cases h2 : n k = n k' <;> by_cases h3 : pos y k < pos y k' <;>
    simp [Ideal.cmp, h1, h2, h3, IntOp.ori, IntOp.andi]

/-- The order is strict and total. -/
theorem before_total (y : Bool) (n : Fin 8 → EReal) : StrictTotalBefore (before y n) where
  irrefl k := by
    rw [← Bool.not_eq_true, before_iff]
    simp
  trans a b c hab hbc := by
    rw [before_iff] at hab hbc ⊢
    rcases hab with h | ⟨e, h⟩ <;> rcases hbc with h' | ⟨e', h'⟩
    · exact Or.inl (h.trans h')
    · exact Or.inl (e' ▸ h)
    · exact Or.inl (e ▸ h')
    · exact Or.inr ⟨e.trans e', h.trans h'⟩
  total a b hne := by
    rw [before_iff, before_iff]
    rcases lt_trichotomy (n a) (n b) with h | h | h
    · exact Or.inl (Or.inl h)
    · rcases lt_or_gt_of_ne fun e => hne (pos_inj y e) with h' | h'
      · exact Or.inl (Or.inr ⟨h, h'⟩)
      · exact Or.inr (Or.inr ⟨h.symm, h'⟩)
    · exact Or.inr (Or.inl h)

/-- With the negated gates as first key, the sort puts the best two experts first. -/
theorem sorted_best {y : Bool} {g : Fin 8 → EReal} {p q : Fin 8} (h : Best (fun j => g (pos y j)) p q) :
    sortedFrom (before y fun k => -g k) 0 = pos y p ∧ sortedFrom (before y fun k => -g k) 1 = pos y q := by
  have hp : ∀ k, before y (fun k => -g k) k (pos y p) = false := by
    intro k
    rw [← Bool.not_eq_true, before_iff, pos_pos, EReal.neg_lt_neg_iff, neg_inj]
    have := h.top (pos y k)
    simp only [pos_pos] at this
    rintro (h' | ⟨e, h'⟩)
    · exact absurd this.1 (not_le.mpr h')
    · exact absurd (this.2 e) (not_le.mpr h')
  have hq : ∀ k, k ≠ pos y p → before y (fun k => -g k) k (pos y q) = false := by
    intro k hk
    rw [← Bool.not_eq_true, before_iff, pos_pos, EReal.neg_lt_neg_iff, neg_inj]
    have := h.next (pos y k) fun e => hk (by rw [← e, pos_pos])
    simp only [pos_pos] at this
    rintro (h' | ⟨e, h'⟩)
    · exact absurd this.1 (not_le.mpr h')
    · exact absurd (this.2 e) (not_le.mpr h')
  have hne : pos y q ≠ pos y p := fun e => h.ne (pos_inj y e)
  have key := (before_total y fun k => -g k).sortedFrom_eq_of_prefix (k := 2) (by decide) ![pos y p, pos y q]
    (by
      intro i j hij
      fin_cases i <;> fin_cases j <;> simp_all)
    (by
      intro i j hij
      fin_cases i <;> fin_cases j <;> simp_all)
    (by
      intro i k hk
      fin_cases i
      · exact hp k
      · exact hq k (hk 0).symm)
  exact ⟨key 0, key 1⟩

end Cert.Value

end
-- ==== Proof.Value.Reference.lean ====
/- The reference's result, element by element over the extended reals: a token's best two experts, each times its
   weight. -/
module

public import proofs.«01_k».proof.Proof.Gen.ReferenceIdeal.Run
public import proofs.«01_k».proof.Proof.Value.Order
public import proofs.«01_k».proof.Proof.Value.Sums

@[expose] public section

noncomputable section

namespace Cert.Value

open Cert.ReferenceIdeal Cert.ReferenceIdeal.Gen Cert.ReferenceIdeal.Value
open Idealize.ShloMosaic Idealize.SL Idealize.SL.Sem
open Idealize.ShloMosaic.TcCoe
open scoped BigOperators

variable (V0 : Valuation τ sig (Elt Ideal))

/-- The tokens. -/
def rX (t k : Fin 1024) : EReal := V0 (Proc.devRef .tc main_arg0) (ix2 t k)
/-- The router. -/
def rR (k : Fin 1024) (e : Fin 8) : EReal := V0 (Proc.devRef .tc main_arg1) (ix2 k e)
/-- The experts' first weights. -/
def rW1 (e : Fin 8) (k : Fin 1024) (f : Fin 2048) : EReal := V0 (Proc.devRef .tc main_arg2) (ix3 e k f)
/-- The experts' second weights. -/
def rW2 (e : Fin 8) (f : Fin 2048) (d : Fin 1024) : EReal := V0 (Proc.devRef .tc main_arg3) (ix3 e f d)

/-- The gates of a token. -/
def rG (t : Fin 1024) (e : Fin 8) : EReal := ∑ k, rX V0 t k * rR V0 k e

/-- Whether a token is of the second half. -/
def half (t : Fin 1024) : Bool := decide (512 ≤ t.val)

/-- The second sort key: whether an expert is of the other half. -/
theorem away_apply (t : Fin 1024) (j : Fin 8) : res_main_v8 (F := Ideal) V0 (ix2 t j) = away (half t) j := by
  pointwise [res_main_v8, res_main_v2]
  have h1 : ∀ t : Fin 1024, IntOp.cmpi CmpIPredicate.slt (BitVec.ofNat 32 t.val) 512#32 = BitVec.ofBool (!half t) := by
    decide +kernel
  have h2 : ∀ (j : Fin 8) (y : Bool), BitVec.setWidth 32
      (IntOp.cmpi CmpIPredicate.ne (IntOp.cmpi CmpIPredicate.slt (BitVec.ofNat 32 j.val) 4#32) (BitVec.ofBool (!y)))
        = away y j := by
    decide +kernel
  rw [h1, h2]

/-- The third sort key: the expert's number. -/
theorem expert_id_apply (t : Fin 1024) (j : Fin 8) : res_main_v2 (F := Ideal) V0 (ix2 t j) = BitVec.ofNat 32 j.val := by
  pointwise [res_main_v2]

/-- The first sort key: the negated gate. -/
theorem neg_gate_apply (t : Fin 1024) (j : Fin 8) : res_main_v9 (F := Ideal) V0 (ix2 t j) = -rG V0 t j := by
  pointwise [res_main_v9]
  rfl

/-- The sort of three arrays of 8 columns along the columns, at one element. -/
theorem sort3_apply {α β γ : Type} (cmp : α × β × γ → α × β × γ → BitVec 1) (x : S1024x8.Idx → α) (y : S1024x8.Idx → β)
    (z : S1024x8.Idx → γ) (t : Fin 1024) (i : Fin 8) :
    (Host.sort3 S1024x8 1 cmp x y z).1 (ix2 t i)
        = x (ix2 t (sortedFrom (fun k k' : Fin 8 =>
            cmp (x (ix2 t k), y (ix2 t k), z (ix2 t k)) (x (ix2 t k'), y (ix2 t k'), z (ix2 t k')) == 1#1) i))
      ∧ (Host.sort3 S1024x8 1 cmp x y z).2.2 (ix2 t i)
        = z (ix2 t (sortedFrom (fun k k' : Fin 8 =>
            cmp (x (ix2 t k), y (ix2 t k), z (ix2 t k)) (x (ix2 t k'), y (ix2 t k'), z (ix2 t k')) == 1#1) i)) := by
  have hd : 1 < S1024x8.rank := by decide
  have e : ∀ k : Fin (S1024x8.size ⟨1, hd⟩),
      Shape.Idx.along (s := S1024x8) (ix2 t i) ⟨1, hd⟩ k = ix2 t (show Fin 8 from k) := by
    intro k
    funext a
    fin_cases a <;> rfl
  simp only [Host.sort3, dif_pos hd]
  constructor
  · refine (congrArg x (e _)).trans ?_
    simp only [e]
    rfl
  · refine (congrArg z (e _)).trans ?_
    simp only [e]
    rfl

variable {V0} {t : Fin 1024} {p q : Fin 8}

/-- The experts a token is given: its best two. -/
theorem experts_of (h : Best (fun j => rG V0 t (pos (half t) j)) p q) :
    res_main_v11 (F := Ideal) V0 (ix2 t 0) = BitVec.ofNat 32 (pos (half t) p).val
      ∧ res_main_v11 (F := Ideal) V0 (ix2 t 1) = BitVec.ofNat 32 (pos (half t) q).val := by
  have s := sorted_best h
  unfold res_main_v11
  constructor
  · pointwise []
    refine (sort3_apply _ _ _ _ t 0).2.trans ?_
    simp only [away_apply, expert_id_apply, neg_gate_apply]
    exact congrArg (fun k : Fin 8 => BitVec.ofNat 32 k.val) s.1
  · pointwise []
    refine (sort3_apply _ _ _ _ t 1).2.trans ?_
    simp only [away_apply, expert_id_apply, neg_gate_apply]
    exact congrArg (fun k : Fin 8 => BitVec.ofNat 32 k.val) s.2

/-- Their gates. -/
theorem vals_of (h : Best (fun j => rG V0 t (pos (half t) j)) p q) :
    res_main_v13 (F := Ideal) V0 (ix2 t 0) = rG V0 t (pos (half t) p)
      ∧ res_main_v13 (F := Ideal) V0 (ix2 t 1) = rG V0 t (pos (half t) q) := by
  have s := sorted_best h
  unfold res_main_v13
  constructor
  · pointwise []
    rw [← neg_neg (rG V0 t (pos (half t) p))]
    refine congrArg (fun v : EReal => -v) ((sort3_apply _ _ _ _ t 0).1.trans ?_)
    simp only [away_apply, expert_id_apply, neg_gate_apply]
    exact congrArg (fun k : Fin 8 => -rG V0 t k) s.1
  · pointwise []
    rw [← neg_neg (rG V0 t (pos (half t) q))]
    refine congrArg (fun v : EReal => -v) ((sort3_apply _ _ _ _ t 1).1.trans ?_)
    simp only [away_apply, expert_id_apply, neg_gate_apply]
    exact congrArg (fun k : Fin 8 => -rG V0 t k) s.2

/-- The greater of a row's two values, as the reference takes it. -/
theorem row_max (a : FVec Ideal S1024x2 .f32) (t : Fin 1024) (h : a (ix2 t 1) ≤ a (ix2 t 0)) :
    Host.reduce FloatOps.maximumf a (constant S_ .f32 0xFF800000#32) reducesTo_S1024x2_S1024_d1 h_S_ (ix1 t)
      = a (ix2 t 0) := by
  pointwise []
  rw [start_eq]
  refine fold_max_eq (fun x => a (ix2 t x)) 0 fun j => ?_
  fin_cases j
  · exact le_rfl
  · exact h

/-- The exponentials: one for the best, that of the difference for the second. -/
theorem exps_of (h : Best (fun j => rG V0 t (pos (half t) j)) p q) (hf : ∀ e, ∃ r : ℝ, rG V0 t e = r) :
    res_main_v18 (F := Ideal) V0 (ix2 t 0) = (1 : EReal)
      ∧ res_main_v18 (F := Ideal) V0 (ix2 t 1)
        = Ideal.exp (rG V0 t (pos (half t) q) - rG V0 t (pos (half t) p)) := by
  obtain ⟨e0, e1⟩ := vals_of h
  have hle : rG V0 t (pos (half t) q) ≤ rG V0 t (pos (half t) p) := (h.top q).1
  obtain ⟨r, hr⟩ := hf (pos (half t) p)
  have hone : Ideal.exp (rG V0 t (pos (half t) p) - rG V0 t (pos (half t) p)) = 1 := by
    rw [hr, ← EReal.coe_sub, sub_self]
    show ((Real.exp 0 : ℝ) : EReal) = 1
    rw [Real.exp_zero]; rfl
  unfold res_main_v18
  obtain ⟨a, ha⟩ : ∃ a : FVec Ideal S1024x2 .f32, res_main_v13 V0 = a := ⟨_, rfl⟩
  rw [ha] at e0 e1 ⊢
  have hm := row_max a t (by rw [e0, e1]; exact hle)
  generalize Host.reduce FloatOps.maximumf a (constant S_ .f32 0xFF800000#32) reducesTo_S1024x2_S1024_d1 h_S_ = b at hm ⊢
  constructor
  · pointwise []
    rw [hm, e0]
    exact hone
  · pointwise []
    rw [hm, e0, e1]

/-- The two weights. -/
theorem weights_of (h : Best (fun j => rG V0 t (pos (half t) j)) p q) (hf : ∀ e, ∃ r : ℝ, rG V0 t e = r) :
    res_main_v22 (F := Ideal) V0 (ix2 t 0) = wgt0 (fun j => rG V0 t (pos (half t) j)) p q
      ∧ res_main_v22 (F := Ideal) V0 (ix2 t 1) = wgt1 (fun j => rG V0 t (pos (half t) j)) p q := by
  obtain ⟨e0, e1⟩ := exps_of h hf
  unfold res_main_v22
  generalize res_main_v18 V0 = a at e0 e1 ⊢
  constructor
  · pointwise []
    rw [Fin.sum_univ_two, e0, e1]
    rfl
  · pointwise []
    rw [Fin.sum_univ_two, e0, e1]
    rfl

variable (V0 t)

/-- The experts' products. -/
theorem products (d : Fin 1024) :
    res_main_v30 (F := Ideal) V0 (ix2 t d) = expert (rX V0 t) (rW1 V0 0) (rW2 V0 0) d
      ∧ res_main_v38 (F := Ideal) V0 (ix2 t d) = expert (rX V0 t) (rW1 V0 1) (rW2 V0 1) d
      ∧ res_main_v46 (F := Ideal) V0 (ix2 t d) = expert (rX V0 t) (rW1 V0 2) (rW2 V0 2) d
      ∧ res_main_v54 (F := Ideal) V0 (ix2 t d) = expert (rX V0 t) (rW1 V0 3) (rW2 V0 3) d
      ∧ res_main_v62 (F := Ideal) V0 (ix2 t d) = expert (rX V0 t) (rW1 V0 4) (rW2 V0 4) d
      ∧ res_main_v70 (F := Ideal) V0 (ix2 t d) = expert (rX V0 t) (rW1 V0 5) (rW2 V0 5) d
      ∧ res_main_v78 (F := Ideal) V0 (ix2 t d) = expert (rX V0 t) (rW1 V0 6) (rW2 V0 6) d
      ∧ res_main_v86 (F := Ideal) V0 (ix2 t d) = expert (rX V0 t) (rW1 V0 7) (rW2 V0 7) d := by
  refine ⟨?_, ?_, ?_, ?_, ?_, ?_, ?_, ?_⟩
  · pointwise [res_main_v30]; rfl
  · pointwise [res_main_v38]; rfl
  · pointwise [res_main_v46]; rfl
  · pointwise [res_main_v54]; rfl
  · pointwise [res_main_v62]; rfl
  · pointwise [res_main_v70]; rfl
  · pointwise [res_main_v78]; rfl
  · pointwise [res_main_v86]; rfl

/-- One of eight terms is taken, by the expert's number; the others are nothing. -/
theorem pick (P : Fin 8) (y : Fin 8 → EReal) (w c : EReal) :
    c + Scalar.select (IntOp.cmpi .eq (BitVec.ofNat 32 P.val) 0#32) (y 0 * w) 0
        + Scalar.select (IntOp.cmpi .eq (BitVec.ofNat 32 P.val) 1#32) (y 1 * w) 0
        + Scalar.select (IntOp.cmpi .eq (BitVec.ofNat 32 P.val) 2#32) (y 2 * w) 0
        + Scalar.select (IntOp.cmpi .eq (BitVec.ofNat 32 P.val) 3#32) (y 3 * w) 0
        + Scalar.select (IntOp.cmpi .eq (BitVec.ofNat 32 P.val) 4#32) (y 4 * w) 0
        + Scalar.select (IntOp.cmpi .eq (BitVec.ofNat 32 P.val) 5#32) (y 5 * w) 0
        + Scalar.select (IntOp.cmpi .eq (BitVec.ofNat 32 P.val) 6#32) (y 6 * w) 0
        + Scalar.select (IntOp.cmpi .eq (BitVec.ofNat 32 P.val) 7#32) (y 7 * w) 0
      = c + y P * w := by
  fin_cases P <;> simp [Scalar.select, IntOp.cmpi]

variable {V0 t}

/-- A token's result: its best two experts, weighted. -/
theorem result_apply (h : Best (fun j => rG V0 t (pos (half t) j)) p q) (hf : ∀ e, ∃ r : ℝ, rG V0 t e = r)
    (d : Fin 1024) :
    res_main_v215 (F := Ideal) V0 (ix2 t d)
      = expert (rX V0 t) (rW1 V0 (pos (half t) p)) (rW2 V0 (pos (half t) p)) d * wgt0 (fun j => rG V0 t (pos (half t) j)) p q
        + expert (rX V0 t) (rW1 V0 (pos (half t) q)) (rW2 V0 (pos (half t) q)) d
          * wgt1 (fun j => rG V0 t (pos (half t) j)) p q := by
  obtain ⟨i0, i1⟩ := experts_of h
  obtain ⟨w0, w1⟩ := weights_of h hf
  obtain ⟨y0, y1, y2, y3, y4, y5, y6, y7⟩ := products V0 t d
  have first : res_main_v151 (F := Ideal) V0 (ix2 t d)
      = expert (rX V0 t) (rW1 V0 (pos (half t) p)) (rW2 V0 (pos (half t) p)) d
        * wgt0 (fun j => rG V0 t (pos (half t) j)) p q := by
    unfold res_main_v151
    simp only [id]
    pointwise []
    rw [i0, w0, y0, y1, y2, y3, y4, y5, y6, y7]
    have := pick (pos (half t) p) (fun e => expert (rX V0 t) (rW1 V0 e) (rW2 V0 e) d)
      (wgt0 (fun j => rG V0 t (pos (half t) j)) p q) 0
    simpa only [zero_add] using this
  unfold res_main_v215
  generalize res_main_v151 V0 = a at first ⊢
  simp only [id]
  pointwise []
  rw [i1, w1, first, y0, y1, y2, y3, y4, y5, y6, y7]
  exact pick (pos (half t) q) (fun e => expert (rX V0 t) (rW1 V0 e) (rW2 V0 e) d)
      (wgt1 (fun j => rG V0 t (pos (half t) j)) p q) _

end Cert.Value

end
-- ==== Proof.Value.Equation.lean ====
/- The value equation: every device's result block holds, element by element, the reference's rows of its tokens. -/
module

public import proofs.«01_k».proof.Proof.Value.Experts
public import proofs.«01_k».proof.Proof.Value.Gates
public import proofs.«01_k».proof.Proof.Value.Reads
public import proofs.«01_k».proof.Proof.Value.Reference

@[expose] public section

noncomputable section

namespace Cert.Value

open Cert.KernelIdeal Cert.KernelIdeal.Gen
open Idealize.ShloMosaic Idealize.SL Idealize.SL.Sem
open Idealize.ShloMosaic.TcCoe
open Cert.KernelIdealRun
open scoped BigOperators

/-- The devices' arguments are their blocks of the reference's. -/
structure Agree (m : (ℓ : Loc nD τ sig) → Buf (Elt Ideal) ℓ)
    (V0 : Valuation Cert.ReferenceIdeal.τ Cert.ReferenceIdeal.sig (Elt Ideal)) : Prop where
  x : ∀ (c : Dev nD) (r : Fin 512) (k : Fin 1024), m ((c : Thread nD τ).loc main_arg0) (ix2 r k) = rX V0 (tokenAt c r) k
  r : ∀ (c : Dev nD) (k : Fin 1024) (e : Fin 4), m ((c : Thread nD τ).loc main_arg1) (ix2 k e) = rR V0 k (expertAt c e)
  w1 : ∀ (c : Dev nD) (e : Fin 4) (k : Fin 1024) (f : Fin 2048),
    m ((c : Thread nD τ).loc main_arg2) (ix3 e k f) = rW1 V0 (expertAt c e) k f
  w2 : ∀ (c : Dev nD) (e : Fin 4) (f : Fin 2048) (d : Fin 1024),
    m ((c : Thread nD τ).loc main_arg3) (ix3 e f d) = rW2 V0 (expertAt c e) f d

/-! ## Devices, tokens and experts -/

/-- A device's tokens are of the second half exactly when its coordinate along the cut axis is one. -/
theorem half_tokenAt (c : Dev nD) (r : Fin 512) : half (tokenAt c r) = decide (c.val / 2 % 2 = 1) := by
  have hr := r.2
  unfold half tokenAt
  rw [decide_eq_decide]
  show 512 ≤ 512 * (c.val / 2 % 2) + r.val ↔ _
  omega

/-- A device's own experts, in the order own half first. -/
theorem expertAt_own : ∀ (c : Dev nD) (e : Fin 4), expertAt c e = pos (decide (c.val / 2 % 2 = 1)) ⟨e.val, by omega⟩ := by
  decide

/-- The experts of the device across the cut axis come after the device's own. -/
theorem expertAt_peer : ∀ (c : Dev nD) (e : Fin 4),
    expertAt (peer 0 c) e = pos (decide (c.val / 2 % 2 = 1)) ⟨4 + e.val, by omega⟩ := by
  decide

/-- The word a device compares its chunk's number by. -/
theorem zW_eq : ∀ c : Dev nD, (zW c = 0#32 ∧ c.val % 2 = 0) ∨ (zW c = 1#32 ∧ c.val % 2 = 1) := by decide

/-- The rows the kernel selects for a device are those of its chunk. -/
theorem chunkRow (c : Dev nD) (s : Fin 256) : ChunkRow (zW c) s (ownRow c s) := by
  rcases zW_eq c with ⟨h, h'⟩ | ⟨h, h'⟩
  · exact Or.inl ⟨h, Fin.ext (by show 256 * (c.val % 2) + s.val = s.val; omega)⟩
  · exact Or.inr ⟨h, Fin.ext (by show 256 * (c.val % 2) + s.val = 256 + s.val; omega)⟩

variable {m : (ℓ : Loc nD τ sig) → Buf (Elt Ideal) ℓ}
  {V0 : Valuation Cert.ReferenceIdeal.τ Cert.ReferenceIdeal.sig (Elt Ideal)}

/-- The gates a device reads for a row are the reference's, own half first. -/
theorem row_eq (A : Agree m V0) (c : Dev nD) (r : Fin 512) (j : Fin 8) :
    row (lgA m c) (lgB m c) r j = rG V0 (tokenAt c r) (pos (half (tokenAt c r)) j) := by
  have ha : ∀ e : Fin 4, lgA m c (ix2 r e) = rG V0 (tokenAt c r) (expertAt c e) := by
    intro e
    unfold lgA
    pointwise [k0_pay4]
    exact Finset.sum_congr rfl fun k _ => congrArg₂ (· * ·) ((xV_apply c m r k).trans (A.x c r k)) ((rV_apply c m k e).trans (A.r c k e))
  have hb : ∀ e : Fin 4, lgB m c (ix2 r e) = rG V0 (tokenAt c r) (expertAt (peer 0 c) e) := by
    intro e
    unfold lgB
    pointwise [k0_pay5]
    exact Finset.sum_congr rfl fun k _ =>
      congrArg₂ (· * ·) ((xV_apply c m r k).trans (A.x c r k)) ((rV_apply (peer 0 c) m k e).trans (A.r (peer 0 c) k e))
  rw [half_tokenAt]
  unfold row
  split
  · rw [ha, expertAt_own]
  · rename_i h
    rw [hb, expertAt_peer]
    exact congrArg (fun i => rG V0 (tokenAt c r) (pos (decide (c.val / 2 % 2 = 1)) i)) (Fin.ext (by show 4 + (j.val - 4) = j.val; omega))

/-- Four experts on device `c'`'s weights, for the chunk of device `c`. -/
theorem chunk_apply (A : Agree m V0) (c c' : Dev nD) (s : Fin 256) (mi : Vec Ideal S256x4 .f32) (g : Fin 4 → EReal)
    (hg : ∀ e, mi (ix2 s e) = g e) (hr : ∀ e, 0 ≤ g e ∧ g e ≠ ⊤) (d : Fin 1024) :
    sumF (xcV m c) mi (w1b m c') (w2b m c') (ix2 s d)
      = ∑ e, expert (rX V0 (tokenAt c (ownRow c s))) (rW1 V0 (expertAt c' e)) (rW2 V0 (expertAt c' e)) d * g e := by
  refine experts_apply (x := rX V0 (tokenAt c (ownRow c s))) (a := fun e => rW1 V0 (expertAt c' e))
    (b := fun e => rW2 V0 (expertAt c' e)) ?_ hg ?_ ?_ (fun e => (hr e).1) (fun e => (hr e).2) d
  · exact fun k => (xcV_apply c m s k).trans (A.x c _ k)
  · intro e k f
    constructor
    · rw [w1b_apply, A.w1]
      exact congrArg (fun i => rW1 V0 (expertAt c' e) i f) (Fin.ext (by show 512 * 0 + k.val = k.val; omega))
    · rw [w1b_apply, A.w1]
      exact congrArg (fun i => rW1 V0 (expertAt c' e) i f) (Fin.ext (by show 512 * 1 + k.val = 512 + k.val; omega))
  · intro e f d
    constructor
    · rw [w2b_apply, A.w2]
      exact congrArg (fun i => rW2 V0 (expertAt c' e) i d) (Fin.ext (by show 1024 * 0 + f.val = f.val; omega))
    · rw [w2b_apply, A.w2]
      exact congrArg (fun i => rW2 V0 (expertAt c' e) i d) (Fin.ext (by show 1024 * 1 + f.val = 1024 + f.val; omega))

/-- A home device's finished chunk is the reference's rows of it. -/
theorem done_apply (A : Agree m V0) (hf : ∀ t e, ∃ r : ℝ, rG V0 t e = r) (c : Dev nD) (s : Fin 256) (d : Fin 1024) :
    doneV m c (ix2 s d) = Cert.ReferenceIdeal.Value.res_main_v215 (F := Ideal) V0 (ix2 (tokenAt c (ownRow c s)) d) := by
  obtain ⟨p, q, h⟩ := exists_best fun j => rG V0 (tokenAt c (ownRow c s)) (pos (half (tokenAt c (ownRow c s))) j)
  have e : row (lgA m c) (lgB m c) (ownRow c s)
      = fun j => rG V0 (tokenAt c (ownRow c s)) (pos (half (tokenAt c (ownRow c s))) j) :=
    funext fun j => row_eq A c (ownRow c s) j
  have h' : Best (row (lgA m c) (lgB m c) (ownRow c s)) p q := e ▸ h
  have hfin : ∀ j, ∃ r : ℝ, row (lgA m c) (lgB m c) (ownRow c s) j = r := fun j => by rw [e]; exact hf _ _
  have hq : row (lgA m c) (lgB m c) (ownRow c s) q ≠ ⊥ := by
    obtain ⟨r, hr⟩ := hfin q
    rw [hr]; exact EReal.coe_ne_bot r
  have own := chunk_apply A c c s (mcV m c) _ (mcF_apply (chunkRow c s) h' hq) (fun e => gate_real hfin p q _) d
  have oth := chunk_apply A c (peer 0 c) s (msV m c) _ (msF_apply (chunkRow c s) h' hq) (fun e => gate_real hfin p q _) d
  have sum : doneV m c (ix2 s d) = ownV m c (ix2 s d) + c1V m (peer 0 c) (ix2 s d) := by
    unfold doneV
    pointwise [k0_pay17]
  have c1 : c1V m (peer 0 c) (ix2 s d) = sumF (xcV m c) (msV m c) (w1b m (peer 0 c)) (w2b m (peer 0 c)) (ix2 s d) := by
    unfold c1V
    rw [peer_peer]
    exact sumB_apply _ _ _ _ s d
  rw [sum, c1, oth]
  unfold ownV
  rw [own, result_apply h (hf _) d]
  simp only [expertAt_peer]
  simp only [expertAt_own, ← half_tokenAt c (ownRow c s)]
  rw [← e]
  refine ((Fin.sum_univ_add (a := 4) (b := 4) fun j : Fin 8 =>
    expert (rX V0 (tokenAt c (ownRow c s))) (rW1 V0 (pos (half (tokenAt c (ownRow c s))) j))
      (rW2 V0 (pos (half (tokenAt c (ownRow c s))) j)) d * gate (row (lgA m c) (lgB m c) (ownRow c s)) p q j).symm).trans ?_
  exact sum_pair (fun j => expert (rX V0 (tokenAt c (ownRow c s))) (rW1 V0 (pos (half (tokenAt c (ownRow c s))) j))
      (rW2 V0 (pos (half (tokenAt c (ownRow c s))) j)) d) h.ne _ _

/-! ## The whole block -/

/-- A device's other chunk is the chunk of the device next to it along `z`. -/
theorem token_z : ∀ (c : Dev nD) (s : Fin 256), tokenAt (peer 2 c) (ownRow (peer 2 c) s) = tokenAt c (othRow c s) := by
  have h : ∀ c : Dev nD, (peer 2 c).val / 2 % 2 = c.val / 2 % 2 ∧ 256 * ((peer 2 c).val % 2) = 256 - 256 * (c.val % 2) := by decide
  intro c s
  refine Fin.ext ?_
  show 512 * ((peer 2 c).val / 2 % 2) + (256 * ((peer 2 c).val % 2) + s.val)
    = 512 * (c.val / 2 % 2) + (256 - 256 * (c.val % 2) + s.val)
  rw [(h c).1, (h c).2]

/-- A device's chunk is that of the device next to it along `x`. -/
theorem token_x : ∀ (c : Dev nD) (s : Fin 256), tokenAt (peer 1 c) (ownRow (peer 1 c) s) = tokenAt c (ownRow c s) := by
  have h : ∀ c : Dev nD, (peer 1 c).val / 2 % 2 = c.val / 2 % 2 ∧ (peer 1 c).val % 2 = c.val % 2 := by decide
  intro c s
  refine Fin.ext ?_
  show 512 * ((peer 1 c).val / 2 % 2) + (256 * ((peer 1 c).val % 2) + s.val)
    = 512 * (c.val / 2 % 2) + (256 * (c.val % 2) + s.val)
  rw [(h c).1, (h c).2]

/-- A device's other chunk is that of the device across both `x` and `z`. -/
theorem token_xz : ∀ (c : Dev nD) (s : Fin 256), tokenAt (peer 3 c) (ownRow (peer 3 c) s) = tokenAt c (othRow c s) := by
  have h : ∀ c : Dev nD, (peer 3 c).val / 2 % 2 = c.val / 2 % 2 ∧ 256 * ((peer 3 c).val % 2) = 256 - 256 * (c.val % 2) := by decide
  intro c s
  refine Fin.ext ?_
  show 512 * ((peer 3 c).val / 2 % 2) + (256 * ((peer 3 c).val % 2) + s.val)
    = 512 * (c.val / 2 % 2) + (256 - 256 * (c.val % 2) + s.val)
  rw [(h c).1, (h c).2]

/-- Every row of a block is a row of the one chunk or of the other. -/
theorem row_cases (c : Dev nD) (r : Fin 512) : (∃ s, r = ownRow c s) ∨ ∃ s, r = othRow c s := by
  have hr := r.2
  by_cases h : r.val / 256 = c.val % 2
  · exact Or.inl ⟨⟨r.val - 256 * (c.val % 2), by omega⟩, Fin.ext (by show r.val = 256 * (c.val % 2) + (r.val - 256 * (c.val % 2)); omega)⟩
  · exact Or.inr ⟨⟨r.val - (256 - 256 * (c.val % 2)), by omega⟩,
      Fin.ext (by show r.val = 256 - 256 * (c.val % 2) + (r.val - (256 - 256 * (c.val % 2))); omega)⟩

/-- The narrowed copy of a finished chunk is the chunk. -/
theorem ds_apply (c : Dev nD) (i : S256x1024.Idx) : dsV m c i = doneV m c i := by
  obtain ⟨s, d, rfl⟩ : ∃ s d, i = ix2 s d := ⟨i 0, i 1, eq_ix2 i⟩
  unfold dsV doneV
  pointwise [k0_pay18, k0_pay17]

/-- A device's result block, at one element: the reference's at the token. -/
theorem out_apply (A : Agree m V0) (hf : ∀ t e, ∃ r : ℝ, rG V0 t e = r) (c : Dev nD) (r : Fin 512) (d : Fin 1024) :
    outV m c (ix2 r d) = Cert.ReferenceIdeal.Value.res_main_v215 (F := Ideal) V0 (ix2 (tokenAt c r) d) := by
  unfold outV
  split
  · rcases row_cases c r with ⟨s, rfl⟩ | ⟨s, rfl⟩
    · rw [outF_own]
      exact done_apply A hf c s d
    · rw [outF_oth, ← token_z, ← done_apply A hf]
      exact ds_apply _ _
  · rcases row_cases c r with ⟨s, rfl⟩ | ⟨s, rfl⟩
    · rw [outF_own, ← token_x, ← done_apply A hf]
      exact ds_apply _ _
    · rw [outF_oth, ← token_xz, ← done_apply A hf]
      exact ds_apply _ _

end Cert.Value

end
-- ==== Proof.Value.Algebraic.lean ====
/- The value claim: from finite gates' inputs, the eight devices end with their blocks of the reference's result. -/
module

public import proofs.«01_k».proof.Proof.Ideal.Launch
public import proofs.«01_k».proof.Proof.Gen.ReferenceIdeal
public import proofs.«01_k».proof.Proof.Gen.ReferenceIdeal.Run
public import proofs.«01_k».proof.Proof.Value.Equation

@[expose] public section

noncomputable section

namespace Cert.Value

open Cert.KernelIdeal Cert.KernelIdeal.Gen
open Idealize.ShloMosaic Idealize.ShloMosaic.StableHlo Idealize.SL Idealize.SL.Sem
open Idealize.ShloMosaic.TcCoe
open Cert.KernelIdealRun
open scoped BigOperators

/-- The side conditions of the precondition, at one device's shapes. -/
theorem facts_pre : Cert.Pre_gates_finite_KernelIdeal.Facts := ⟨by decide, by decide⟩

/-- The side conditions of the precondition, at the whole arrays' shapes. -/
theorem facts_pre_whole : Cert.Pre_gates_finite_ReferenceIdeal.Facts := ⟨by decide, by decide⟩

/-- The word the precondition compares with is infinity. -/
theorem inf_word : (FloatOps.ofBits (F := Ideal) .f32 0x7F800000#32 : EReal) = ⊤ := by
  show Ideal.ofBits .f32 0x7F800000#32 = ⊤
  simp [Ideal.ofBits, Ideal.ieee]

/-- A value whose magnitude is below infinity is a real. -/
theorem real_of_abs {v : EReal} (h : max v (-v) < ⊤) : ∃ r : ℝ, v = r := by
  induction v with
  | bot => simp at h
  | coe r => exact ⟨r, rfl⟩
  | top => simp at h

/-- A device's tokens and router columns are reals, by the precondition. -/
theorem pre_real {m : (ℓ : Loc nD τ sig) → Buf (Elt Ideal) ℓ}
    (h : Cert.Pre_KernelIdeal_gates_finite_KernelIdeal (hPre_gates_finite_KernelIdeal := facts_pre) m) (c : Dev nD) :
    (∀ (r : Fin 512) (k : Fin 1024), ∃ v : ℝ, (show EReal from m ((c : Thread nD τ).loc main_arg0) (ix2 r k)) = (v : EReal))
      ∧ ∀ (k : Fin 1024) (e : Fin 4), ∃ v : ℝ, (show EReal from m ((c : Thread nD τ).loc main_arg1) (ix2 k e)) = (v : EReal) := by
  refine ⟨fun r k => real_of_abs ?_, fun k e => real_of_abs ?_⟩
  · exact ((Ideal.cmp_olt_eq_one _ _).mp (congrFun (h c).1 (ix2 r k))).trans_eq inf_word
  · exact ((Ideal.cmp_olt_eq_one _ _).mp (congrFun (h c).2 (ix2 k e))).trans_eq inf_word

/-- A finite sum of products of reals is a real. -/
theorem real_sum {n : ℕ} (a b : Fin n → EReal) (ha : ∀ k, ∃ r : ℝ, a k = r) (hb : ∀ k, ∃ r : ℝ, b k = r) :
    ∃ r : ℝ, ∑ k, a k * b k = r := by
  choose u hu using ha
  choose v hv using hb
  refine ⟨∑ k, u k * v k, ?_⟩
  refine (Finset.sum_congr rfl fun k _ => ?_).trans (map_sum (⟨⟨fun r : ℝ => (r : EReal), EReal.coe_zero⟩, EReal.coe_add⟩ : ℝ →+ EReal) _ _).symm
  rw [hu, hv]
  exact (EReal.coe_mul _ _).symm

/-- Every token is some device's. -/
theorem token_surj (t : Fin 1024) : ∃ (c : Dev nD) (r : Fin 512), tokenAt c r = t := by
  have ht := t.2
  by_cases h : t.val < 512
  · exact ⟨0, ⟨t.val, h⟩, Fin.ext (by show 512 * (0 / 2 % 2) + t.val = t.val; omega)⟩
  · exact ⟨2, ⟨t.val - 512, by omega⟩, Fin.ext (by show 512 * (2 / 2 % 2) + (t.val - 512) = t.val; omega)⟩

/-- Every expert is some device's. -/
theorem expert_surj : ∀ e : Fin 8, ∃ (c : Dev nD) (e' : Fin 4), expertAt c e' = e := by decide

/-- The kernel's value claim. -/
theorem algebraic : Cert.algebraic_KernelIdeal_ReferenceIdeal_pre_gates_finite_KernelIdeal (hKernelIdeal := Cert.KernelIdeal.Gen.facts)
    (hReferenceIdeal := Cert.ReferenceIdeal.Gen.facts) (hPre_gates_finite_KernelIdeal := facts_pre) := by
  intro m g m' g' hpre hargs
  have A : Agree m (launchContents m' 0) :=
    { x := fun c r k => (congrFun (hargs c).1 (ix2 r k)).trans (block_rows c _ r k)
      r := fun c k e => (congrFun (hargs c).2.1 (ix2 k e)).trans (block_cols c _ k e)
      w1 := fun c e k f => (congrFun (hargs c).2.2.1 (ix3 e k f)).trans (block_w1 c _ e k f)
      w2 := fun c e f d => (congrFun (hargs c).2.2.2 (ix3 e f d)).trans (block_w2 c _ e f d) }
  have hf : ∀ t e, ∃ r : ℝ, rG (launchContents m' 0) t e = r := by
    intro t e
    obtain ⟨c, r, rfl⟩ := token_surj t
    obtain ⟨c', e', rfl⟩ := expert_surj e
    refine real_sum _ _ (fun k => ?_) (fun k => ?_)
    · rw [← A.x]; exact (pre_real hpre c).1 r k
    · rw [← A.r]; exact (pre_real hpre c').2 k e'
  refine ⟨Cert.ReferenceIdeal.Value.res_main_v215 (F := Ideal) (launchContents m' 0), ?_, ?_⟩
  · refine (θ_run Cert.KernelIdeal.defs _ _).mono (fun r h c => ⟨(h.1 c).1.trans ?_, (h.1 c).2⟩) (run_main m g)
    funext i
    obtain ⟨s, d, rfl⟩ : ∃ (s : Fin 512) (d : Fin 1024), i = ix2 s d := ⟨i 0, i 1, eq_ix2 i⟩
    exact (out_apply A hf c s d).trans (block_rows c _ s d).symm
  · exact (θ_run Cert.ReferenceIdeal.defs _ _).mono (fun r h => h 0) (Cert.ReferenceIdeal.Value.run m' g')

end Cert.Value

end
-- ==== Proof.lean ====
/- The proof of the whole claim. The runs of the kernel are in Proof/Ideal (over extended reals) and Proof/Bits (over words):
   the same modules, once for each reading of the floats. The frames follow from them in Proof/Frames.lean, the value claim
   in Proof/Value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Launch
public import proofs.«01_k».proof.Proof.Bits.Launch
public import proofs.«01_k».proof.Proof.Frames
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- The whole claim: the frames, of the kernel's two readings and of the reference (the ones under the precondition are those
    without it), the idealization, and the kernel's result against the reference's. -/
theorem claim : Cert.Claim := ⟨Cert.Kernel.Gen.facts, Cert.KernelIdeal.Gen.facts, Cert.ReferenceIdeal.Gen.facts,
  Cert.Value.facts_pre, Cert.Value.facts_pre_whole,
  Cert.Frames.kernel, Cert.Frames.kernelIdeal, fun m g _ => Cert.Frames.kernelIdeal m g trivial,
  Cert.Frames.referenceIdeal, fun m g _ => Cert.Frames.referenceIdeal m g trivial, trivial, Cert.Value.algebraic⟩

end Cert.Proof

end
